-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S4x200 : Shape := ⟨2, ![4, 200]⟩
abbrev S1000000x64 : Shape := ⟨2, ![1000000, 64]⟩
abbrev S64x64 : Shape := ⟨2, ![64, 64]⟩
abbrev S64 : Shape := ⟨1, ![64]⟩
abbrev S401x64 : Shape := ⟨2, ![401, 64]⟩
abbrev S64x256 : Shape := ⟨2, ![64, 256]⟩
abbrev S_ : Shape := ⟨0, ![]⟩

class Facts : Prop where
  bcast_S_S4x200 : S_.BroadcastsInDim S4x200 (![] : Fin 0 → Fin S4x200.rank)
  reducesTo_S4x200_S_d0_1 : S4x200.ReducesTo [0, 1] S_
  h_S_ : 0 < S_.numel

variable [Facts]

def fn_part1 {F : FTy → Type} [FloatOps F] (main_arg2 : IVec S4x200 32) (main_v12 : IVec S_ 1) (main_v14 : IVec S4x200 1) (main_v15 : IVec S4x200 32) : IVec S_ 1 :=
  let main_v16 : IVec S4x200 1 := cmpi .slt main_arg2 main_v15
  let main_v17 : IVec S4x200 1 := andi main_v14 main_v16
  let main_c_7 : IVec S_ 1 := constantI S_ 1 1#1
  let main_v18 : IVec S_ 1 := (fun x v => Host.reduce IntOp.andi x v reducesTo_S4x200_S_d0_1 h_S_) main_v17 main_c_7
  let main_v19 : IVec S_ 1 := andi main_v12 main_v18
  main_v19

def fn {F : FTy → Type} [FloatOps F] (main_arg0 : IVec S4x200 32) (main_arg1 : IVec S4x200 32) (main_arg2 : IVec S4x200 32) (main_arg3 : FVec F S1000000x64 .f32) (main_arg4 : FVec F S64x64 .f32) (main_arg5 : FVec F S64 .f32) (main_arg6 : FVec F S64 .f32) (main_arg7 : FVec F S64 .f32) (main_arg8 : FVec F S401x64 .f32) (main_arg9 : FVec F S64x256 .f32) (main_arg10 : FVec F S64 .f32) : IVec S_ 1 :=
  let main_c : IVec S_ 32 := constantI S_ 32 0#32
  let main_v0 : IVec S4x200 32 := broadcastInDim S4x200 ![] bcast_S_S4x200 main_c
  let main_v1 : IVec S4x200 1 := cmpi .sge main_arg0 main_v0
  let main_c_0 : IVec S_ 32 := constantI S_ 32 1000000#32
  let main_v2 : IVec S4x200 32 := broadcastInDim S4x200 ![] bcast_S_S4x200 main_c_0
  let main_v3 : IVec S4x200 1 := cmpi .slt main_arg0 main_v2
  let main_v4 : IVec S4x200 1 := andi main_v1 main_v3
  let main_c_1 : IVec S_ 1 := constantI S_ 1 1#1
  let main_v5 : IVec S_ 1 := (fun x v => Host.reduce IntOp.andi x v reducesTo_S4x200_S_d0_1 h_S_) main_v4 main_c_1
  let main_c_2 : IVec S_ 32 := constantI S_ 32 0#32
  let main_v6 : IVec S4x200 32 := broadcastInDim S4x200 ![] bcast_S_S4x200 main_c_2
  let main_v7 : IVec S4x200 1 := cmpi .sge main_arg1 main_v6
  let main_c_3 : IVec S_ 32 := constantI S_ 32 200#32
  let main_v8 : IVec S4x200 32 := broadcastInDim S4x200 ![] bcast_S_S4x200 main_c_3
  let main_v9 : IVec S4x200 1 := cmpi .slt main_arg1 main_v8
  let main_v10 : IVec S4x200 1 := andi main_v7 main_v9
  let main_c_4 : IVec S_ 1 := constantI S_ 1 1#1
  let main_v11 : IVec S_ 1 := (fun x v => Host.reduce IntOp.andi x v reducesTo_S4x200_S_d0_1 h_S_) main_v10 main_c_4
  let main_v12 : IVec S_ 1 := andi main_v5 main_v11
  let main_c_5 : IVec S_ 32 := constantI S_ 32 0#32
  let main_v13 : IVec S4x200 32 := broadcastInDim S4x200 ![] bcast_S_S4x200 main_c_5
  let main_v14 : IVec S4x200 1 := cmpi .sge main_arg2 main_v13
  let main_c_6 : IVec S_ 32 := constantI S_ 32 200#32
  let main_v15 : IVec S4x200 32 := broadcastInDim S4x200 ![] bcast_S_S4x200 main_c_6
  fn_part1 (F := F) main_arg2 main_v12 main_v14 main_v15
-- ==== Kernel.lean ====
abbrev S4x200 : Shape := ⟨2, ![4, 200]⟩
abbrev S1000000x64 : Shape := ⟨2, ![1000000, 64]⟩
abbrev S64x64 : Shape := ⟨2, ![64, 64]⟩
abbrev S64 : Shape := ⟨1, ![64]⟩
abbrev S401x64 : Shape := ⟨2, ![401, 64]⟩
abbrev S64x256 : Shape := ⟨2, ![64, 256]⟩
abbrev S800 : Shape := ⟨1, ![800]⟩
abbrev S_ : Shape := ⟨0, ![]⟩
abbrev S1024 : Shape := ⟨1, ![1024]⟩
abbrev S1024x64 : Shape := ⟨2, ![1024, 64]⟩
abbrev S32 : Shape := ⟨1, ![32]⟩
abbrev S32x64 : Shape := ⟨2, ![32, 64]⟩
abbrev S16 : Shape := ⟨1, ![16]⟩
abbrev S1x64 : Shape := ⟨2, ![1, 64]⟩
abbrev S1024x1 : Shape := ⟨2, ![1024, 1]⟩
abbrev S800x64 : Shape := ⟨2, ![800, 64]⟩
abbrev S4x200x64 : Shape := ⟨3, ![4, 200, 64]⟩
abbrev S1604x64 : Shape := ⟨2, ![1604, 64]⟩
abbrev S4x208 : Shape := ⟨2, ![4, 208]⟩
abbrev S832 : Shape := ⟨1, ![832]⟩
abbrev S102656 : Shape := ⟨1, ![102656]⟩
abbrev S4x200x200x64 : Shape := ⟨4, ![4, 200, 200, 64]⟩
abbrev S208x64 : Shape := ⟨2, ![208, 64]⟩
abbrev S200x64 : Shape := ⟨2, ![200, 64]⟩
abbrev S1x1x200x64 : Shape := ⟨4, ![1, 1, 200, 64]⟩

abbrev nBuf : Table → Nat
  | .hbm => 34
  | .local .tc .vmem => 10
  | .local .scVector .vmem => 6
  | _ => 0

abbrev bufTy : (tb : Table) → Fin (nBuf tb) → BufTy
  | .hbm, ⟨0, _⟩ => ⟨S4x200, .i32⟩
  | .hbm, ⟨1, _⟩ => ⟨S4x200, .i32⟩
  | .hbm, ⟨2, _⟩ => ⟨S4x200, .i32⟩
  | .hbm, ⟨3, _⟩ => ⟨S1000000x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S401x64, .f32⟩
  | .hbm, ⟨9, _⟩ => ⟨S64x256, .f32⟩
  | .hbm, ⟨10, _⟩ => ⟨S64, .f32⟩
  | .hbm, ⟨11, _⟩ => ⟨S800, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1024x64, .f32⟩
  | .hbm, ⟨20, _⟩ => ⟨S800x64, .f32⟩
  | .hbm, ⟨21, _⟩ => ⟨S4x200x64, .f32⟩
  | .hbm, ⟨22, _⟩ => ⟨S1x64, .f32⟩
  | .hbm, ⟨23, _⟩ => ⟨S1604x64, .f32⟩
  | .hbm, ⟨24, _⟩ => ⟨S_, .i32⟩
  | .hbm, ⟨25, _⟩ => ⟨S_, .i32⟩
  | .hbm, ⟨26, _⟩ => ⟨S4x208, .i32⟩
  | .hbm, ⟨27, _⟩ => ⟨S832, .i32⟩
  | .hbm, ⟨28, _⟩ => ⟨S_, .i32⟩
  | .hbm, ⟨29, _⟩ => ⟨S_, .i32⟩
  | .hbm, ⟨30, _⟩ => ⟨S4x208, .i32⟩
  | .hbm, ⟨31, _⟩ => ⟨S832, .i32⟩
  | .hbm, ⟨32, _⟩ => ⟨S102656, .f32⟩
  | .hbm, ⟨33, _⟩ => ⟨S4x200x200x64, .f32⟩
  | .local .tc .vmem, ⟨0, _⟩ => ⟨S1024x64, .f32⟩
  | .local .tc .vmem, ⟨1, _⟩ => ⟨S64x64, .f32⟩
  | .local .tc .vmem, ⟨2, _⟩ => ⟨S1x64, .f32⟩
  | .local .tc .vmem, ⟨3, _⟩ => ⟨S1x64, .f32⟩
  | .local .tc .vmem, ⟨4, _⟩ => ⟨S1x64, .f32⟩
  | .local .tc .vmem, ⟨5, _⟩ => ⟨S1024x64, .f32⟩
  | .local .tc .vmem, ⟨6, _⟩ => ⟨S401x64, .f32⟩
  | .local .tc .vmem, ⟨7, _⟩ => ⟨S64x256, .f32⟩
  | .local .tc .vmem, ⟨8, _⟩ => ⟨S1x64, .f32⟩
  | .local .tc .vmem, ⟨9, _⟩ => ⟨S1604x64, .f32⟩
  | .local .scVector .vmem, ⟨0, _⟩ => ⟨S32, .i32⟩
  | .local .scVector .vmem, ⟨1, _⟩ => ⟨S32x64, .f32⟩
  | .local .scVector .vmem, ⟨2, _⟩ => ⟨S102656, .f32⟩
  | .local .scVector .vmem, ⟨3, _⟩ => ⟨S832, .i32⟩
  | .local .scVector .vmem, ⟨4, _⟩ => ⟨S832, .i32⟩
  | .local .scVector .vmem, ⟨5, _⟩ => ⟨S208x64, .f32⟩
  | _, _ => ⟨S4x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_call2_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_arg3_scv : Ref sig .scVector := ⟨.hbm, 3, rfl⟩
abbrev main_v1_scv : Ref sig .scVector := ⟨.hbm, 14, rfl⟩
abbrev main_v2_scv : Ref sig .scVector := ⟨.hbm, 15, rfl⟩
abbrev main_v15_scv : Ref sig .scVector := ⟨.hbm, 32, rfl⟩
abbrev main_v12_scv : Ref sig .scVector := ⟨.hbm, 27, rfl⟩
abbrev main_v14_scv : Ref sig .scVector := ⟨.hbm, 31, rfl⟩
abbrev main_v16_scv : Ref sig .scVector := ⟨.hbm, 33, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc0_scratch0 : Ref sig .scVector := ⟨.vmem, 0, rfl⟩
abbrev cc0_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc3_scratch3 : Ref sig .scVector := ⟨.vmem, 5, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc2_sem0_0 : DmaSem sig := 9
abbrev cc2_sem1_0 : DmaSem sig := 10
abbrev cc2_sem2_0 : DmaSem sig := 11
abbrev cc2_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
@[reducible] def k0_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩

def k0_chk1 (v4 : IVec S16 32) : Prop :=
  (∀ a x, ((![v4] : Fin 1 → IVec S16 32) a x).toNat < S32.size a)
theorem k0_idx1_inb : ∀ (v4 : IVec S16 32) (k0_hw1 : k0_chk1 v4), ∀ a x, ((![v4] : Fin 1 → IVec S16 32) a x).toNat < S32.size a := fun v4 k0_hw1 => k0_hw1
def k0_off2 (k0_t1 : Fin k0_t1_loop.trips) : Fin 2 → Nat :=
  let c0_i32_0 : BitVec 32 := 0#32
  let c1_i32 : BitVec 32 := 1#32
  let arg7 : BitVec 32 := Scf.iv c0_i32_0 c1_i32 k0_t1
  let c0_i32_3_r1 : BitVec 32 := 0#32
  ![arg7.toNat, 0]
def k0_off3 (v11 : BitVec 32) : Fin 2 → Nat :=
  let c0_i32_4_r1 : BitVec 32 := 0#32
  ![v11.toNat, 0]

def k0_chk2 (v11 : BitVec 32) : Prop :=
  (∀ a, (k0_off3 v11) a + S1x64.size a ≤ S1000000x64.size a)
theorem k0_off3_inb : ∀ (v11 : BitVec 32) (k0_hw2 : k0_chk2 v11), ∀ a, (k0_off3 v11) a + S1x64.size a ≤ S1000000x64.size a := fun v11 k0_hw2 => k0_hw2

def k0_off4 (k0_t1 : Fin k0_t1_loop.trips) : Fin 2 → Nat :=
  let c0_i32_0 : BitVec 32 := 0#32
  let c1_i32 : BitVec 32 := 1#32
  let arg7 : BitVec 32 := Scf.iv c0_i32_0 c1_i32 k0_t1
  let c0_i32_5_r1 : BitVec 32 := 0#32
  ![arg7.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r2 : BitVec 32 := 0#32
  ![v2.toNat, 0]
abbrev grid1 : Pipeline.Grid := .none

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := .none

abbrev stage2_0 : Fin 1 → Memref sig .tc .vmem S401x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1604x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := ⟨2, ![2, 16], ![false, false]⟩

@[reducible] def k3_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩

def k3_chk1 (v27 : IVec S16 32) : Prop :=
  (∀ a x, ((![v27] : Fin 1 → IVec S16 32) a x).toNat < S832.size a) ∧
  (∀ a x, ((![v27] : Fin 1 → IVec S16 32) a x).toNat < S832.size a)
theorem k3_idx1_inb : ∀ (v27 : IVec S16 32) (k3_hw1 : k3_chk1 v27), ∀ a x, ((![v27] : Fin 1 → IVec S16 32) a x).toNat < S832.size a := fun v27 k3_hw1 => k3_hw1.1
theorem k3_idx2_inb : ∀ (v27 : IVec S16 32) (k3_hw1 : k3_chk1 v27), ∀ a x, ((![v27] : Fin 1 → IVec S16 32) a x).toNat < S832.size a := fun v27 k3_hw1 => k3_hw1.2
@[reducible] def k3_t2_loop : Scf.Loop 32 :=
  let c0_i32_11 : BitVec 32 := 0#32
  let c13_i32 : BitVec 32 := 13#32
  let v30 : BitVec 32 := Scalar.addi c0_i32_11 c13_i32
  let c1_i32_12 : BitVec 32 := 1#32
  ⟨c0_i32_11, v30, c1_i32_12⟩
def k3_off1 (i : grid3.Coords) (k3_t1 : Fin k3_t1_loop.trips) (k3_t2 : Fin k3_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32_2 : BitVec 32 := 25#32
  let v4 : BitVec 32 := Scalar.muli v1 c25_i32_2
  let c0_i32_0 : BitVec 32 := 0#32
  let c1_i32 : BitVec 32 := 1#32
  let arg10 : BitVec 32 := Scf.iv c0_i32_0 c1_i32 k3_t1
  let v5 : BitVec 32 := Scalar.addi v4 arg10
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c200_i32 : BitVec 32 := 200#32
  let c0_i32_5 : BitVec 32 := 0#32
  let v12 : BitVec 1 := Scalar.cmpi .sgt c200_i32 c0_i32_5
  let v13 : BitVec 32 := Scalar.extui v12
  let c0_i32_6 : BitVec 32 := 0#32
  let v14 : BitVec 1 := Scalar.cmpi .slt c200_i32 c0_i32_6
  let v15 : BitVec 32 := Scalar.extui v14
  let v16 : BitVec 32 := Scalar.subi v13 v15
  let v17 : BitVec 1 := Scalar.cmpi .ne v11 v16
  let v18 : BitVec 32 := Scalar.remsi v5 c200_i32
  let c0_i32_7 : BitVec 32 := 0#32
  let v19 : BitVec 1 := Scalar.cmpi .ne v18 c0_i32_7
  let v20 : BitVec 1 := Scalar.andi v17 v19
  let v6 : BitVec 32 := Scalar.divsi v5 c200_i32
  let c1_i32_8 : BitVec 32 := 1#32
  let v21 : BitVec 32 := Scalar.subi v6 c1_i32_8
  let v22 : BitVec 32 := Scalar.select v20 v21 v6
  let c208_i32 : BitVec 32 := 208#32
  let v25 : BitVec 32 := Scalar.muli v22 c208_i32
  let c0_i32_11 : BitVec 32 := 0#32
  let c1_i32_12 : BitVec 32 := 1#32
  let arg11 : BitVec 32 := Scf.iv c0_i32_11 c1_i32_12 k3_t2
  let c16_i32 : BitVec 32 := 16#32
  let v31 : BitVec 32 := Scalar.muli arg11 c16_i32
  let v32 : BitVec 32 := Scalar.addi v25 v31
  let v33 : Index := Scalar.indexCast v32
  ![v33.toNat]

def k3_chk2 (v61 : IVec S16 32) : Prop :=
  (∀ a x, ((![v61] : Fin 1 → IVec S16 32) a x).toNat < S102656.size a)
theorem k3_idx3_inb : ∀ (v61 : IVec S16 32) (k3_hw2 : k3_chk2 v61), ∀ a x, ((![v61] : Fin 1 → IVec S16 32) a x).toNat < S102656.size a := fun v61 k3_hw2 => k3_hw2

def k3_chk3 (v64 : IVec S16 32) : Prop :=
  (∀ a x, ((![v64] : Fin 1 → IVec S16 32) a x).toNat < S102656.size a)
theorem k3_idx4_inb : ∀ (v64 : IVec S16 32) (k3_hw3 : k3_chk3 v64), ∀ a x, ((![v64] : Fin 1 → IVec S16 32) a x).toNat < S102656.size a := fun v64 k3_hw3 => k3_hw3

def k3_chk4 (v67 : IVec S16 32) : Prop :=
  (∀ a x, ((![v67] : Fin 1 → IVec S16 32) a x).toNat < S102656.size a)
theorem k3_idx5_inb : ∀ (v67 : IVec S16 32) (k3_hw4 : k3_chk4 v67), ∀ a x, ((![v67] : Fin 1 → IVec S16 32) a x).toNat < S102656.size a := fun v67 k3_hw4 => k3_hw4

def k3_chk5 (v70 : IVec S16 32) : Prop :=
  (∀ a x, ((![v70] : Fin 1 → IVec S16 32) a x).toNat < S102656.size a)
theorem k3_idx6_inb : ∀ (v70 : IVec S16 32) (k3_hw5 : k3_chk5 v70), ∀ a x, ((![v70] : Fin 1 → IVec S16 32) a x).toNat < S102656.size a := fun v70 k3_hw5 => k3_hw5

def k3_chk6 (v59 : IVec S16 32) (v77 : IVec S16 32) : Prop :=
  (∀ a x, ((![v59, v77] : Fin 2 → IVec S16 32) a x).toNat < S208x64.size a)
theorem k3_idx7_inb : ∀ (v59 : IVec S16 32) (v77 : IVec S16 32) (k3_hw6 : k3_chk6 v59 v77), ∀ a x, ((![v59, v77] : Fin 2 → IVec S16 32) a x).toNat < S208x64.size a := fun v59 v77 k3_hw6 => k3_hw6

def k3_chk7 (v79 : IVec S16 32) : Prop :=
  (∀ a x, ((![v79] : Fin 1 → IVec S16 32) a x).toNat < S102656.size a)
theorem k3_idx8_inb : ∀ (v79 : IVec S16 32) (k3_hw7 : k3_chk7 v79), ∀ a x, ((![v79] : Fin 1 → IVec S16 32) a x).toNat < S102656.size a := fun v79 k3_hw7 => k3_hw7

def k3_chk8 (v82 : IVec S16 32) : Prop :=
  (∀ a x, ((![v82] : Fin 1 → IVec S16 32) a x).toNat < S102656.size a)
theorem k3_idx9_inb : ∀ (v82 : IVec S16 32) (k3_hw8 : k3_chk8 v82), ∀ a x, ((![v82] : Fin 1 → IVec S16 32) a x).toNat < S102656.size a := fun v82 k3_hw8 => k3_hw8

def k3_chk9 (v85 : IVec S16 32) : Prop :=
  (∀ a x, ((![v85] : Fin 1 → IVec S16 32) a x).toNat < S102656.size a)
theorem k3_idx10_inb : ∀ (v85 : IVec S16 32) (k3_hw9 : k3_chk9 v85), ∀ a x, ((![v85] : Fin 1 → IVec S16 32) a x).toNat < S102656.size a := fun v85 k3_hw9 => k3_hw9

def k3_chk10 (v88 : IVec S16 32) : Prop :=
  (∀ a x, ((![v88] : Fin 1 → IVec S16 32) a x).toNat < S102656.size a)
theorem k3_idx11_inb : ∀ (v88 : IVec S16 32) (k3_hw10 : k3_chk10 v88), ∀ a x, ((![v88] : Fin 1 → IVec S16 32) a x).toNat < S102656.size a := fun v88 k3_hw10 => k3_hw10

def k3_chk11 (v59 : IVec S16 32) (v95 : IVec S16 32) : Prop :=
  (∀ a x, ((![v59, v95] : Fin 2 → IVec S16 32) a x).toNat < S208x64.size a)
theorem k3_idx12_inb : ∀ (v59 : IVec S16 32) (v95 : IVec S16 32) (k3_hw11 : k3_chk11 v59 v95), ∀ a x, ((![v59, v95] : Fin 2 → IVec S16 32) a x).toNat < S208x64.size a := fun v59 v95 k3_hw11 => k3_hw11

def k3_chk12 (v97 : IVec S16 32) : Prop :=
  (∀ a x, ((![v97] : Fin 1 → IVec S16 32) a x).toNat < S102656.size a)
theorem k3_idx13_inb : ∀ (v97 : IVec S16 32) (k3_hw12 : k3_chk12 v97), ∀ a x, ((![v97] : Fin 1 → IVec S16 32) a x).toNat < S102656.size a := fun v97 k3_hw12 => k3_hw12

def k3_chk13 (v100 : IVec S16 32) : Prop :=
  (∀ a x, ((![v100] : Fin 1 → IVec S16 32) a x).toNat < S102656.size a)
theorem k3_idx14_inb : ∀ (v100 : IVec S16 32) (k3_hw13 : k3_chk13 v100), ∀ a x, ((![v100] : Fin 1 → IVec S16 32) a x).toNat < S102656.size a := fun v100 k3_hw13 => k3_hw13

def k3_chk14 (v103 : IVec S16 32) : Prop :=
  (∀ a x, ((![v103] : Fin 1 → IVec S16 32) a x).toNat < S102656.size a)
theorem k3_idx15_inb : ∀ (v103 : IVec S16 32) (k3_hw14 : k3_chk14 v103), ∀ a x, ((![v103] : Fin 1 → IVec S16 32) a x).toNat < S102656.size a := fun v103 k3_hw14 => k3_hw14

def k3_chk15 (v106 : IVec S16 32) : Prop :=
  (∀ a x, ((![v106] : Fin 1 → IVec S16 32) a x).toNat < S102656.size a)
theorem k3_idx16_inb : ∀ (v106 : IVec S16 32) (k3_hw15 : k3_chk15 v106), ∀ a x, ((![v106] : Fin 1 → IVec S16 32) a x).toNat < S102656.size a := fun v106 k3_hw15 => k3_hw15

def k3_chk16 (v59 : IVec S16 32) (v113 : IVec S16 32) : Prop :=
  (∀ a x, ((![v59, v113] : Fin 2 → IVec S16 32) a x).toNat < S208x64.size a)
theorem k3_idx17_inb : ∀ (v59 : IVec S16 32) (v113 : IVec S16 32) (k3_hw16 : k3_chk16 v59 v113), ∀ a x, ((![v59, v113] : Fin 2 → IVec S16 32) a x).toNat < S208x64.size a := fun v59 v113 k3_hw16 => k3_hw16

def k3_chk17 (v115 : IVec S16 32) : Prop :=
  (∀ a x, ((![v115] : Fin 1 → IVec S16 32) a x).toNat < S102656.size a)
theorem k3_idx18_inb : ∀ (v115 : IVec S16 32) (k3_hw17 : k3_chk17 v115), ∀ a x, ((![v115] : Fin 1 → IVec S16 32) a x).toNat < S102656.size a := fun v115 k3_hw17 => k3_hw17

def k3_chk18 (v118 : IVec S16 32) : Prop :=
  (∀ a x, ((![v118] : Fin 1 → IVec S16 32) a x).toNat < S102656.size a)
theorem k3_idx19_inb : ∀ (v118 : IVec S16 32) (k3_hw18 : k3_chk18 v118), ∀ a x, ((![v118] : Fin 1 → IVec S16 32) a x).toNat < S102656.size a := fun v118 k3_hw18 => k3_hw18

def k3_chk19 (v121 : IVec S16 32) : Prop :=
  (∀ a x, ((![v121] : Fin 1 → IVec S16 32) a x).toNat < S102656.size a)
theorem k3_idx20_inb : ∀ (v121 : IVec S16 32) (k3_hw19 : k3_chk19 v121), ∀ a x, ((![v121] : Fin 1 → IVec S16 32) a x).toNat < S102656.size a := fun v121 k3_hw19 => k3_hw19

def k3_chk20 (v124 : IVec S16 32) : Prop :=
  (∀ a x, ((![v124] : Fin 1 → IVec S16 32) a x).toNat < S102656.size a)
theorem k3_idx21_inb : ∀ (v124 : IVec S16 32) (k3_hw20 : k3_chk20 v124), ∀ a x, ((![v124] : Fin 1 → IVec S16 32) a x).toNat < S102656.size a := fun v124 k3_hw20 => k3_hw20

def k3_chk21 (v59 : IVec S16 32) (v131 : IVec S16 32) : Prop :=
  (∀ a x, ((![v59, v131] : Fin 2 → IVec S16 32) a x).toNat < S208x64.size a)
theorem k3_idx22_inb : ∀ (v59 : IVec S16 32) (v131 : IVec S16 32) (k3_hw21 : k3_chk21 v59 v131), ∀ a x, ((![v59, v131] : Fin 2 → IVec S16 32) a x).toNat < S208x64.size a := fun v59 v131 k3_hw21 => k3_hw21

def k3_chk22 (v133 : IVec S16 32) : Prop :=
  (∀ a x, ((![v133] : Fin 1 → IVec S16 32) a x).toNat < S102656.size a)
theorem k3_idx23_inb : ∀ (v133 : IVec S16 32) (k3_hw22 : k3_chk22 v133), ∀ a x, ((![v133] : Fin 1 → IVec S16 32) a x).toNat < S102656.size a := fun v133 k3_hw22 => k3_hw22

def k3_chk23 (v136 : IVec S16 32) : Prop :=
  (∀ a x, ((![v136] : Fin 1 → IVec S16 32) a x).toNat < S102656.size a)
theorem k3_idx24_inb : ∀ (v136 : IVec S16 32) (k3_hw23 : k3_chk23 v136), ∀ a x, ((![v136] : Fin 1 → IVec S16 32) a x).toNat < S102656.size a := fun v136 k3_hw23 => k3_hw23

def k3_chk24 (v139 : IVec S16 32) : Prop :=
  (∀ a x, ((![v139] : Fin 1 → IVec S16 32) a x).toNat < S102656.size a)
theorem k3_idx25_inb : ∀ (v139 : IVec S16 32) (k3_hw24 : k3_chk24 v139), ∀ a x, ((![v139] : Fin 1 → IVec S16 32) a x).toNat < S102656.size a := fun v139 k3_hw24 => k3_hw24

def k3_chk25 (v142 : IVec S16 32) : Prop :=
  (∀ a x, ((![v142] : Fin 1 → IVec S16 32) a x).toNat < S102656.size a)
theorem k3_idx26_inb : ∀ (v142 : IVec S16 32) (k3_hw25 : k3_chk25 v142), ∀ a x, ((![v142] : Fin 1 → IVec S16 32) a x).toNat < S102656.size a := fun v142 k3_hw25 => k3_hw25

def k3_chk26 (v59 : IVec S16 32) (v149 : IVec S16 32) : Prop :=
  (∀ a x, ((![v59, v149] : Fin 2 → IVec S16 32) a x).toNat < S208x64.size a)
theorem k3_idx27_inb : ∀ (v59 : IVec S16 32) (v149 : IVec S16 32) (k3_hw26 : k3_chk26 v59 v149), ∀ a x, ((![v59, v149] : Fin 2 → IVec S16 32) a x).toNat < S208x64.size a := fun v59 v149 k3_hw26 => k3_hw26

def k3_chk27 (v151 : IVec S16 32) : Prop :=
  (∀ a x, ((![v151] : Fin 1 → IVec S16 32) a x).toNat < S102656.size a)
theorem k3_idx28_inb : ∀ (v151 : IVec S16 32) (k3_hw27 : k3_chk27 v151), ∀ a x, ((![v151] : Fin 1 → IVec S16 32) a x).toNat < S102656.size a := fun v151 k3_hw27 => k3_hw27

def k3_chk28 (v154 : IVec S16 32) : Prop :=
  (∀ a x, ((![v154] : Fin 1 → IVec S16 32) a x).toNat < S102656.size a)
theorem k3_idx29_inb : ∀ (v154 : IVec S16 32) (k3_hw28 : k3_chk28 v154), ∀ a x, ((![v154] : Fin 1 → IVec S16 32) a x).toNat < S102656.size a := fun v154 k3_hw28 => k3_hw28

def k3_chk29 (v157 : IVec S16 32) : Prop :=
  (∀ a x, ((![v157] : Fin 1 → IVec S16 32) a x).toNat < S102656.size a)
theorem k3_idx30_inb : ∀ (v157 : IVec S16 32) (k3_hw29 : k3_chk29 v157), ∀ a x, ((![v157] : Fin 1 → IVec S16 32) a x).toNat < S102656.size a := fun v157 k3_hw29 => k3_hw29

def k3_chk30 (v160 : IVec S16 32) : Prop :=
  (∀ a x, ((![v160] : Fin 1 → IVec S16 32) a x).toNat < S102656.size a)
theorem k3_idx31_inb : ∀ (v160 : IVec S16 32) (k3_hw30 : k3_chk30 v160), ∀ a x, ((![v160] : Fin 1 → IVec S16 32) a x).toNat < S102656.size a := fun v160 k3_hw30 => k3_hw30

def k3_chk31 (v59 : IVec S16 32) (v167 : IVec S16 32) : Prop :=
  (∀ a x, ((![v59, v167] : Fin 2 → IVec S16 32) a x).toNat < S208x64.size a)
theorem k3_idx32_inb : ∀ (v59 : IVec S16 32) (v167 : IVec S16 32) (k3_hw31 : k3_chk31 v59 v167), ∀ a x, ((![v59, v167] : Fin 2 → IVec S16 32) a x).toNat < S208x64.size a := fun v59 v167 k3_hw31 => k3_hw31

def k3_chk32 (v169 : IVec S16 32) : Prop :=
  (∀ a x, ((![v169] : Fin 1 → IVec S16 32) a x).toNat < S102656.size a)
theorem k3_idx33_inb : ∀ (v169 : IVec S16 32) (k3_hw32 : k3_chk32 v169), ∀ a x, ((![v169] : Fin 1 → IVec S16 32) a x).toNat < S102656.size a := fun v169 k3_hw32 => k3_hw32

def k3_chk33 (v172 : IVec S16 32) : Prop :=
  (∀ a x, ((![v172] : Fin 1 → IVec S16 32) a x).toNat < S102656.size a)
theorem k3_idx34_inb : ∀ (v172 : IVec S16 32) (k3_hw33 : k3_chk33 v172), ∀ a x, ((![v172] : Fin 1 → IVec S16 32) a x).toNat < S102656.size a := fun v172 k3_hw33 => k3_hw33

def k3_chk34 (v175 : IVec S16 32) : Prop :=
  (∀ a x, ((![v175] : Fin 1 → IVec S16 32) a x).toNat < S102656.size a)
theorem k3_idx35_inb : ∀ (v175 : IVec S16 32) (k3_hw34 : k3_chk34 v175), ∀ a x, ((![v175] : Fin 1 → IVec S16 32) a x).toNat < S102656.size a := fun v175 k3_hw34 => k3_hw34

def k3_chk35 (v178 : IVec S16 32) : Prop :=
  (∀ a x, ((![v178] : Fin 1 → IVec S16 32) a x).toNat < S102656.size a)
theorem k3_idx36_inb : ∀ (v178 : IVec S16 32) (k3_hw35 : k3_chk35 v178), ∀ a x, ((![v178] : Fin 1 → IVec S16 32) a x).toNat < S102656.size a := fun v178 k3_hw35 => k3_hw35

def k3_chk36 (v59 : IVec S16 32) (v185 : IVec S16 32) : Prop :=
  (∀ a x, ((![v59, v185] : Fin 2 → IVec S16 32) a x).toNat < S208x64.size a)
theorem k3_idx37_inb : ∀ (v59 : IVec S16 32) (v185 : IVec S16 32) (k3_hw36 : k3_chk36 v59 v185), ∀ a x, ((![v59, v185] : Fin 2 → IVec S16 32) a x).toNat < S208x64.size a := fun v59 v185 k3_hw36 => k3_hw36

def k3_chk37 (v187 : IVec S16 32) : Prop :=
  (∀ a x, ((![v187] : Fin 1 → IVec S16 32) a x).toNat < S102656.size a)
theorem k3_idx38_inb : ∀ (v187 : IVec S16 32) (k3_hw37 : k3_chk37 v187), ∀ a x, ((![v187] : Fin 1 → IVec S16 32) a x).toNat < S102656.size a := fun v187 k3_hw37 => k3_hw37

def k3_chk38 (v190 : IVec S16 32) : Prop :=
  (∀ a x, ((![v190] : Fin 1 → IVec S16 32) a x).toNat < S102656.size a)
theorem k3_idx39_inb : ∀ (v190 : IVec S16 32) (k3_hw38 : k3_chk38 v190), ∀ a x, ((![v190] : Fin 1 → IVec S16 32) a x).toNat < S102656.size a := fun v190 k3_hw38 => k3_hw38

def k3_chk39 (v193 : IVec S16 32) : Prop :=
  (∀ a x, ((![v193] : Fin 1 → IVec S16 32) a x).toNat < S102656.size a)
theorem k3_idx40_inb : ∀ (v193 : IVec S16 32) (k3_hw39 : k3_chk39 v193), ∀ a x, ((![v193] : Fin 1 → IVec S16 32) a x).toNat < S102656.size a := fun v193 k3_hw39 => k3_hw39

def k3_chk40 (v196 : IVec S16 32) : Prop :=
  (∀ a x, ((![v196] : Fin 1 → IVec S16 32) a x).toNat < S102656.size a)
theorem k3_idx41_inb : ∀ (v196 : IVec S16 32) (k3_hw40 : k3_chk40 v196), ∀ a x, ((![v196] : Fin 1 → IVec S16 32) a x).toNat < S102656.size a := fun v196 k3_hw40 => k3_hw40

def k3_chk41 (v59 : IVec S16 32) (v203 : IVec S16 32) : Prop :=
  (∀ a x, ((![v59, v203] : Fin 2 → IVec S16 32) a x).toNat < S208x64.size a)
theorem k3_idx42_inb : ∀ (v59 : IVec S16 32) (v203 : IVec S16 32) (k3_hw41 : k3_chk41 v59 v203), ∀ a x, ((![v59, v203] : Fin 2 → IVec S16 32) a x).toNat < S208x64.size a := fun v59 v203 k3_hw41 => k3_hw41

def k3_chk42 (v205 : IVec S16 32) : Prop :=
  (∀ a x, ((![v205] : Fin 1 → IVec S16 32) a x).toNat < S102656.size a)
theorem k3_idx43_inb : ∀ (v205 : IVec S16 32) (k3_hw42 : k3_chk42 v205), ∀ a x, ((![v205] : Fin 1 → IVec S16 32) a x).toNat < S102656.size a := fun v205 k3_hw42 => k3_hw42

def k3_chk43 (v208 : IVec S16 32) : Prop :=
  (∀ a x, ((![v208] : Fin 1 → IVec S16 32) a x).toNat < S102656.size a)
theorem k3_idx44_inb : ∀ (v208 : IVec S16 32) (k3_hw43 : k3_chk43 v208), ∀ a x, ((![v208] : Fin 1 → IVec S16 32) a x).toNat < S102656.size a := fun v208 k3_hw43 => k3_hw43

def k3_chk44 (v211 : IVec S16 32) : Prop :=
  (∀ a x, ((![v211] : Fin 1 → IVec S16 32) a x).toNat < S102656.size a)
theorem k3_idx45_inb : ∀ (v211 : IVec S16 32) (k3_hw44 : k3_chk44 v211), ∀ a x, ((![v211] : Fin 1 → IVec S16 32) a x).toNat < S102656.size a := fun v211 k3_hw44 => k3_hw44

def k3_chk45 (v214 : IVec S16 32) : Prop :=
  (∀ a x, ((![v214] : Fin 1 → IVec S16 32) a x).toNat < S102656.size a)
theorem k3_idx46_inb : ∀ (v214 : IVec S16 32) (k3_hw45 : k3_chk45 v214), ∀ a x, ((![v214] : Fin 1 → IVec S16 32) a x).toNat < S102656.size a := fun v214 k3_hw45 => k3_hw45

def k3_chk46 (v59 : IVec S16 32) (v221 : IVec S16 32) : Prop :=
  (∀ a x, ((![v59, v221] : Fin 2 → IVec S16 32) a x).toNat < S208x64.size a)
theorem k3_idx47_inb : ∀ (v59 : IVec S16 32) (v221 : IVec S16 32) (k3_hw46 : k3_chk46 v59 v221), ∀ a x, ((![v59, v221] : Fin 2 → IVec S16 32) a x).toNat < S208x64.size a := fun v59 v221 k3_hw46 => k3_hw46

def k3_chk47 (v223 : IVec S16 32) : Prop :=
  (∀ a x, ((![v223] : Fin 1 → IVec S16 32) a x).toNat < S102656.size a)
theorem k3_idx48_inb : ∀ (v223 : IVec S16 32) (k3_hw47 : k3_chk47 v223), ∀ a x, ((![v223] : Fin 1 → IVec S16 32) a x).toNat < S102656.size a := fun v223 k3_hw47 => k3_hw47

def k3_chk48 (v226 : IVec S16 32) : Prop :=
  (∀ a x, ((![v226] : Fin 1 → IVec S16 32) a x).toNat < S102656.size a)
theorem k3_idx49_inb : ∀ (v226 : IVec S16 32) (k3_hw48 : k3_chk48 v226), ∀ a x, ((![v226] : Fin 1 → IVec S16 32) a x).toNat < S102656.size a := fun v226 k3_hw48 => k3_hw48

def k3_chk49 (v229 : IVec S16 32) : Prop :=
  (∀ a x, ((![v229] : Fin 1 → IVec S16 32) a x).toNat < S102656.size a)
theorem k3_idx50_inb : ∀ (v229 : IVec S16 32) (k3_hw49 : k3_chk49 v229), ∀ a x, ((![v229] : Fin 1 → IVec S16 32) a x).toNat < S102656.size a := fun v229 k3_hw49 => k3_hw49

def k3_chk50 (v232 : IVec S16 32) : Prop :=
  (∀ a x, ((![v232] : Fin 1 → IVec S16 32) a x).toNat < S102656.size a)
theorem k3_idx51_inb : ∀ (v232 : IVec S16 32) (k3_hw50 : k3_chk50 v232), ∀ a x, ((![v232] : Fin 1 → IVec S16 32) a x).toNat < S102656.size a := fun v232 k3_hw50 => k3_hw50

def k3_chk51 (v59 : IVec S16 32) (v239 : IVec S16 32) : Prop :=
  (∀ a x, ((![v59, v239] : Fin 2 → IVec S16 32) a x).toNat < S208x64.size a)
theorem k3_idx52_inb : ∀ (v59 : IVec S16 32) (v239 : IVec S16 32) (k3_hw51 : k3_chk51 v59 v239), ∀ a x, ((![v59, v239] : Fin 2 → IVec S16 32) a x).toNat < S208x64.size a := fun v59 v239 k3_hw51 => k3_hw51

def k3_chk52 (v241 : IVec S16 32) : Prop :=
  (∀ a x, ((![v241] : Fin 1 → IVec S16 32) a x).toNat < S102656.size a)
theorem k3_idx53_inb : ∀ (v241 : IVec S16 32) (k3_hw52 : k3_chk52 v241), ∀ a x, ((![v241] : Fin 1 → IVec S16 32) a x).toNat < S102656.size a := fun v241 k3_hw52 => k3_hw52

def k3_chk53 (v244 : IVec S16 32) : Prop :=
  (∀ a x, ((![v244] : Fin 1 → IVec S16 32) a x).toNat < S102656.size a)
theorem k3_idx54_inb : ∀ (v244 : IVec S16 32) (k3_hw53 : k3_chk53 v244), ∀ a x, ((![v244] : Fin 1 → IVec S16 32) a x).toNat < S102656.size a := fun v244 k3_hw53 => k3_hw53

def k3_chk54 (v247 : IVec S16 32) : Prop :=
  (∀ a x, ((![v247] : Fin 1 → IVec S16 32) a x).toNat < S102656.size a)
theorem k3_idx55_inb : ∀ (v247 : IVec S16 32) (k3_hw54 : k3_chk54 v247), ∀ a x, ((![v247] : Fin 1 → IVec S16 32) a x).toNat < S102656.size a := fun v247 k3_hw54 => k3_hw54

def k3_chk55 (v250 : IVec S16 32) : Prop :=
  (∀ a x, ((![v250] : Fin 1 → IVec S16 32) a x).toNat < S102656.size a)
theorem k3_idx56_inb : ∀ (v250 : IVec S16 32) (k3_hw55 : k3_chk55 v250), ∀ a x, ((![v250] : Fin 1 → IVec S16 32) a x).toNat < S102656.size a := fun v250 k3_hw55 => k3_hw55

def k3_chk56 (v59 : IVec S16 32) (v257 : IVec S16 32) : Prop :=
  (∀ a x, ((![v59, v257] : Fin 2 → IVec S16 32) a x).toNat < S208x64.size a)
theorem k3_idx57_inb : ∀ (v59 : IVec S16 32) (v257 : IVec S16 32) (k3_hw56 : k3_chk56 v59 v257), ∀ a x, ((![v59, v257] : Fin 2 → IVec S16 32) a x).toNat < S208x64.size a := fun v59 v257 k3_hw56 => k3_hw56

def k3_chk57 (v259 : IVec S16 32) : Prop :=
  (∀ a x, ((![v259] : Fin 1 → IVec S16 32) a x).toNat < S102656.size a)
theorem k3_idx58_inb : ∀ (v259 : IVec S16 32) (k3_hw57 : k3_chk57 v259), ∀ a x, ((![v259] : Fin 1 → IVec S16 32) a x).toNat < S102656.size a := fun v259 k3_hw57 => k3_hw57

def k3_chk58 (v262 : IVec S16 32) : Prop :=
  (∀ a x, ((![v262] : Fin 1 → IVec S16 32) a x).toNat < S102656.size a)
theorem k3_idx59_inb : ∀ (v262 : IVec S16 32) (k3_hw58 : k3_chk58 v262), ∀ a x, ((![v262] : Fin 1 → IVec S16 32) a x).toNat < S102656.size a := fun v262 k3_hw58 => k3_hw58

def k3_chk59 (v265 : IVec S16 32) : Prop :=
  (∀ a x, ((![v265] : Fin 1 → IVec S16 32) a x).toNat < S102656.size a)
theorem k3_idx60_inb : ∀ (v265 : IVec S16 32) (k3_hw59 : k3_chk59 v265), ∀ a x, ((![v265] : Fin 1 → IVec S16 32) a x).toNat < S102656.size a := fun v265 k3_hw59 => k3_hw59

def k3_chk60 (v268 : IVec S16 32) : Prop :=
  (∀ a x, ((![v268] : Fin 1 → IVec S16 32) a x).toNat < S102656.size a)
theorem k3_idx61_inb : ∀ (v268 : IVec S16 32) (k3_hw60 : k3_chk60 v268), ∀ a x, ((![v268] : Fin 1 → IVec S16 32) a x).toNat < S102656.size a := fun v268 k3_hw60 => k3_hw60

def k3_chk61 (v59 : IVec S16 32) (v275 : IVec S16 32) : Prop :=
  (∀ a x, ((![v59, v275] : Fin 2 → IVec S16 32) a x).toNat < S208x64.size a)
theorem k3_idx62_inb : ∀ (v59 : IVec S16 32) (v275 : IVec S16 32) (k3_hw61 : k3_chk61 v59 v275), ∀ a x, ((![v59, v275] : Fin 2 → IVec S16 32) a x).toNat < S208x64.size a := fun v59 v275 k3_hw61 => k3_hw61

def k3_chk62 (v277 : IVec S16 32) : Prop :=
  (∀ a x, ((![v277] : Fin 1 → IVec S16 32) a x).toNat < S102656.size a)
theorem k3_idx63_inb : ∀ (v277 : IVec S16 32) (k3_hw62 : k3_chk62 v277), ∀ a x, ((![v277] : Fin 1 → IVec S16 32) a x).toNat < S102656.size a := fun v277 k3_hw62 => k3_hw62

def k3_chk63 (v280 : IVec S16 32) : Prop :=
  (∀ a x, ((![v280] : Fin 1 → IVec S16 32) a x).toNat < S102656.size a)
theorem k3_idx64_inb : ∀ (v280 : IVec S16 32) (k3_hw63 : k3_chk63 v280), ∀ a x, ((![v280] : Fin 1 → IVec S16 32) a x).toNat < S102656.size a := fun v280 k3_hw63 => k3_hw63

def k3_chk64 (v283 : IVec S16 32) : Prop :=
  (∀ a x, ((![v283] : Fin 1 → IVec S16 32) a x).toNat < S102656.size a)
theorem k3_idx65_inb : ∀ (v283 : IVec S16 32) (k3_hw64 : k3_chk64 v283), ∀ a x, ((![v283] : Fin 1 → IVec S16 32) a x).toNat < S102656.size a := fun v283 k3_hw64 => k3_hw64

def k3_chk65 (v286 : IVec S16 32) : Prop :=
  (∀ a x, ((![v286] : Fin 1 → IVec S16 32) a x).toNat < S102656.size a)
theorem k3_idx66_inb : ∀ (v286 : IVec S16 32) (k3_hw65 : k3_chk65 v286), ∀ a x, ((![v286] : Fin 1 → IVec S16 32) a x).toNat < S102656.size a := fun v286 k3_hw65 => k3_hw65

def k3_chk66 (v59 : IVec S16 32) (v293 : IVec S16 32) : Prop :=
  (∀ a x, ((![v59, v293] : Fin 2 → IVec S16 32) a x).toNat < S208x64.size a)
theorem k3_idx67_inb : ∀ (v59 : IVec S16 32) (v293 : IVec S16 32) (k3_hw66 : k3_chk66 v59 v293), ∀ a x, ((![v59, v293] : Fin 2 → IVec S16 32) a x).toNat < S208x64.size a := fun v59 v293 k3_hw66 => k3_hw66

def k3_chk67 (v295 : IVec S16 32) : Prop :=
  (∀ a x, ((![v295] : Fin 1 → IVec S16 32) a x).toNat < S102656.size a)
theorem k3_idx68_inb : ∀ (v295 : IVec S16 32) (k3_hw67 : k3_chk67 v295), ∀ a x, ((![v295] : Fin 1 → IVec S16 32) a x).toNat < S102656.size a := fun v295 k3_hw67 => k3_hw67

def k3_chk68 (v298 : IVec S16 32) : Prop :=
  (∀ a x, ((![v298] : Fin 1 → IVec S16 32) a x).toNat < S102656.size a)
theorem k3_idx69_inb : ∀ (v298 : IVec S16 32) (k3_hw68 : k3_chk68 v298), ∀ a x, ((![v298] : Fin 1 → IVec S16 32) a x).toNat < S102656.size a := fun v298 k3_hw68 => k3_hw68

def k3_chk69 (v301 : IVec S16 32) : Prop :=
  (∀ a x, ((![v301] : Fin 1 → IVec S16 32) a x).toNat < S102656.size a)
theorem k3_idx70_inb : ∀ (v301 : IVec S16 32) (k3_hw69 : k3_chk69 v301), ∀ a x, ((![v301] : Fin 1 → IVec S16 32) a x).toNat < S102656.size a := fun v301 k3_hw69 => k3_hw69

def k3_chk70 (v304 : IVec S16 32) : Prop :=
  (∀ a x, ((![v304] : Fin 1 → IVec S16 32) a x).toNat < S102656.size a)
theorem k3_idx71_inb : ∀ (v304 : IVec S16 32) (k3_hw70 : k3_chk70 v304), ∀ a x, ((![v304] : Fin 1 → IVec S16 32) a x).toNat < S102656.size a := fun v304 k3_hw70 => k3_hw70

def k3_chk71 (v59 : IVec S16 32) (v311 : IVec S16 32) : Prop :=
  (∀ a x, ((![v59, v311] : Fin 2 → IVec S16 32) a x).toNat < S208x64.size a)
theorem k3_idx72_inb : ∀ (v59 : IVec S16 32) (v311 : IVec S16 32) (k3_hw71 : k3_chk71 v59 v311), ∀ a x, ((![v59, v311] : Fin 2 → IVec S16 32) a x).toNat < S208x64.size a := fun v59 v311 k3_hw71 => k3_hw71

def k3_chk72 (v313 : IVec S16 32) : Prop :=
  (∀ a x, ((![v313] : Fin 1 → IVec S16 32) a x).toNat < S102656.size a)
theorem k3_idx73_inb : ∀ (v313 : IVec S16 32) (k3_hw72 : k3_chk72 v313), ∀ a x, ((![v313] : Fin 1 → IVec S16 32) a x).toNat < S102656.size a := fun v313 k3_hw72 => k3_hw72

def k3_chk73 (v316 : IVec S16 32) : Prop :=
  (∀ a x, ((![v316] : Fin 1 → IVec S16 32) a x).toNat < S102656.size a)
theorem k3_idx74_inb : ∀ (v316 : IVec S16 32) (k3_hw73 : k3_chk73 v316), ∀ a x, ((![v316] : Fin 1 → IVec S16 32) a x).toNat < S102656.size a := fun v316 k3_hw73 => k3_hw73

def k3_chk74 (v319 : IVec S16 32) : Prop :=
  (∀ a x, ((![v319] : Fin 1 → IVec S16 32) a x).toNat < S102656.size a)
theorem k3_idx75_inb : ∀ (v319 : IVec S16 32) (k3_hw74 : k3_chk74 v319), ∀ a x, ((![v319] : Fin 1 → IVec S16 32) a x).toNat < S102656.size a := fun v319 k3_hw74 => k3_hw74

def k3_chk75 (v322 : IVec S16 32) : Prop :=
  (∀ a x, ((![v322] : Fin 1 → IVec S16 32) a x).toNat < S102656.size a)
theorem k3_idx76_inb : ∀ (v322 : IVec S16 32) (k3_hw75 : k3_chk75 v322), ∀ a x, ((![v322] : Fin 1 → IVec S16 32) a x).toNat < S102656.size a := fun v322 k3_hw75 => k3_hw75

def k3_chk76 (v59 : IVec S16 32) (v329 : IVec S16 32) : Prop :=
  (∀ a x, ((![v59, v329] : Fin 2 → IVec S16 32) a x).toNat < S208x64.size a)
theorem k3_idx77_inb : ∀ (v59 : IVec S16 32) (v329 : IVec S16 32) (k3_hw76 : k3_chk76 v59 v329), ∀ a x, ((![v59, v329] : Fin 2 → IVec S16 32) a x).toNat < S208x64.size a := fun v59 v329 k3_hw76 => k3_hw76

def k3_chk77 (v331 : IVec S16 32) : Prop :=
  (∀ a x, ((![v331] : Fin 1 → IVec S16 32) a x).toNat < S102656.size a)
theorem k3_idx78_inb : ∀ (v331 : IVec S16 32) (k3_hw77 : k3_chk77 v331), ∀ a x, ((![v331] : Fin 1 → IVec S16 32) a x).toNat < S102656.size a := fun v331 k3_hw77 => k3_hw77

def k3_chk78 (v334 : IVec S16 32) : Prop :=
  (∀ a x, ((![v334] : Fin 1 → IVec S16 32) a x).toNat < S102656.size a)
theorem k3_idx79_inb : ∀ (v334 : IVec S16 32) (k3_hw78 : k3_chk78 v334), ∀ a x, ((![v334] : Fin 1 → IVec S16 32) a x).toNat < S102656.size a := fun v334 k3_hw78 => k3_hw78

def k3_chk79 (v337 : IVec S16 32) : Prop :=
  (∀ a x, ((![v337] : Fin 1 → IVec S16 32) a x).toNat < S102656.size a)
theorem k3_idx80_inb : ∀ (v337 : IVec S16 32) (k3_hw79 : k3_chk79 v337), ∀ a x, ((![v337] : Fin 1 → IVec S16 32) a x).toNat < S102656.size a := fun v337 k3_hw79 => k3_hw79

def k3_chk80 (v340 : IVec S16 32) : Prop :=
  (∀ a x, ((![v340] : Fin 1 → IVec S16 32) a x).toNat < S102656.size a)
theorem k3_idx81_inb : ∀ (v340 : IVec S16 32) (k3_hw80 : k3_chk80 v340), ∀ a x, ((![v340] : Fin 1 → IVec S16 32) a x).toNat < S102656.size a := fun v340 k3_hw80 => k3_hw80

def k3_chk81 (v59 : IVec S16 32) (v347 : IVec S16 32) : Prop :=
  (∀ a x, ((![v59, v347] : Fin 2 → IVec S16 32) a x).toNat < S208x64.size a)
theorem k3_idx82_inb : ∀ (v59 : IVec S16 32) (v347 : IVec S16 32) (k3_hw81 : k3_chk81 v59 v347), ∀ a x, ((![v59, v347] : Fin 2 → IVec S16 32) a x).toNat < S208x64.size a := fun v59 v347 k3_hw81 => k3_hw81

def k3_chk82 (v349 : IVec S16 32) : Prop :=
  (∀ a x, ((![v349] : Fin 1 → IVec S16 32) a x).toNat < S102656.size a)
theorem k3_idx83_inb : ∀ (v349 : IVec S16 32) (k3_hw82 : k3_chk82 v349), ∀ a x, ((![v349] : Fin 1 → IVec S16 32) a x).toNat < S102656.size a := fun v349 k3_hw82 => k3_hw82

def k3_chk83 (v352 : IVec S16 32) : Prop :=
  (∀ a x, ((![v352] : Fin 1 → IVec S16 32) a x).toNat < S102656.size a)
theorem k3_idx84_inb : ∀ (v352 : IVec S16 32) (k3_hw83 : k3_chk83 v352), ∀ a x, ((![v352] : Fin 1 → IVec S16 32) a x).toNat < S102656.size a := fun v352 k3_hw83 => k3_hw83

def k3_chk84 (v355 : IVec S16 32) : Prop :=
  (∀ a x, ((![v355] : Fin 1 → IVec S16 32) a x).toNat < S102656.size a)
theorem k3_idx85_inb : ∀ (v355 : IVec S16 32) (k3_hw84 : k3_chk84 v355), ∀ a x, ((![v355] : Fin 1 → IVec S16 32) a x).toNat < S102656.size a := fun v355 k3_hw84 => k3_hw84

def k3_chk85 (v358 : IVec S16 32) : Prop :=
  (∀ a x, ((![v358] : Fin 1 → IVec S16 32) a x).toNat < S102656.size a)
theorem k3_idx86_inb : ∀ (v358 : IVec S16 32) (k3_hw85 : k3_chk85 v358), ∀ a x, ((![v358] : Fin 1 → IVec S16 32) a x).toNat < S102656.size a := fun v358 k3_hw85 => k3_hw85

def k3_chk86 (v59 : IVec S16 32) (v365 : IVec S16 32) : Prop :=
  (∀ a x, ((![v59, v365] : Fin 2 → IVec S16 32) a x).toNat < S208x64.size a)
theorem k3_idx87_inb : ∀ (v59 : IVec S16 32) (v365 : IVec S16 32) (k3_hw86 : k3_chk86 v59 v365), ∀ a x, ((![v59, v365] : Fin 2 → IVec S16 32) a x).toNat < S208x64.size a := fun v59 v365 k3_hw86 => k3_hw86

def k3_chk87 (v367 : IVec S16 32) : Prop :=
  (∀ a x, ((![v367] : Fin 1 → IVec S16 32) a x).toNat < S102656.size a)
theorem k3_idx88_inb : ∀ (v367 : IVec S16 32) (k3_hw87 : k3_chk87 v367), ∀ a x, ((![v367] : Fin 1 → IVec S16 32) a x).toNat < S102656.size a := fun v367 k3_hw87 => k3_hw87

def k3_chk88 (v370 : IVec S16 32) : Prop :=
  (∀ a x, ((![v370] : Fin 1 → IVec S16 32) a x).toNat < S102656.size a)
theorem k3_idx89_inb : ∀ (v370 : IVec S16 32) (k3_hw88 : k3_chk88 v370), ∀ a x, ((![v370] : Fin 1 → IVec S16 32) a x).toNat < S102656.size a := fun v370 k3_hw88 => k3_hw88

def k3_chk89 (v373 : IVec S16 32) : Prop :=
  (∀ a x, ((![v373] : Fin 1 → IVec S16 32) a x).toNat < S102656.size a)
theorem k3_idx90_inb : ∀ (v373 : IVec S16 32) (k3_hw89 : k3_chk89 v373), ∀ a x, ((![v373] : Fin 1 → IVec S16 32) a x).toNat < S102656.size a := fun v373 k3_hw89 => k3_hw89

def k3_chk90 (v376 : IVec S16 32) : Prop :=
  (∀ a x, ((![v376] : Fin 1 → IVec S16 32) a x).toNat < S102656.size a)
theorem k3_idx91_inb : ∀ (v376 : IVec S16 32) (k3_hw90 : k3_chk90 v376), ∀ a x, ((![v376] : Fin 1 → IVec S16 32) a x).toNat < S102656.size a := fun v376 k3_hw90 => k3_hw90

def k3_chk91 (v59 : IVec S16 32) (v383 : IVec S16 32) : Prop :=
  (∀ a x, ((![v59, v383] : Fin 2 → IVec S16 32) a x).toNat < S208x64.size a)
theorem k3_idx92_inb : ∀ (v59 : IVec S16 32) (v383 : IVec S16 32) (k3_hw91 : k3_chk91 v59 v383), ∀ a x, ((![v59, v383] : Fin 2 → IVec S16 32) a x).toNat < S208x64.size a := fun v59 v383 k3_hw91 => k3_hw91

def k3_chk92 (v385 : IVec S16 32) : Prop :=
  (∀ a x, ((![v385] : Fin 1 → IVec S16 32) a x).toNat < S102656.size a)
theorem k3_idx93_inb : ∀ (v385 : IVec S16 32) (k3_hw92 : k3_chk92 v385), ∀ a x, ((![v385] : Fin 1 → IVec S16 32) a x).toNat < S102656.size a := fun v385 k3_hw92 => k3_hw92

def k3_chk93 (v388 : IVec S16 32) : Prop :=
  (∀ a x, ((![v388] : Fin 1 → IVec S16 32) a x).toNat < S102656.size a)
theorem k3_idx94_inb : ∀ (v388 : IVec S16 32) (k3_hw93 : k3_chk93 v388), ∀ a x, ((![v388] : Fin 1 → IVec S16 32) a x).toNat < S102656.size a := fun v388 k3_hw93 => k3_hw93

def k3_chk94 (v391 : IVec S16 32) : Prop :=
  (∀ a x, ((![v391] : Fin 1 → IVec S16 32) a x).toNat < S102656.size a)
theorem k3_idx95_inb : ∀ (v391 : IVec S16 32) (k3_hw94 : k3_chk94 v391), ∀ a x, ((![v391] : Fin 1 → IVec S16 32) a x).toNat < S102656.size a := fun v391 k3_hw94 => k3_hw94

def k3_chk95 (v394 : IVec S16 32) : Prop :=
  (∀ a x, ((![v394] : Fin 1 → IVec S16 32) a x).toNat < S102656.size a)
theorem k3_idx96_inb : ∀ (v394 : IVec S16 32) (k3_hw95 : k3_chk95 v394), ∀ a x, ((![v394] : Fin 1 → IVec S16 32) a x).toNat < S102656.size a := fun v394 k3_hw95 => k3_hw95

def k3_chk96 (v59 : IVec S16 32) (v401 : IVec S16 32) : Prop :=
  (∀ a x, ((![v59, v401] : Fin 2 → IVec S16 32) a x).toNat < S208x64.size a)
theorem k3_idx97_inb : ∀ (v59 : IVec S16 32) (v401 : IVec S16 32) (k3_hw96 : k3_chk96 v59 v401), ∀ a x, ((![v59, v401] : Fin 2 → IVec S16 32) a x).toNat < S208x64.size a := fun v59 v401 k3_hw96 => k3_hw96

def k3_chk97 (v403 : IVec S16 32) : Prop :=
  (∀ a x, ((![v403] : Fin 1 → IVec S16 32) a x).toNat < S102656.size a)
theorem k3_idx98_inb : ∀ (v403 : IVec S16 32) (k3_hw97 : k3_chk97 v403), ∀ a x, ((![v403] : Fin 1 → IVec S16 32) a x).toNat < S102656.size a := fun v403 k3_hw97 => k3_hw97

def k3_chk98 (v406 : IVec S16 32) : Prop :=
  (∀ a x, ((![v406] : Fin 1 → IVec S16 32) a x).toNat < S102656.size a)
theorem k3_idx99_inb : ∀ (v406 : IVec S16 32) (k3_hw98 : k3_chk98 v406), ∀ a x, ((![v406] : Fin 1 → IVec S16 32) a x).toNat < S102656.size a := fun v406 k3_hw98 => k3_hw98

def k3_chk99 (v409 : IVec S16 32) : Prop :=
  (∀ a x, ((![v409] : Fin 1 → IVec S16 32) a x).toNat < S102656.size a)
theorem k3_idx100_inb : ∀ (v409 : IVec S16 32) (k3_hw99 : k3_chk99 v409), ∀ a x, ((![v409] : Fin 1 → IVec S16 32) a x).toNat < S102656.size a := fun v409 k3_hw99 => k3_hw99

def k3_chk100 (v412 : IVec S16 32) : Prop :=
  (∀ a x, ((![v412] : Fin 1 → IVec S16 32) a x).toNat < S102656.size a)
theorem k3_idx101_inb : ∀ (v412 : IVec S16 32) (k3_hw100 : k3_chk100 v412), ∀ a x, ((![v412] : Fin 1 → IVec S16 32) a x).toNat < S102656.size a := fun v412 k3_hw100 => k3_hw100

def k3_chk101 (v59 : IVec S16 32) (v419 : IVec S16 32) : Prop :=
  (∀ a x, ((![v59, v419] : Fin 2 → IVec S16 32) a x).toNat < S208x64.size a)
theorem k3_idx102_inb : ∀ (v59 : IVec S16 32) (v419 : IVec S16 32) (k3_hw101 : k3_chk101 v59 v419), ∀ a x, ((![v59, v419] : Fin 2 → IVec S16 32) a x).toNat < S208x64.size a := fun v59 v419 k3_hw101 => k3_hw101

def k3_chk102 (v421 : IVec S16 32) : Prop :=
  (∀ a x, ((![v421] : Fin 1 → IVec S16 32) a x).toNat < S102656.size a)
theorem k3_idx103_inb : ∀ (v421 : IVec S16 32) (k3_hw102 : k3_chk102 v421), ∀ a x, ((![v421] : Fin 1 → IVec S16 32) a x).toNat < S102656.size a := fun v421 k3_hw102 => k3_hw102

def k3_chk103 (v424 : IVec S16 32) : Prop :=
  (∀ a x, ((![v424] : Fin 1 → IVec S16 32) a x).toNat < S102656.size a)
theorem k3_idx104_inb : ∀ (v424 : IVec S16 32) (k3_hw103 : k3_chk103 v424), ∀ a x, ((![v424] : Fin 1 → IVec S16 32) a x).toNat < S102656.size a := fun v424 k3_hw103 => k3_hw103

def k3_chk104 (v427 : IVec S16 32) : Prop :=
  (∀ a x, ((![v427] : Fin 1 → IVec S16 32) a x).toNat < S102656.size a)
theorem k3_idx105_inb : ∀ (v427 : IVec S16 32) (k3_hw104 : k3_chk104 v427), ∀ a x, ((![v427] : Fin 1 → IVec S16 32) a x).toNat < S102656.size a := fun v427 k3_hw104 => k3_hw104

def k3_chk105 (v430 : IVec S16 32) : Prop :=
  (∀ a x, ((![v430] : Fin 1 → IVec S16 32) a x).toNat < S102656.size a)
theorem k3_idx106_inb : ∀ (v430 : IVec S16 32) (k3_hw105 : k3_chk105 v430), ∀ a x, ((![v430] : Fin 1 → IVec S16 32) a x).toNat < S102656.size a := fun v430 k3_hw105 => k3_hw105

def k3_chk106 (v59 : IVec S16 32) (v437 : IVec S16 32) : Prop :=
  (∀ a x, ((![v59, v437] : Fin 2 → IVec S16 32) a x).toNat < S208x64.size a)
theorem k3_idx107_inb : ∀ (v59 : IVec S16 32) (v437 : IVec S16 32) (k3_hw106 : k3_chk106 v59 v437), ∀ a x, ((![v59, v437] : Fin 2 → IVec S16 32) a x).toNat < S208x64.size a := fun v59 v437 k3_hw106 => k3_hw106

def k3_chk107 (v439 : IVec S16 32) : Prop :=
  (∀ a x, ((![v439] : Fin 1 → IVec S16 32) a x).toNat < S102656.size a)
theorem k3_idx108_inb : ∀ (v439 : IVec S16 32) (k3_hw107 : k3_chk107 v439), ∀ a x, ((![v439] : Fin 1 → IVec S16 32) a x).toNat < S102656.size a := fun v439 k3_hw107 => k3_hw107

def k3_chk108 (v442 : IVec S16 32) : Prop :=
  (∀ a x, ((![v442] : Fin 1 → IVec S16 32) a x).toNat < S102656.size a)
theorem k3_idx109_inb : ∀ (v442 : IVec S16 32) (k3_hw108 : k3_chk108 v442), ∀ a x, ((![v442] : Fin 1 → IVec S16 32) a x).toNat < S102656.size a := fun v442 k3_hw108 => k3_hw108

def k3_chk109 (v445 : IVec S16 32) : Prop :=
  (∀ a x, ((![v445] : Fin 1 → IVec S16 32) a x).toNat < S102656.size a)
theorem k3_idx110_inb : ∀ (v445 : IVec S16 32) (k3_hw109 : k3_chk109 v445), ∀ a x, ((![v445] : Fin 1 → IVec S16 32) a x).toNat < S102656.size a := fun v445 k3_hw109 => k3_hw109

def k3_chk110 (v448 : IVec S16 32) : Prop :=
  (∀ a x, ((![v448] : Fin 1 → IVec S16 32) a x).toNat < S102656.size a)
theorem k3_idx111_inb : ∀ (v448 : IVec S16 32) (k3_hw110 : k3_chk110 v448), ∀ a x, ((![v448] : Fin 1 → IVec S16 32) a x).toNat < S102656.size a := fun v448 k3_hw110 => k3_hw110

def k3_chk111 (v59 : IVec S16 32) (v455 : IVec S16 32) : Prop :=
  (∀ a x, ((![v59, v455] : Fin 2 → IVec S16 32) a x).toNat < S208x64.size a)
theorem k3_idx112_inb : ∀ (v59 : IVec S16 32) (v455 : IVec S16 32) (k3_hw111 : k3_chk111 v59 v455), ∀ a x, ((![v59, v455] : Fin 2 → IVec S16 32) a x).toNat < S208x64.size a := fun v59 v455 k3_hw111 => k3_hw111

def k3_chk112 (v457 : IVec S16 32) : Prop :=
  (∀ a x, ((![v457] : Fin 1 → IVec S16 32) a x).toNat < S102656.size a)
theorem k3_idx113_inb : ∀ (v457 : IVec S16 32) (k3_hw112 : k3_chk112 v457), ∀ a x, ((![v457] : Fin 1 → IVec S16 32) a x).toNat < S102656.size a := fun v457 k3_hw112 => k3_hw112

def k3_chk113 (v460 : IVec S16 32) : Prop :=
  (∀ a x, ((![v460] : Fin 1 → IVec S16 32) a x).toNat < S102656.size a)
theorem k3_idx114_inb : ∀ (v460 : IVec S16 32) (k3_hw113 : k3_chk113 v460), ∀ a x, ((![v460] : Fin 1 → IVec S16 32) a x).toNat < S102656.size a := fun v460 k3_hw113 => k3_hw113

def k3_chk114 (v463 : IVec S16 32) : Prop :=
  (∀ a x, ((![v463] : Fin 1 → IVec S16 32) a x).toNat < S102656.size a)
theorem k3_idx115_inb : ∀ (v463 : IVec S16 32) (k3_hw114 : k3_chk114 v463), ∀ a x, ((![v463] : Fin 1 → IVec S16 32) a x).toNat < S102656.size a := fun v463 k3_hw114 => k3_hw114

def k3_chk115 (v466 : IVec S16 32) : Prop :=
  (∀ a x, ((![v466] : Fin 1 → IVec S16 32) a x).toNat < S102656.size a)
theorem k3_idx116_inb : ∀ (v466 : IVec S16 32) (k3_hw115 : k3_chk115 v466), ∀ a x, ((![v466] : Fin 1 → IVec S16 32) a x).toNat < S102656.size a := fun v466 k3_hw115 => k3_hw115

def k3_chk116 (v59 : IVec S16 32) (v473 : IVec S16 32) : Prop :=
  (∀ a x, ((![v59, v473] : Fin 2 → IVec S16 32) a x).toNat < S208x64.size a)
theorem k3_idx117_inb : ∀ (v59 : IVec S16 32) (v473 : IVec S16 32) (k3_hw116 : k3_chk116 v59 v473), ∀ a x, ((![v59, v473] : Fin 2 → IVec S16 32) a x).toNat < S208x64.size a := fun v59 v473 k3_hw116 => k3_hw116

def k3_chk117 (v475 : IVec S16 32) : Prop :=
  (∀ a x, ((![v475] : Fin 1 → IVec S16 32) a x).toNat < S102656.size a)
theorem k3_idx118_inb : ∀ (v475 : IVec S16 32) (k3_hw117 : k3_chk117 v475), ∀ a x, ((![v475] : Fin 1 → IVec S16 32) a x).toNat < S102656.size a := fun v475 k3_hw117 => k3_hw117

def k3_chk118 (v478 : IVec S16 32) : Prop :=
  (∀ a x, ((![v478] : Fin 1 → IVec S16 32) a x).toNat < S102656.size a)
theorem k3_idx119_inb : ∀ (v478 : IVec S16 32) (k3_hw118 : k3_chk118 v478), ∀ a x, ((![v478] : Fin 1 → IVec S16 32) a x).toNat < S102656.size a := fun v478 k3_hw118 => k3_hw118

def k3_chk119 (v481 : IVec S16 32) : Prop :=
  (∀ a x, ((![v481] : Fin 1 → IVec S16 32) a x).toNat < S102656.size a)
theorem k3_idx120_inb : ∀ (v481 : IVec S16 32) (k3_hw119 : k3_chk119 v481), ∀ a x, ((![v481] : Fin 1 → IVec S16 32) a x).toNat < S102656.size a := fun v481 k3_hw119 => k3_hw119

def k3_chk120 (v484 : IVec S16 32) : Prop :=
  (∀ a x, ((![v484] : Fin 1 → IVec S16 32) a x).toNat < S102656.size a)
theorem k3_idx121_inb : ∀ (v484 : IVec S16 32) (k3_hw120 : k3_chk120 v484), ∀ a x, ((![v484] : Fin 1 → IVec S16 32) a x).toNat < S102656.size a := fun v484 k3_hw120 => k3_hw120

def k3_chk121 (v59 : IVec S16 32) (v491 : IVec S16 32) : Prop :=
  (∀ a x, ((![v59, v491] : Fin 2 → IVec S16 32) a x).toNat < S208x64.size a)
theorem k3_idx122_inb : ∀ (v59 : IVec S16 32) (v491 : IVec S16 32) (k3_hw121 : k3_chk121 v59 v491), ∀ a x, ((![v59, v491] : Fin 2 → IVec S16 32) a x).toNat < S208x64.size a := fun v59 v491 k3_hw121 => k3_hw121

def k3_chk122 (v493 : IVec S16 32) : Prop :=
  (∀ a x, ((![v493] : Fin 1 → IVec S16 32) a x).toNat < S102656.size a)
theorem k3_idx123_inb : ∀ (v493 : IVec S16 32) (k3_hw122 : k3_chk122 v493), ∀ a x, ((![v493] : Fin 1 → IVec S16 32) a x).toNat < S102656.size a := fun v493 k3_hw122 => k3_hw122

def k3_chk123 (v496 : IVec S16 32) : Prop :=
  (∀ a x, ((![v496] : Fin 1 → IVec S16 32) a x).toNat < S102656.size a)
theorem k3_idx124_inb : ∀ (v496 : IVec S16 32) (k3_hw123 : k3_chk123 v496), ∀ a x, ((![v496] : Fin 1 → IVec S16 32) a x).toNat < S102656.size a := fun v496 k3_hw123 => k3_hw123

def k3_chk124 (v499 : IVec S16 32) : Prop :=
  (∀ a x, ((![v499] : Fin 1 → IVec S16 32) a x).toNat < S102656.size a)
theorem k3_idx125_inb : ∀ (v499 : IVec S16 32) (k3_hw124 : k3_chk124 v499), ∀ a x, ((![v499] : Fin 1 → IVec S16 32) a x).toNat < S102656.size a := fun v499 k3_hw124 => k3_hw124

def k3_chk125 (v502 : IVec S16 32) : Prop :=
  (∀ a x, ((![v502] : Fin 1 → IVec S16 32) a x).toNat < S102656.size a)
theorem k3_idx126_inb : ∀ (v502 : IVec S16 32) (k3_hw125 : k3_chk125 v502), ∀ a x, ((![v502] : Fin 1 → IVec S16 32) a x).toNat < S102656.size a := fun v502 k3_hw125 => k3_hw125

def k3_chk126 (v59 : IVec S16 32) (v509 : IVec S16 32) : Prop :=
  (∀ a x, ((![v59, v509] : Fin 2 → IVec S16 32) a x).toNat < S208x64.size a)
theorem k3_idx127_inb : ∀ (v59 : IVec S16 32) (v509 : IVec S16 32) (k3_hw126 : k3_chk126 v59 v509), ∀ a x, ((![v59, v509] : Fin 2 → IVec S16 32) a x).toNat < S208x64.size a := fun v59 v509 k3_hw126 => k3_hw126

def k3_chk127 (v511 : IVec S16 32) : Prop :=
  (∀ a x, ((![v511] : Fin 1 → IVec S16 32) a x).toNat < S102656.size a)
theorem k3_idx128_inb : ∀ (v511 : IVec S16 32) (k3_hw127 : k3_chk127 v511), ∀ a x, ((![v511] : Fin 1 → IVec S16 32) a x).toNat < S102656.size a := fun v511 k3_hw127 => k3_hw127

def k3_chk128 (v514 : IVec S16 32) : Prop :=
  (∀ a x, ((![v514] : Fin 1 → IVec S16 32) a x).toNat < S102656.size a)
theorem k3_idx129_inb : ∀ (v514 : IVec S16 32) (k3_hw128 : k3_chk128 v514), ∀ a x, ((![v514] : Fin 1 → IVec S16 32) a x).toNat < S102656.size a := fun v514 k3_hw128 => k3_hw128

def k3_chk129 (v517 : IVec S16 32) : Prop :=
  (∀ a x, ((![v517] : Fin 1 → IVec S16 32) a x).toNat < S102656.size a)
theorem k3_idx130_inb : ∀ (v517 : IVec S16 32) (k3_hw129 : k3_chk129 v517), ∀ a x, ((![v517] : Fin 1 → IVec S16 32) a x).toNat < S102656.size a := fun v517 k3_hw129 => k3_hw129

def k3_chk130 (v520 : IVec S16 32) : Prop :=
  (∀ a x, ((![v520] : Fin 1 → IVec S16 32) a x).toNat < S102656.size a)
theorem k3_idx131_inb : ∀ (v520 : IVec S16 32) (k3_hw130 : k3_chk130 v520), ∀ a x, ((![v520] : Fin 1 → IVec S16 32) a x).toNat < S102656.size a := fun v520 k3_hw130 => k3_hw130

def k3_chk131 (v59 : IVec S16 32) (v527 : IVec S16 32) : Prop :=
  (∀ a x, ((![v59, v527] : Fin 2 → IVec S16 32) a x).toNat < S208x64.size a)
theorem k3_idx132_inb : ∀ (v59 : IVec S16 32) (v527 : IVec S16 32) (k3_hw131 : k3_chk131 v59 v527), ∀ a x, ((![v59, v527] : Fin 2 → IVec S16 32) a x).toNat < S208x64.size a := fun v59 v527 k3_hw131 => k3_hw131

def k3_chk132 (v529 : IVec S16 32) : Prop :=
  (∀ a x, ((![v529] : Fin 1 → IVec S16 32) a x).toNat < S102656.size a)
theorem k3_idx133_inb : ∀ (v529 : IVec S16 32) (k3_hw132 : k3_chk132 v529), ∀ a x, ((![v529] : Fin 1 → IVec S16 32) a x).toNat < S102656.size a := fun v529 k3_hw132 => k3_hw132

def k3_chk133 (v532 : IVec S16 32) : Prop :=
  (∀ a x, ((![v532] : Fin 1 → IVec S16 32) a x).toNat < S102656.size a)
theorem k3_idx134_inb : ∀ (v532 : IVec S16 32) (k3_hw133 : k3_chk133 v532), ∀ a x, ((![v532] : Fin 1 → IVec S16 32) a x).toNat < S102656.size a := fun v532 k3_hw133 => k3_hw133

def k3_chk134 (v535 : IVec S16 32) : Prop :=
  (∀ a x, ((![v535] : Fin 1 → IVec S16 32) a x).toNat < S102656.size a)
theorem k3_idx135_inb : ∀ (v535 : IVec S16 32) (k3_hw134 : k3_chk134 v535), ∀ a x, ((![v535] : Fin 1 → IVec S16 32) a x).toNat < S102656.size a := fun v535 k3_hw134 => k3_hw134

def k3_chk135 (v538 : IVec S16 32) : Prop :=
  (∀ a x, ((![v538] : Fin 1 → IVec S16 32) a x).toNat < S102656.size a)
theorem k3_idx136_inb : ∀ (v538 : IVec S16 32) (k3_hw135 : k3_chk135 v538), ∀ a x, ((![v538] : Fin 1 → IVec S16 32) a x).toNat < S102656.size a := fun v538 k3_hw135 => k3_hw135

def k3_chk136 (v59 : IVec S16 32) (v545 : IVec S16 32) : Prop :=
  (∀ a x, ((![v59, v545] : Fin 2 → IVec S16 32) a x).toNat < S208x64.size a)
theorem k3_idx137_inb : ∀ (v59 : IVec S16 32) (v545 : IVec S16 32) (k3_hw136 : k3_chk136 v59 v545), ∀ a x, ((![v59, v545] : Fin 2 → IVec S16 32) a x).toNat < S208x64.size a := fun v59 v545 k3_hw136 => k3_hw136

def k3_chk137 (v547 : IVec S16 32) : Prop :=
  (∀ a x, ((![v547] : Fin 1 → IVec S16 32) a x).toNat < S102656.size a)
theorem k3_idx138_inb : ∀ (v547 : IVec S16 32) (k3_hw137 : k3_chk137 v547), ∀ a x, ((![v547] : Fin 1 → IVec S16 32) a x).toNat < S102656.size a := fun v547 k3_hw137 => k3_hw137

def k3_chk138 (v550 : IVec S16 32) : Prop :=
  (∀ a x, ((![v550] : Fin 1 → IVec S16 32) a x).toNat < S102656.size a)
theorem k3_idx139_inb : ∀ (v550 : IVec S16 32) (k3_hw138 : k3_chk138 v550), ∀ a x, ((![v550] : Fin 1 → IVec S16 32) a x).toNat < S102656.size a := fun v550 k3_hw138 => k3_hw138

def k3_chk139 (v553 : IVec S16 32) : Prop :=
  (∀ a x, ((![v553] : Fin 1 → IVec S16 32) a x).toNat < S102656.size a)
theorem k3_idx140_inb : ∀ (v553 : IVec S16 32) (k3_hw139 : k3_chk139 v553), ∀ a x, ((![v553] : Fin 1 → IVec S16 32) a x).toNat < S102656.size a := fun v553 k3_hw139 => k3_hw139

def k3_chk140 (v556 : IVec S16 32) : Prop :=
  (∀ a x, ((![v556] : Fin 1 → IVec S16 32) a x).toNat < S102656.size a)
theorem k3_idx141_inb : ∀ (v556 : IVec S16 32) (k3_hw140 : k3_chk140 v556), ∀ a x, ((![v556] : Fin 1 → IVec S16 32) a x).toNat < S102656.size a := fun v556 k3_hw140 => k3_hw140

def k3_chk141 (v59 : IVec S16 32) (v563 : IVec S16 32) : Prop :=
  (∀ a x, ((![v59, v563] : Fin 2 → IVec S16 32) a x).toNat < S208x64.size a)
theorem k3_idx142_inb : ∀ (v59 : IVec S16 32) (v563 : IVec S16 32) (k3_hw141 : k3_chk141 v59 v563), ∀ a x, ((![v59, v563] : Fin 2 → IVec S16 32) a x).toNat < S208x64.size a := fun v59 v563 k3_hw141 => k3_hw141

def k3_chk142 (v565 : IVec S16 32) : Prop :=
  (∀ a x, ((![v565] : Fin 1 → IVec S16 32) a x).toNat < S102656.size a)
theorem k3_idx143_inb : ∀ (v565 : IVec S16 32) (k3_hw142 : k3_chk142 v565), ∀ a x, ((![v565] : Fin 1 → IVec S16 32) a x).toNat < S102656.size a := fun v565 k3_hw142 => k3_hw142

def k3_chk143 (v568 : IVec S16 32) : Prop :=
  (∀ a x, ((![v568] : Fin 1 → IVec S16 32) a x).toNat < S102656.size a)
theorem k3_idx144_inb : ∀ (v568 : IVec S16 32) (k3_hw143 : k3_chk143 v568), ∀ a x, ((![v568] : Fin 1 → IVec S16 32) a x).toNat < S102656.size a := fun v568 k3_hw143 => k3_hw143

def k3_chk144 (v571 : IVec S16 32) : Prop :=
  (∀ a x, ((![v571] : Fin 1 → IVec S16 32) a x).toNat < S102656.size a)
theorem k3_idx145_inb : ∀ (v571 : IVec S16 32) (k3_hw144 : k3_chk144 v571), ∀ a x, ((![v571] : Fin 1 → IVec S16 32) a x).toNat < S102656.size a := fun v571 k3_hw144 => k3_hw144

def k3_chk145 (v574 : IVec S16 32) : Prop :=
  (∀ a x, ((![v574] : Fin 1 → IVec S16 32) a x).toNat < S102656.size a)
theorem k3_idx146_inb : ∀ (v574 : IVec S16 32) (k3_hw145 : k3_chk145 v574), ∀ a x, ((![v574] : Fin 1 → IVec S16 32) a x).toNat < S102656.size a := fun v574 k3_hw145 => k3_hw145

def k3_chk146 (v59 : IVec S16 32) (v581 : IVec S16 32) : Prop :=
  (∀ a x, ((![v59, v581] : Fin 2 → IVec S16 32) a x).toNat < S208x64.size a)
theorem k3_idx147_inb : ∀ (v59 : IVec S16 32) (v581 : IVec S16 32) (k3_hw146 : k3_chk146 v59 v581), ∀ a x, ((![v59, v581] : Fin 2 → IVec S16 32) a x).toNat < S208x64.size a := fun v59 v581 k3_hw146 => k3_hw146

def k3_chk147 (v583 : IVec S16 32) : Prop :=
  (∀ a x, ((![v583] : Fin 1 → IVec S16 32) a x).toNat < S102656.size a)
theorem k3_idx148_inb : ∀ (v583 : IVec S16 32) (k3_hw147 : k3_chk147 v583), ∀ a x, ((![v583] : Fin 1 → IVec S16 32) a x).toNat < S102656.size a := fun v583 k3_hw147 => k3_hw147

def k3_chk148 (v586 : IVec S16 32) : Prop :=
  (∀ a x, ((![v586] : Fin 1 → IVec S16 32) a x).toNat < S102656.size a)
theorem k3_idx149_inb : ∀ (v586 : IVec S16 32) (k3_hw148 : k3_chk148 v586), ∀ a x, ((![v586] : Fin 1 → IVec S16 32) a x).toNat < S102656.size a := fun v586 k3_hw148 => k3_hw148

def k3_chk149 (v589 : IVec S16 32) : Prop :=
  (∀ a x, ((![v589] : Fin 1 → IVec S16 32) a x).toNat < S102656.size a)
theorem k3_idx150_inb : ∀ (v589 : IVec S16 32) (k3_hw149 : k3_chk149 v589), ∀ a x, ((![v589] : Fin 1 → IVec S16 32) a x).toNat < S102656.size a := fun v589 k3_hw149 => k3_hw149

def k3_chk150 (v592 : IVec S16 32) : Prop :=
  (∀ a x, ((![v592] : Fin 1 → IVec S16 32) a x).toNat < S102656.size a)
theorem k3_idx151_inb : ∀ (v592 : IVec S16 32) (k3_hw150 : k3_chk150 v592), ∀ a x, ((![v592] : Fin 1 → IVec S16 32) a x).toNat < S102656.size a := fun v592 k3_hw150 => k3_hw150

def k3_chk151 (v59 : IVec S16 32) (v599 : IVec S16 32) : Prop :=
  (∀ a x, ((![v59, v599] : Fin 2 → IVec S16 32) a x).toNat < S208x64.size a)
theorem k3_idx152_inb : ∀ (v59 : IVec S16 32) (v599 : IVec S16 32) (k3_hw151 : k3_chk151 v59 v599), ∀ a x, ((![v59, v599] : Fin 2 → IVec S16 32) a x).toNat < S208x64.size a := fun v59 v599 k3_hw151 => k3_hw151

def k3_chk152 (v601 : IVec S16 32) : Prop :=
  (∀ a x, ((![v601] : Fin 1 → IVec S16 32) a x).toNat < S102656.size a)
theorem k3_idx153_inb : ∀ (v601 : IVec S16 32) (k3_hw152 : k3_chk152 v601), ∀ a x, ((![v601] : Fin 1 → IVec S16 32) a x).toNat < S102656.size a := fun v601 k3_hw152 => k3_hw152

def k3_chk153 (v604 : IVec S16 32) : Prop :=
  (∀ a x, ((![v604] : Fin 1 → IVec S16 32) a x).toNat < S102656.size a)
theorem k3_idx154_inb : ∀ (v604 : IVec S16 32) (k3_hw153 : k3_chk153 v604), ∀ a x, ((![v604] : Fin 1 → IVec S16 32) a x).toNat < S102656.size a := fun v604 k3_hw153 => k3_hw153

def k3_chk154 (v607 : IVec S16 32) : Prop :=
  (∀ a x, ((![v607] : Fin 1 → IVec S16 32) a x).toNat < S102656.size a)
theorem k3_idx155_inb : ∀ (v607 : IVec S16 32) (k3_hw154 : k3_chk154 v607), ∀ a x, ((![v607] : Fin 1 → IVec S16 32) a x).toNat < S102656.size a := fun v607 k3_hw154 => k3_hw154

def k3_chk155 (v610 : IVec S16 32) : Prop :=
  (∀ a x, ((![v610] : Fin 1 → IVec S16 32) a x).toNat < S102656.size a)
theorem k3_idx156_inb : ∀ (v610 : IVec S16 32) (k3_hw155 : k3_chk155 v610), ∀ a x, ((![v610] : Fin 1 → IVec S16 32) a x).toNat < S102656.size a := fun v610 k3_hw155 => k3_hw155

def k3_chk156 (v59 : IVec S16 32) (v617 : IVec S16 32) : Prop :=
  (∀ a x, ((![v59, v617] : Fin 2 → IVec S16 32) a x).toNat < S208x64.size a)
theorem k3_idx157_inb : ∀ (v59 : IVec S16 32) (v617 : IVec S16 32) (k3_hw156 : k3_chk156 v59 v617), ∀ a x, ((![v59, v617] : Fin 2 → IVec S16 32) a x).toNat < S208x64.size a := fun v59 v617 k3_hw156 => k3_hw156

def k3_chk157 (v619 : IVec S16 32) : Prop :=
  (∀ a x, ((![v619] : Fin 1 → IVec S16 32) a x).toNat < S102656.size a)
theorem k3_idx158_inb : ∀ (v619 : IVec S16 32) (k3_hw157 : k3_chk157 v619), ∀ a x, ((![v619] : Fin 1 → IVec S16 32) a x).toNat < S102656.size a := fun v619 k3_hw157 => k3_hw157

def k3_chk158 (v622 : IVec S16 32) : Prop :=
  (∀ a x, ((![v622] : Fin 1 → IVec S16 32) a x).toNat < S102656.size a)
theorem k3_idx159_inb : ∀ (v622 : IVec S16 32) (k3_hw158 : k3_chk158 v622), ∀ a x, ((![v622] : Fin 1 → IVec S16 32) a x).toNat < S102656.size a := fun v622 k3_hw158 => k3_hw158

def k3_chk159 (v625 : IVec S16 32) : Prop :=
  (∀ a x, ((![v625] : Fin 1 → IVec S16 32) a x).toNat < S102656.size a)
theorem k3_idx160_inb : ∀ (v625 : IVec S16 32) (k3_hw159 : k3_chk159 v625), ∀ a x, ((![v625] : Fin 1 → IVec S16 32) a x).toNat < S102656.size a := fun v625 k3_hw159 => k3_hw159

def k3_chk160 (v628 : IVec S16 32) : Prop :=
  (∀ a x, ((![v628] : Fin 1 → IVec S16 32) a x).toNat < S102656.size a)
theorem k3_idx161_inb : ∀ (v628 : IVec S16 32) (k3_hw160 : k3_chk160 v628), ∀ a x, ((![v628] : Fin 1 → IVec S16 32) a x).toNat < S102656.size a := fun v628 k3_hw160 => k3_hw160

def k3_chk161 (v59 : IVec S16 32) (v635 : IVec S16 32) : Prop :=
  (∀ a x, ((![v59, v635] : Fin 2 → IVec S16 32) a x).toNat < S208x64.size a)
theorem k3_idx162_inb : ∀ (v59 : IVec S16 32) (v635 : IVec S16 32) (k3_hw161 : k3_chk161 v59 v635), ∀ a x, ((![v59, v635] : Fin 2 → IVec S16 32) a x).toNat < S208x64.size a := fun v59 v635 k3_hw161 => k3_hw161

def k3_chk162 (v637 : IVec S16 32) : Prop :=
  (∀ a x, ((![v637] : Fin 1 → IVec S16 32) a x).toNat < S102656.size a)
theorem k3_idx163_inb : ∀ (v637 : IVec S16 32) (k3_hw162 : k3_chk162 v637), ∀ a x, ((![v637] : Fin 1 → IVec S16 32) a x).toNat < S102656.size a := fun v637 k3_hw162 => k3_hw162

def k3_chk163 (v640 : IVec S16 32) : Prop :=
  (∀ a x, ((![v640] : Fin 1 → IVec S16 32) a x).toNat < S102656.size a)
theorem k3_idx164_inb : ∀ (v640 : IVec S16 32) (k3_hw163 : k3_chk163 v640), ∀ a x, ((![v640] : Fin 1 → IVec S16 32) a x).toNat < S102656.size a := fun v640 k3_hw163 => k3_hw163

def k3_chk164 (v643 : IVec S16 32) : Prop :=
  (∀ a x, ((![v643] : Fin 1 → IVec S16 32) a x).toNat < S102656.size a)
theorem k3_idx165_inb : ∀ (v643 : IVec S16 32) (k3_hw164 : k3_chk164 v643), ∀ a x, ((![v643] : Fin 1 → IVec S16 32) a x).toNat < S102656.size a := fun v643 k3_hw164 => k3_hw164

def k3_chk165 (v646 : IVec S16 32) : Prop :=
  (∀ a x, ((![v646] : Fin 1 → IVec S16 32) a x).toNat < S102656.size a)
theorem k3_idx166_inb : ∀ (v646 : IVec S16 32) (k3_hw165 : k3_chk165 v646), ∀ a x, ((![v646] : Fin 1 → IVec S16 32) a x).toNat < S102656.size a := fun v646 k3_hw165 => k3_hw165

def k3_chk166 (v59 : IVec S16 32) (v653 : IVec S16 32) : Prop :=
  (∀ a x, ((![v59, v653] : Fin 2 → IVec S16 32) a x).toNat < S208x64.size a)
theorem k3_idx167_inb : ∀ (v59 : IVec S16 32) (v653 : IVec S16 32) (k3_hw166 : k3_chk166 v59 v653), ∀ a x, ((![v59, v653] : Fin 2 → IVec S16 32) a x).toNat < S208x64.size a := fun v59 v653 k3_hw166 => k3_hw166

def k3_chk167 (v655 : IVec S16 32) : Prop :=
  (∀ a x, ((![v655] : Fin 1 → IVec S16 32) a x).toNat < S102656.size a)
theorem k3_idx168_inb : ∀ (v655 : IVec S16 32) (k3_hw167 : k3_chk167 v655), ∀ a x, ((![v655] : Fin 1 → IVec S16 32) a x).toNat < S102656.size a := fun v655 k3_hw167 => k3_hw167

def k3_chk168 (v658 : IVec S16 32) : Prop :=
  (∀ a x, ((![v658] : Fin 1 → IVec S16 32) a x).toNat < S102656.size a)
theorem k3_idx169_inb : ∀ (v658 : IVec S16 32) (k3_hw168 : k3_chk168 v658), ∀ a x, ((![v658] : Fin 1 → IVec S16 32) a x).toNat < S102656.size a := fun v658 k3_hw168 => k3_hw168

def k3_chk169 (v661 : IVec S16 32) : Prop :=
  (∀ a x, ((![v661] : Fin 1 → IVec S16 32) a x).toNat < S102656.size a)
theorem k3_idx170_inb : ∀ (v661 : IVec S16 32) (k3_hw169 : k3_chk169 v661), ∀ a x, ((![v661] : Fin 1 → IVec S16 32) a x).toNat < S102656.size a := fun v661 k3_hw169 => k3_hw169

def k3_chk170 (v664 : IVec S16 32) : Prop :=
  (∀ a x, ((![v664] : Fin 1 → IVec S16 32) a x).toNat < S102656.size a)
theorem k3_idx171_inb : ∀ (v664 : IVec S16 32) (k3_hw170 : k3_chk170 v664), ∀ a x, ((![v664] : Fin 1 → IVec S16 32) a x).toNat < S102656.size a := fun v664 k3_hw170 => k3_hw170

def k3_chk171 (v59 : IVec S16 32) (v671 : IVec S16 32) : Prop :=
  (∀ a x, ((![v59, v671] : Fin 2 → IVec S16 32) a x).toNat < S208x64.size a)
theorem k3_idx172_inb : ∀ (v59 : IVec S16 32) (v671 : IVec S16 32) (k3_hw171 : k3_chk171 v59 v671), ∀ a x, ((![v59, v671] : Fin 2 → IVec S16 32) a x).toNat < S208x64.size a := fun v59 v671 k3_hw171 => k3_hw171

def k3_chk172 (v673 : IVec S16 32) : Prop :=
  (∀ a x, ((![v673] : Fin 1 → IVec S16 32) a x).toNat < S102656.size a)
theorem k3_idx173_inb : ∀ (v673 : IVec S16 32) (k3_hw172 : k3_chk172 v673), ∀ a x, ((![v673] : Fin 1 → IVec S16 32) a x).toNat < S102656.size a := fun v673 k3_hw172 => k3_hw172

def k3_chk173 (v676 : IVec S16 32) : Prop :=
  (∀ a x, ((![v676] : Fin 1 → IVec S16 32) a x).toNat < S102656.size a)
theorem k3_idx174_inb : ∀ (v676 : IVec S16 32) (k3_hw173 : k3_chk173 v676), ∀ a x, ((![v676] : Fin 1 → IVec S16 32) a x).toNat < S102656.size a := fun v676 k3_hw173 => k3_hw173

def k3_chk174 (v679 : IVec S16 32) : Prop :=
  (∀ a x, ((![v679] : Fin 1 → IVec S16 32) a x).toNat < S102656.size a)
theorem k3_idx175_inb : ∀ (v679 : IVec S16 32) (k3_hw174 : k3_chk174 v679), ∀ a x, ((![v679] : Fin 1 → IVec S16 32) a x).toNat < S102656.size a := fun v679 k3_hw174 => k3_hw174

def k3_chk175 (v682 : IVec S16 32) : Prop :=
  (∀ a x, ((![v682] : Fin 1 → IVec S16 32) a x).toNat < S102656.size a)
theorem k3_idx176_inb : ∀ (v682 : IVec S16 32) (k3_hw175 : k3_chk175 v682), ∀ a x, ((![v682] : Fin 1 → IVec S16 32) a x).toNat < S102656.size a := fun v682 k3_hw175 => k3_hw175

def k3_chk176 (v59 : IVec S16 32) (v689 : IVec S16 32) : Prop :=
  (∀ a x, ((![v59, v689] : Fin 2 → IVec S16 32) a x).toNat < S208x64.size a)
theorem k3_idx177_inb : ∀ (v59 : IVec S16 32) (v689 : IVec S16 32) (k3_hw176 : k3_chk176 v59 v689), ∀ a x, ((![v59, v689] : Fin 2 → IVec S16 32) a x).toNat < S208x64.size a := fun v59 v689 k3_hw176 => k3_hw176

def k3_chk177 (v691 : IVec S16 32) : Prop :=
  (∀ a x, ((![v691] : Fin 1 → IVec S16 32) a x).toNat < S102656.size a)
theorem k3_idx178_inb : ∀ (v691 : IVec S16 32) (k3_hw177 : k3_chk177 v691), ∀ a x, ((![v691] : Fin 1 → IVec S16 32) a x).toNat < S102656.size a := fun v691 k3_hw177 => k3_hw177

def k3_chk178 (v694 : IVec S16 32) : Prop :=
  (∀ a x, ((![v694] : Fin 1 → IVec S16 32) a x).toNat < S102656.size a)
theorem k3_idx179_inb : ∀ (v694 : IVec S16 32) (k3_hw178 : k3_chk178 v694), ∀ a x, ((![v694] : Fin 1 → IVec S16 32) a x).toNat < S102656.size a := fun v694 k3_hw178 => k3_hw178

def k3_chk179 (v697 : IVec S16 32) : Prop :=
  (∀ a x, ((![v697] : Fin 1 → IVec S16 32) a x).toNat < S102656.size a)
theorem k3_idx180_inb : ∀ (v697 : IVec S16 32) (k3_hw179 : k3_chk179 v697), ∀ a x, ((![v697] : Fin 1 → IVec S16 32) a x).toNat < S102656.size a := fun v697 k3_hw179 => k3_hw179

def k3_chk180 (v700 : IVec S16 32) : Prop :=
  (∀ a x, ((![v700] : Fin 1 → IVec S16 32) a x).toNat < S102656.size a)
theorem k3_idx181_inb : ∀ (v700 : IVec S16 32) (k3_hw180 : k3_chk180 v700), ∀ a x, ((![v700] : Fin 1 → IVec S16 32) a x).toNat < S102656.size a := fun v700 k3_hw180 => k3_hw180

def k3_chk181 (v59 : IVec S16 32) (v707 : IVec S16 32) : Prop :=
  (∀ a x, ((![v59, v707] : Fin 2 → IVec S16 32) a x).toNat < S208x64.size a)
theorem k3_idx182_inb : ∀ (v59 : IVec S16 32) (v707 : IVec S16 32) (k3_hw181 : k3_chk181 v59 v707), ∀ a x, ((![v59, v707] : Fin 2 → IVec S16 32) a x).toNat < S208x64.size a := fun v59 v707 k3_hw181 => k3_hw181

def k3_chk182 (v709 : IVec S16 32) : Prop :=
  (∀ a x, ((![v709] : Fin 1 → IVec S16 32) a x).toNat < S102656.size a)
theorem k3_idx183_inb : ∀ (v709 : IVec S16 32) (k3_hw182 : k3_chk182 v709), ∀ a x, ((![v709] : Fin 1 → IVec S16 32) a x).toNat < S102656.size a := fun v709 k3_hw182 => k3_hw182

def k3_chk183 (v712 : IVec S16 32) : Prop :=
  (∀ a x, ((![v712] : Fin 1 → IVec S16 32) a x).toNat < S102656.size a)
theorem k3_idx184_inb : ∀ (v712 : IVec S16 32) (k3_hw183 : k3_chk183 v712), ∀ a x, ((![v712] : Fin 1 → IVec S16 32) a x).toNat < S102656.size a := fun v712 k3_hw183 => k3_hw183

def k3_chk184 (v715 : IVec S16 32) : Prop :=
  (∀ a x, ((![v715] : Fin 1 → IVec S16 32) a x).toNat < S102656.size a)
theorem k3_idx185_inb : ∀ (v715 : IVec S16 32) (k3_hw184 : k3_chk184 v715), ∀ a x, ((![v715] : Fin 1 → IVec S16 32) a x).toNat < S102656.size a := fun v715 k3_hw184 => k3_hw184

def k3_chk185 (v718 : IVec S16 32) : Prop :=
  (∀ a x, ((![v718] : Fin 1 → IVec S16 32) a x).toNat < S102656.size a)
theorem k3_idx186_inb : ∀ (v718 : IVec S16 32) (k3_hw185 : k3_chk185 v718), ∀ a x, ((![v718] : Fin 1 → IVec S16 32) a x).toNat < S102656.size a := fun v718 k3_hw185 => k3_hw185

def k3_chk186 (v59 : IVec S16 32) (v725 : IVec S16 32) : Prop :=
  (∀ a x, ((![v59, v725] : Fin 2 → IVec S16 32) a x).toNat < S208x64.size a)
theorem k3_idx187_inb : ∀ (v59 : IVec S16 32) (v725 : IVec S16 32) (k3_hw186 : k3_chk186 v59 v725), ∀ a x, ((![v59, v725] : Fin 2 → IVec S16 32) a x).toNat < S208x64.size a := fun v59 v725 k3_hw186 => k3_hw186

def k3_chk187 (v727 : IVec S16 32) : Prop :=
  (∀ a x, ((![v727] : Fin 1 → IVec S16 32) a x).toNat < S102656.size a)
theorem k3_idx188_inb : ∀ (v727 : IVec S16 32) (k3_hw187 : k3_chk187 v727), ∀ a x, ((![v727] : Fin 1 → IVec S16 32) a x).toNat < S102656.size a := fun v727 k3_hw187 => k3_hw187

def k3_chk188 (v730 : IVec S16 32) : Prop :=
  (∀ a x, ((![v730] : Fin 1 → IVec S16 32) a x).toNat < S102656.size a)
theorem k3_idx189_inb : ∀ (v730 : IVec S16 32) (k3_hw188 : k3_chk188 v730), ∀ a x, ((![v730] : Fin 1 → IVec S16 32) a x).toNat < S102656.size a := fun v730 k3_hw188 => k3_hw188

def k3_chk189 (v733 : IVec S16 32) : Prop :=
  (∀ a x, ((![v733] : Fin 1 → IVec S16 32) a x).toNat < S102656.size a)
theorem k3_idx190_inb : ∀ (v733 : IVec S16 32) (k3_hw189 : k3_chk189 v733), ∀ a x, ((![v733] : Fin 1 → IVec S16 32) a x).toNat < S102656.size a := fun v733 k3_hw189 => k3_hw189

def k3_chk190 (v736 : IVec S16 32) : Prop :=
  (∀ a x, ((![v736] : Fin 1 → IVec S16 32) a x).toNat < S102656.size a)
theorem k3_idx191_inb : ∀ (v736 : IVec S16 32) (k3_hw190 : k3_chk190 v736), ∀ a x, ((![v736] : Fin 1 → IVec S16 32) a x).toNat < S102656.size a := fun v736 k3_hw190 => k3_hw190

def k3_chk191 (v59 : IVec S16 32) (v743 : IVec S16 32) : Prop :=
  (∀ a x, ((![v59, v743] : Fin 2 → IVec S16 32) a x).toNat < S208x64.size a)
theorem k3_idx192_inb : ∀ (v59 : IVec S16 32) (v743 : IVec S16 32) (k3_hw191 : k3_chk191 v59 v743), ∀ a x, ((![v59, v743] : Fin 2 → IVec S16 32) a x).toNat < S208x64.size a := fun v59 v743 k3_hw191 => k3_hw191

def k3_chk192 (v745 : IVec S16 32) : Prop :=
  (∀ a x, ((![v745] : Fin 1 → IVec S16 32) a x).toNat < S102656.size a)
theorem k3_idx193_inb : ∀ (v745 : IVec S16 32) (k3_hw192 : k3_chk192 v745), ∀ a x, ((![v745] : Fin 1 → IVec S16 32) a x).toNat < S102656.size a := fun v745 k3_hw192 => k3_hw192

def k3_chk193 (v748 : IVec S16 32) : Prop :=
  (∀ a x, ((![v748] : Fin 1 → IVec S16 32) a x).toNat < S102656.size a)
theorem k3_idx194_inb : ∀ (v748 : IVec S16 32) (k3_hw193 : k3_chk193 v748), ∀ a x, ((![v748] : Fin 1 → IVec S16 32) a x).toNat < S102656.size a := fun v748 k3_hw193 => k3_hw193

def k3_chk194 (v751 : IVec S16 32) : Prop :=
  (∀ a x, ((![v751] : Fin 1 → IVec S16 32) a x).toNat < S102656.size a)
theorem k3_idx195_inb : ∀ (v751 : IVec S16 32) (k3_hw194 : k3_chk194 v751), ∀ a x, ((![v751] : Fin 1 → IVec S16 32) a x).toNat < S102656.size a := fun v751 k3_hw194 => k3_hw194

def k3_chk195 (v754 : IVec S16 32) : Prop :=
  (∀ a x, ((![v754] : Fin 1 → IVec S16 32) a x).toNat < S102656.size a)
theorem k3_idx196_inb : ∀ (v754 : IVec S16 32) (k3_hw195 : k3_chk195 v754), ∀ a x, ((![v754] : Fin 1 → IVec S16 32) a x).toNat < S102656.size a := fun v754 k3_hw195 => k3_hw195

def k3_chk196 (v59 : IVec S16 32) (v761 : IVec S16 32) : Prop :=
  (∀ a x, ((![v59, v761] : Fin 2 → IVec S16 32) a x).toNat < S208x64.size a)
theorem k3_idx197_inb : ∀ (v59 : IVec S16 32) (v761 : IVec S16 32) (k3_hw196 : k3_chk196 v59 v761), ∀ a x, ((![v59, v761] : Fin 2 → IVec S16 32) a x).toNat < S208x64.size a := fun v59 v761 k3_hw196 => k3_hw196

def k3_chk197 (v763 : IVec S16 32) : Prop :=
  (∀ a x, ((![v763] : Fin 1 → IVec S16 32) a x).toNat < S102656.size a)
theorem k3_idx198_inb : ∀ (v763 : IVec S16 32) (k3_hw197 : k3_chk197 v763), ∀ a x, ((![v763] : Fin 1 → IVec S16 32) a x).toNat < S102656.size a := fun v763 k3_hw197 => k3_hw197

def k3_chk198 (v766 : IVec S16 32) : Prop :=
  (∀ a x, ((![v766] : Fin 1 → IVec S16 32) a x).toNat < S102656.size a)
theorem k3_idx199_inb : ∀ (v766 : IVec S16 32) (k3_hw198 : k3_chk198 v766), ∀ a x, ((![v766] : Fin 1 → IVec S16 32) a x).toNat < S102656.size a := fun v766 k3_hw198 => k3_hw198

def k3_chk199 (v769 : IVec S16 32) : Prop :=
  (∀ a x, ((![v769] : Fin 1 → IVec S16 32) a x).toNat < S102656.size a)
theorem k3_idx200_inb : ∀ (v769 : IVec S16 32) (k3_hw199 : k3_chk199 v769), ∀ a x, ((![v769] : Fin 1 → IVec S16 32) a x).toNat < S102656.size a := fun v769 k3_hw199 => k3_hw199

def k3_chk200 (v772 : IVec S16 32) : Prop :=
  (∀ a x, ((![v772] : Fin 1 → IVec S16 32) a x).toNat < S102656.size a)
theorem k3_idx201_inb : ∀ (v772 : IVec S16 32) (k3_hw200 : k3_chk200 v772), ∀ a x, ((![v772] : Fin 1 → IVec S16 32) a x).toNat < S102656.size a := fun v772 k3_hw200 => k3_hw200

def k3_chk201 (v59 : IVec S16 32) (v779 : IVec S16 32) : Prop :=
  (∀ a x, ((![v59, v779] : Fin 2 → IVec S16 32) a x).toNat < S208x64.size a)
theorem k3_idx202_inb : ∀ (v59 : IVec S16 32) (v779 : IVec S16 32) (k3_hw201 : k3_chk201 v59 v779), ∀ a x, ((![v59, v779] : Fin 2 → IVec S16 32) a x).toNat < S208x64.size a := fun v59 v779 k3_hw201 => k3_hw201

def k3_chk202 (v781 : IVec S16 32) : Prop :=
  (∀ a x, ((![v781] : Fin 1 → IVec S16 32) a x).toNat < S102656.size a)
theorem k3_idx203_inb : ∀ (v781 : IVec S16 32) (k3_hw202 : k3_chk202 v781), ∀ a x, ((![v781] : Fin 1 → IVec S16 32) a x).toNat < S102656.size a := fun v781 k3_hw202 => k3_hw202

def k3_chk203 (v784 : IVec S16 32) : Prop :=
  (∀ a x, ((![v784] : Fin 1 → IVec S16 32) a x).toNat < S102656.size a)
theorem k3_idx204_inb : ∀ (v784 : IVec S16 32) (k3_hw203 : k3_chk203 v784), ∀ a x, ((![v784] : Fin 1 → IVec S16 32) a x).toNat < S102656.size a := fun v784 k3_hw203 => k3_hw203

def k3_chk204 (v787 : IVec S16 32) : Prop :=
  (∀ a x, ((![v787] : Fin 1 → IVec S16 32) a x).toNat < S102656.size a)
theorem k3_idx205_inb : ∀ (v787 : IVec S16 32) (k3_hw204 : k3_chk204 v787), ∀ a x, ((![v787] : Fin 1 → IVec S16 32) a x).toNat < S102656.size a := fun v787 k3_hw204 => k3_hw204

def k3_chk205 (v790 : IVec S16 32) : Prop :=
  (∀ a x, ((![v790] : Fin 1 → IVec S16 32) a x).toNat < S102656.size a)
theorem k3_idx206_inb : ∀ (v790 : IVec S16 32) (k3_hw205 : k3_chk205 v790), ∀ a x, ((![v790] : Fin 1 → IVec S16 32) a x).toNat < S102656.size a := fun v790 k3_hw205 => k3_hw205

def k3_chk206 (v59 : IVec S16 32) (v797 : IVec S16 32) : Prop :=
  (∀ a x, ((![v59, v797] : Fin 2 → IVec S16 32) a x).toNat < S208x64.size a)
theorem k3_idx207_inb : ∀ (v59 : IVec S16 32) (v797 : IVec S16 32) (k3_hw206 : k3_chk206 v59 v797), ∀ a x, ((![v59, v797] : Fin 2 → IVec S16 32) a x).toNat < S208x64.size a := fun v59 v797 k3_hw206 => k3_hw206

def k3_chk207 (v799 : IVec S16 32) : Prop :=
  (∀ a x, ((![v799] : Fin 1 → IVec S16 32) a x).toNat < S102656.size a)
theorem k3_idx208_inb : ∀ (v799 : IVec S16 32) (k3_hw207 : k3_chk207 v799), ∀ a x, ((![v799] : Fin 1 → IVec S16 32) a x).toNat < S102656.size a := fun v799 k3_hw207 => k3_hw207

def k3_chk208 (v802 : IVec S16 32) : Prop :=
  (∀ a x, ((![v802] : Fin 1 → IVec S16 32) a x).toNat < S102656.size a)
theorem k3_idx209_inb : ∀ (v802 : IVec S16 32) (k3_hw208 : k3_chk208 v802), ∀ a x, ((![v802] : Fin 1 → IVec S16 32) a x).toNat < S102656.size a := fun v802 k3_hw208 => k3_hw208

def k3_chk209 (v805 : IVec S16 32) : Prop :=
  (∀ a x, ((![v805] : Fin 1 → IVec S16 32) a x).toNat < S102656.size a)
theorem k3_idx210_inb : ∀ (v805 : IVec S16 32) (k3_hw209 : k3_chk209 v805), ∀ a x, ((![v805] : Fin 1 → IVec S16 32) a x).toNat < S102656.size a := fun v805 k3_hw209 => k3_hw209

def k3_chk210 (v808 : IVec S16 32) : Prop :=
  (∀ a x, ((![v808] : Fin 1 → IVec S16 32) a x).toNat < S102656.size a)
theorem k3_idx211_inb : ∀ (v808 : IVec S16 32) (k3_hw210 : k3_chk210 v808), ∀ a x, ((![v808] : Fin 1 → IVec S16 32) a x).toNat < S102656.size a := fun v808 k3_hw210 => k3_hw210

def k3_chk211 (v59 : IVec S16 32) (v815 : IVec S16 32) : Prop :=
  (∀ a x, ((![v59, v815] : Fin 2 → IVec S16 32) a x).toNat < S208x64.size a)
theorem k3_idx212_inb : ∀ (v59 : IVec S16 32) (v815 : IVec S16 32) (k3_hw211 : k3_chk211 v59 v815), ∀ a x, ((![v59, v815] : Fin 2 → IVec S16 32) a x).toNat < S208x64.size a := fun v59 v815 k3_hw211 => k3_hw211

def k3_chk212 (v817 : IVec S16 32) : Prop :=
  (∀ a x, ((![v817] : Fin 1 → IVec S16 32) a x).toNat < S102656.size a)
theorem k3_idx213_inb : ∀ (v817 : IVec S16 32) (k3_hw212 : k3_chk212 v817), ∀ a x, ((![v817] : Fin 1 → IVec S16 32) a x).toNat < S102656.size a := fun v817 k3_hw212 => k3_hw212

def k3_chk213 (v820 : IVec S16 32) : Prop :=
  (∀ a x, ((![v820] : Fin 1 → IVec S16 32) a x).toNat < S102656.size a)
theorem k3_idx214_inb : ∀ (v820 : IVec S16 32) (k3_hw213 : k3_chk213 v820), ∀ a x, ((![v820] : Fin 1 → IVec S16 32) a x).toNat < S102656.size a := fun v820 k3_hw213 => k3_hw213

def k3_chk214 (v823 : IVec S16 32) : Prop :=
  (∀ a x, ((![v823] : Fin 1 → IVec S16 32) a x).toNat < S102656.size a)
theorem k3_idx215_inb : ∀ (v823 : IVec S16 32) (k3_hw214 : k3_chk214 v823), ∀ a x, ((![v823] : Fin 1 → IVec S16 32) a x).toNat < S102656.size a := fun v823 k3_hw214 => k3_hw214

def k3_chk215 (v826 : IVec S16 32) : Prop :=
  (∀ a x, ((![v826] : Fin 1 → IVec S16 32) a x).toNat < S102656.size a)
theorem k3_idx216_inb : ∀ (v826 : IVec S16 32) (k3_hw215 : k3_chk215 v826), ∀ a x, ((![v826] : Fin 1 → IVec S16 32) a x).toNat < S102656.size a := fun v826 k3_hw215 => k3_hw215

def k3_chk216 (v59 : IVec S16 32) (v833 : IVec S16 32) : Prop :=
  (∀ a x, ((![v59, v833] : Fin 2 → IVec S16 32) a x).toNat < S208x64.size a)
theorem k3_idx217_inb : ∀ (v59 : IVec S16 32) (v833 : IVec S16 32) (k3_hw216 : k3_chk216 v59 v833), ∀ a x, ((![v59, v833] : Fin 2 → IVec S16 32) a x).toNat < S208x64.size a := fun v59 v833 k3_hw216 => k3_hw216

def k3_chk217 (v835 : IVec S16 32) : Prop :=
  (∀ a x, ((![v835] : Fin 1 → IVec S16 32) a x).toNat < S102656.size a)
theorem k3_idx218_inb : ∀ (v835 : IVec S16 32) (k3_hw217 : k3_chk217 v835), ∀ a x, ((![v835] : Fin 1 → IVec S16 32) a x).toNat < S102656.size a := fun v835 k3_hw217 => k3_hw217

def k3_chk218 (v838 : IVec S16 32) : Prop :=
  (∀ a x, ((![v838] : Fin 1 → IVec S16 32) a x).toNat < S102656.size a)
theorem k3_idx219_inb : ∀ (v838 : IVec S16 32) (k3_hw218 : k3_chk218 v838), ∀ a x, ((![v838] : Fin 1 → IVec S16 32) a x).toNat < S102656.size a := fun v838 k3_hw218 => k3_hw218

def k3_chk219 (v841 : IVec S16 32) : Prop :=
  (∀ a x, ((![v841] : Fin 1 → IVec S16 32) a x).toNat < S102656.size a)
theorem k3_idx220_inb : ∀ (v841 : IVec S16 32) (k3_hw219 : k3_chk219 v841), ∀ a x, ((![v841] : Fin 1 → IVec S16 32) a x).toNat < S102656.size a := fun v841 k3_hw219 => k3_hw219

def k3_chk220 (v844 : IVec S16 32) : Prop :=
  (∀ a x, ((![v844] : Fin 1 → IVec S16 32) a x).toNat < S102656.size a)
theorem k3_idx221_inb : ∀ (v844 : IVec S16 32) (k3_hw220 : k3_chk220 v844), ∀ a x, ((![v844] : Fin 1 → IVec S16 32) a x).toNat < S102656.size a := fun v844 k3_hw220 => k3_hw220

def k3_chk221 (v59 : IVec S16 32) (v851 : IVec S16 32) : Prop :=
  (∀ a x, ((![v59, v851] : Fin 2 → IVec S16 32) a x).toNat < S208x64.size a)
theorem k3_idx222_inb : ∀ (v59 : IVec S16 32) (v851 : IVec S16 32) (k3_hw221 : k3_chk221 v59 v851), ∀ a x, ((![v59, v851] : Fin 2 → IVec S16 32) a x).toNat < S208x64.size a := fun v59 v851 k3_hw221 => k3_hw221

def k3_chk222 (v853 : IVec S16 32) : Prop :=
  (∀ a x, ((![v853] : Fin 1 → IVec S16 32) a x).toNat < S102656.size a)
theorem k3_idx223_inb : ∀ (v853 : IVec S16 32) (k3_hw222 : k3_chk222 v853), ∀ a x, ((![v853] : Fin 1 → IVec S16 32) a x).toNat < S102656.size a := fun v853 k3_hw222 => k3_hw222

def k3_chk223 (v856 : IVec S16 32) : Prop :=
  (∀ a x, ((![v856] : Fin 1 → IVec S16 32) a x).toNat < S102656.size a)
theorem k3_idx224_inb : ∀ (v856 : IVec S16 32) (k3_hw223 : k3_chk223 v856), ∀ a x, ((![v856] : Fin 1 → IVec S16 32) a x).toNat < S102656.size a := fun v856 k3_hw223 => k3_hw223

def k3_chk224 (v859 : IVec S16 32) : Prop :=
  (∀ a x, ((![v859] : Fin 1 → IVec S16 32) a x).toNat < S102656.size a)
theorem k3_idx225_inb : ∀ (v859 : IVec S16 32) (k3_hw224 : k3_chk224 v859), ∀ a x, ((![v859] : Fin 1 → IVec S16 32) a x).toNat < S102656.size a := fun v859 k3_hw224 => k3_hw224

def k3_chk225 (v862 : IVec S16 32) : Prop :=
  (∀ a x, ((![v862] : Fin 1 → IVec S16 32) a x).toNat < S102656.size a)
theorem k3_idx226_inb : ∀ (v862 : IVec S16 32) (k3_hw225 : k3_chk225 v862), ∀ a x, ((![v862] : Fin 1 → IVec S16 32) a x).toNat < S102656.size a := fun v862 k3_hw225 => k3_hw225

def k3_chk226 (v59 : IVec S16 32) (v869 : IVec S16 32) : Prop :=
  (∀ a x, ((![v59, v869] : Fin 2 → IVec S16 32) a x).toNat < S208x64.size a)
theorem k3_idx227_inb : ∀ (v59 : IVec S16 32) (v869 : IVec S16 32) (k3_hw226 : k3_chk226 v59 v869), ∀ a x, ((![v59, v869] : Fin 2 → IVec S16 32) a x).toNat < S208x64.size a := fun v59 v869 k3_hw226 => k3_hw226

def k3_chk227 (v871 : IVec S16 32) : Prop :=
  (∀ a x, ((![v871] : Fin 1 → IVec S16 32) a x).toNat < S102656.size a)
theorem k3_idx228_inb : ∀ (v871 : IVec S16 32) (k3_hw227 : k3_chk227 v871), ∀ a x, ((![v871] : Fin 1 → IVec S16 32) a x).toNat < S102656.size a := fun v871 k3_hw227 => k3_hw227

def k3_chk228 (v874 : IVec S16 32) : Prop :=
  (∀ a x, ((![v874] : Fin 1 → IVec S16 32) a x).toNat < S102656.size a)
theorem k3_idx229_inb : ∀ (v874 : IVec S16 32) (k3_hw228 : k3_chk228 v874), ∀ a x, ((![v874] : Fin 1 → IVec S16 32) a x).toNat < S102656.size a := fun v874 k3_hw228 => k3_hw228

def k3_chk229 (v877 : IVec S16 32) : Prop :=
  (∀ a x, ((![v877] : Fin 1 → IVec S16 32) a x).toNat < S102656.size a)
theorem k3_idx230_inb : ∀ (v877 : IVec S16 32) (k3_hw229 : k3_chk229 v877), ∀ a x, ((![v877] : Fin 1 → IVec S16 32) a x).toNat < S102656.size a := fun v877 k3_hw229 => k3_hw229

def k3_chk230 (v880 : IVec S16 32) : Prop :=
  (∀ a x, ((![v880] : Fin 1 → IVec S16 32) a x).toNat < S102656.size a)
theorem k3_idx231_inb : ∀ (v880 : IVec S16 32) (k3_hw230 : k3_chk230 v880), ∀ a x, ((![v880] : Fin 1 → IVec S16 32) a x).toNat < S102656.size a := fun v880 k3_hw230 => k3_hw230

def k3_chk231 (v59 : IVec S16 32) (v887 : IVec S16 32) : Prop :=
  (∀ a x, ((![v59, v887] : Fin 2 → IVec S16 32) a x).toNat < S208x64.size a)
theorem k3_idx232_inb : ∀ (v59 : IVec S16 32) (v887 : IVec S16 32) (k3_hw231 : k3_chk231 v59 v887), ∀ a x, ((![v59, v887] : Fin 2 → IVec S16 32) a x).toNat < S208x64.size a := fun v59 v887 k3_hw231 => k3_hw231

def k3_chk232 (v889 : IVec S16 32) : Prop :=
  (∀ a x, ((![v889] : Fin 1 → IVec S16 32) a x).toNat < S102656.size a)
theorem k3_idx233_inb : ∀ (v889 : IVec S16 32) (k3_hw232 : k3_chk232 v889), ∀ a x, ((![v889] : Fin 1 → IVec S16 32) a x).toNat < S102656.size a := fun v889 k3_hw232 => k3_hw232

def k3_chk233 (v892 : IVec S16 32) : Prop :=
  (∀ a x, ((![v892] : Fin 1 → IVec S16 32) a x).toNat < S102656.size a)
theorem k3_idx234_inb : ∀ (v892 : IVec S16 32) (k3_hw233 : k3_chk233 v892), ∀ a x, ((![v892] : Fin 1 → IVec S16 32) a x).toNat < S102656.size a := fun v892 k3_hw233 => k3_hw233

def k3_chk234 (v895 : IVec S16 32) : Prop :=
  (∀ a x, ((![v895] : Fin 1 → IVec S16 32) a x).toNat < S102656.size a)
theorem k3_idx235_inb : ∀ (v895 : IVec S16 32) (k3_hw234 : k3_chk234 v895), ∀ a x, ((![v895] : Fin 1 → IVec S16 32) a x).toNat < S102656.size a := fun v895 k3_hw234 => k3_hw234

def k3_chk235 (v898 : IVec S16 32) : Prop :=
  (∀ a x, ((![v898] : Fin 1 → IVec S16 32) a x).toNat < S102656.size a)
theorem k3_idx236_inb : ∀ (v898 : IVec S16 32) (k3_hw235 : k3_chk235 v898), ∀ a x, ((![v898] : Fin 1 → IVec S16 32) a x).toNat < S102656.size a := fun v898 k3_hw235 => k3_hw235

def k3_chk236 (v59 : IVec S16 32) (v905 : IVec S16 32) : Prop :=
  (∀ a x, ((![v59, v905] : Fin 2 → IVec S16 32) a x).toNat < S208x64.size a)
theorem k3_idx237_inb : ∀ (v59 : IVec S16 32) (v905 : IVec S16 32) (k3_hw236 : k3_chk236 v59 v905), ∀ a x, ((![v59, v905] : Fin 2 → IVec S16 32) a x).toNat < S208x64.size a := fun v59 v905 k3_hw236 => k3_hw236

def k3_chk237 (v907 : IVec S16 32) : Prop :=
  (∀ a x, ((![v907] : Fin 1 → IVec S16 32) a x).toNat < S102656.size a)
theorem k3_idx238_inb : ∀ (v907 : IVec S16 32) (k3_hw237 : k3_chk237 v907), ∀ a x, ((![v907] : Fin 1 → IVec S16 32) a x).toNat < S102656.size a := fun v907 k3_hw237 => k3_hw237

def k3_chk238 (v910 : IVec S16 32) : Prop :=
  (∀ a x, ((![v910] : Fin 1 → IVec S16 32) a x).toNat < S102656.size a)
theorem k3_idx239_inb : ∀ (v910 : IVec S16 32) (k3_hw238 : k3_chk238 v910), ∀ a x, ((![v910] : Fin 1 → IVec S16 32) a x).toNat < S102656.size a := fun v910 k3_hw238 => k3_hw238

def k3_chk239 (v913 : IVec S16 32) : Prop :=
  (∀ a x, ((![v913] : Fin 1 → IVec S16 32) a x).toNat < S102656.size a)
theorem k3_idx240_inb : ∀ (v913 : IVec S16 32) (k3_hw239 : k3_chk239 v913), ∀ a x, ((![v913] : Fin 1 → IVec S16 32) a x).toNat < S102656.size a := fun v913 k3_hw239 => k3_hw239

def k3_chk240 (v916 : IVec S16 32) : Prop :=
  (∀ a x, ((![v916] : Fin 1 → IVec S16 32) a x).toNat < S102656.size a)
theorem k3_idx241_inb : ∀ (v916 : IVec S16 32) (k3_hw240 : k3_chk240 v916), ∀ a x, ((![v916] : Fin 1 → IVec S16 32) a x).toNat < S102656.size a := fun v916 k3_hw240 => k3_hw240

def k3_chk241 (v59 : IVec S16 32) (v923 : IVec S16 32) : Prop :=
  (∀ a x, ((![v59, v923] : Fin 2 → IVec S16 32) a x).toNat < S208x64.size a)
theorem k3_idx242_inb : ∀ (v59 : IVec S16 32) (v923 : IVec S16 32) (k3_hw241 : k3_chk241 v59 v923), ∀ a x, ((![v59, v923] : Fin 2 → IVec S16 32) a x).toNat < S208x64.size a := fun v59 v923 k3_hw241 => k3_hw241

def k3_chk242 (v925 : IVec S16 32) : Prop :=
  (∀ a x, ((![v925] : Fin 1 → IVec S16 32) a x).toNat < S102656.size a)
theorem k3_idx243_inb : ∀ (v925 : IVec S16 32) (k3_hw242 : k3_chk242 v925), ∀ a x, ((![v925] : Fin 1 → IVec S16 32) a x).toNat < S102656.size a := fun v925 k3_hw242 => k3_hw242

def k3_chk243 (v928 : IVec S16 32) : Prop :=
  (∀ a x, ((![v928] : Fin 1 → IVec S16 32) a x).toNat < S102656.size a)
theorem k3_idx244_inb : ∀ (v928 : IVec S16 32) (k3_hw243 : k3_chk243 v928), ∀ a x, ((![v928] : Fin 1 → IVec S16 32) a x).toNat < S102656.size a := fun v928 k3_hw243 => k3_hw243

def k3_chk244 (v931 : IVec S16 32) : Prop :=
  (∀ a x, ((![v931] : Fin 1 → IVec S16 32) a x).toNat < S102656.size a)
theorem k3_idx245_inb : ∀ (v931 : IVec S16 32) (k3_hw244 : k3_chk244 v931), ∀ a x, ((![v931] : Fin 1 → IVec S16 32) a x).toNat < S102656.size a := fun v931 k3_hw244 => k3_hw244

def k3_chk245 (v934 : IVec S16 32) : Prop :=
  (∀ a x, ((![v934] : Fin 1 → IVec S16 32) a x).toNat < S102656.size a)
theorem k3_idx246_inb : ∀ (v934 : IVec S16 32) (k3_hw245 : k3_chk245 v934), ∀ a x, ((![v934] : Fin 1 → IVec S16 32) a x).toNat < S102656.size a := fun v934 k3_hw245 => k3_hw245

def k3_chk246 (v59 : IVec S16 32) (v941 : IVec S16 32) : Prop :=
  (∀ a x, ((![v59, v941] : Fin 2 → IVec S16 32) a x).toNat < S208x64.size a)
theorem k3_idx247_inb : ∀ (v59 : IVec S16 32) (v941 : IVec S16 32) (k3_hw246 : k3_chk246 v59 v941), ∀ a x, ((![v59, v941] : Fin 2 → IVec S16 32) a x).toNat < S208x64.size a := fun v59 v941 k3_hw246 => k3_hw246

def k3_chk247 (v943 : IVec S16 32) : Prop :=
  (∀ a x, ((![v943] : Fin 1 → IVec S16 32) a x).toNat < S102656.size a)
theorem k3_idx248_inb : ∀ (v943 : IVec S16 32) (k3_hw247 : k3_chk247 v943), ∀ a x, ((![v943] : Fin 1 → IVec S16 32) a x).toNat < S102656.size a := fun v943 k3_hw247 => k3_hw247

def k3_chk248 (v946 : IVec S16 32) : Prop :=
  (∀ a x, ((![v946] : Fin 1 → IVec S16 32) a x).toNat < S102656.size a)
theorem k3_idx249_inb : ∀ (v946 : IVec S16 32) (k3_hw248 : k3_chk248 v946), ∀ a x, ((![v946] : Fin 1 → IVec S16 32) a x).toNat < S102656.size a := fun v946 k3_hw248 => k3_hw248

def k3_chk249 (v949 : IVec S16 32) : Prop :=
  (∀ a x, ((![v949] : Fin 1 → IVec S16 32) a x).toNat < S102656.size a)
theorem k3_idx250_inb : ∀ (v949 : IVec S16 32) (k3_hw249 : k3_chk249 v949), ∀ a x, ((![v949] : Fin 1 → IVec S16 32) a x).toNat < S102656.size a := fun v949 k3_hw249 => k3_hw249

def k3_chk250 (v952 : IVec S16 32) : Prop :=
  (∀ a x, ((![v952] : Fin 1 → IVec S16 32) a x).toNat < S102656.size a)
theorem k3_idx251_inb : ∀ (v952 : IVec S16 32) (k3_hw250 : k3_chk250 v952), ∀ a x, ((![v952] : Fin 1 → IVec S16 32) a x).toNat < S102656.size a := fun v952 k3_hw250 => k3_hw250

def k3_chk251 (v59 : IVec S16 32) (v959 : IVec S16 32) : Prop :=
  (∀ a x, ((![v59, v959] : Fin 2 → IVec S16 32) a x).toNat < S208x64.size a)
theorem k3_idx252_inb : ∀ (v59 : IVec S16 32) (v959 : IVec S16 32) (k3_hw251 : k3_chk251 v59 v959), ∀ a x, ((![v59, v959] : Fin 2 → IVec S16 32) a x).toNat < S208x64.size a := fun v59 v959 k3_hw251 => k3_hw251

def k3_chk252 (v961 : IVec S16 32) : Prop :=
  (∀ a x, ((![v961] : Fin 1 → IVec S16 32) a x).toNat < S102656.size a)
theorem k3_idx253_inb : ∀ (v961 : IVec S16 32) (k3_hw252 : k3_chk252 v961), ∀ a x, ((![v961] : Fin 1 → IVec S16 32) a x).toNat < S102656.size a := fun v961 k3_hw252 => k3_hw252

def k3_chk253 (v964 : IVec S16 32) : Prop :=
  (∀ a x, ((![v964] : Fin 1 → IVec S16 32) a x).toNat < S102656.size a)
theorem k3_idx254_inb : ∀ (v964 : IVec S16 32) (k3_hw253 : k3_chk253 v964), ∀ a x, ((![v964] : Fin 1 → IVec S16 32) a x).toNat < S102656.size a := fun v964 k3_hw253 => k3_hw253

def k3_chk254 (v967 : IVec S16 32) : Prop :=
  (∀ a x, ((![v967] : Fin 1 → IVec S16 32) a x).toNat < S102656.size a)
theorem k3_idx255_inb : ∀ (v967 : IVec S16 32) (k3_hw254 : k3_chk254 v967), ∀ a x, ((![v967] : Fin 1 → IVec S16 32) a x).toNat < S102656.size a := fun v967 k3_hw254 => k3_hw254

def k3_chk255 (v970 : IVec S16 32) : Prop :=
  (∀ a x, ((![v970] : Fin 1 → IVec S16 32) a x).toNat < S102656.size a)
theorem k3_idx256_inb : ∀ (v970 : IVec S16 32) (k3_hw255 : k3_chk255 v970), ∀ a x, ((![v970] : Fin 1 → IVec S16 32) a x).toNat < S102656.size a := fun v970 k3_hw255 => k3_hw255

def k3_chk256 (v59 : IVec S16 32) (v977 : IVec S16 32) : Prop :=
  (∀ a x, ((![v59, v977] : Fin 2 → IVec S16 32) a x).toNat < S208x64.size a)
theorem k3_idx257_inb : ∀ (v59 : IVec S16 32) (v977 : IVec S16 32) (k3_hw256 : k3_chk256 v59 v977), ∀ a x, ((![v59, v977] : Fin 2 → IVec S16 32) a x).toNat < S208x64.size a := fun v59 v977 k3_hw256 => k3_hw256

def k3_chk257 (v979 : IVec S16 32) : Prop :=
  (∀ a x, ((![v979] : Fin 1 → IVec S16 32) a x).toNat < S102656.size a)
theorem k3_idx258_inb : ∀ (v979 : IVec S16 32) (k3_hw257 : k3_chk257 v979), ∀ a x, ((![v979] : Fin 1 → IVec S16 32) a x).toNat < S102656.size a := fun v979 k3_hw257 => k3_hw257

def k3_chk258 (v982 : IVec S16 32) : Prop :=
  (∀ a x, ((![v982] : Fin 1 → IVec S16 32) a x).toNat < S102656.size a)
theorem k3_idx259_inb : ∀ (v982 : IVec S16 32) (k3_hw258 : k3_chk258 v982), ∀ a x, ((![v982] : Fin 1 → IVec S16 32) a x).toNat < S102656.size a := fun v982 k3_hw258 => k3_hw258

def k3_chk259 (v985 : IVec S16 32) : Prop :=
  (∀ a x, ((![v985] : Fin 1 → IVec S16 32) a x).toNat < S102656.size a)
theorem k3_idx260_inb : ∀ (v985 : IVec S16 32) (k3_hw259 : k3_chk259 v985), ∀ a x, ((![v985] : Fin 1 → IVec S16 32) a x).toNat < S102656.size a := fun v985 k3_hw259 => k3_hw259

def k3_chk260 (v988 : IVec S16 32) : Prop :=
  (∀ a x, ((![v988] : Fin 1 → IVec S16 32) a x).toNat < S102656.size a)
theorem k3_idx261_inb : ∀ (v988 : IVec S16 32) (k3_hw260 : k3_chk260 v988), ∀ a x, ((![v988] : Fin 1 → IVec S16 32) a x).toNat < S102656.size a := fun v988 k3_hw260 => k3_hw260

def k3_chk261 (v59 : IVec S16 32) (v995 : IVec S16 32) : Prop :=
  (∀ a x, ((![v59, v995] : Fin 2 → IVec S16 32) a x).toNat < S208x64.size a)
theorem k3_idx262_inb : ∀ (v59 : IVec S16 32) (v995 : IVec S16 32) (k3_hw261 : k3_chk261 v59 v995), ∀ a x, ((![v59, v995] : Fin 2 → IVec S16 32) a x).toNat < S208x64.size a := fun v59 v995 k3_hw261 => k3_hw261

def k3_chk262 (v997 : IVec S16 32) : Prop :=
  (∀ a x, ((![v997] : Fin 1 → IVec S16 32) a x).toNat < S102656.size a)
theorem k3_idx263_inb : ∀ (v997 : IVec S16 32) (k3_hw262 : k3_chk262 v997), ∀ a x, ((![v997] : Fin 1 → IVec S16 32) a x).toNat < S102656.size a := fun v997 k3_hw262 => k3_hw262

def k3_chk263 (v1000 : IVec S16 32) : Prop :=
  (∀ a x, ((![v1000] : Fin 1 → IVec S16 32) a x).toNat < S102656.size a)
theorem k3_idx264_inb : ∀ (v1000 : IVec S16 32) (k3_hw263 : k3_chk263 v1000), ∀ a x, ((![v1000] : Fin 1 → IVec S16 32) a x).toNat < S102656.size a := fun v1000 k3_hw263 => k3_hw263

def k3_chk264 (v1003 : IVec S16 32) : Prop :=
  (∀ a x, ((![v1003] : Fin 1 → IVec S16 32) a x).toNat < S102656.size a)
theorem k3_idx265_inb : ∀ (v1003 : IVec S16 32) (k3_hw264 : k3_chk264 v1003), ∀ a x, ((![v1003] : Fin 1 → IVec S16 32) a x).toNat < S102656.size a := fun v1003 k3_hw264 => k3_hw264

def k3_chk265 (v1006 : IVec S16 32) : Prop :=
  (∀ a x, ((![v1006] : Fin 1 → IVec S16 32) a x).toNat < S102656.size a)
theorem k3_idx266_inb : ∀ (v1006 : IVec S16 32) (k3_hw265 : k3_chk265 v1006), ∀ a x, ((![v1006] : Fin 1 → IVec S16 32) a x).toNat < S102656.size a := fun v1006 k3_hw265 => k3_hw265

def k3_chk266 (v59 : IVec S16 32) (v1013 : IVec S16 32) : Prop :=
  (∀ a x, ((![v59, v1013] : Fin 2 → IVec S16 32) a x).toNat < S208x64.size a)
theorem k3_idx267_inb : ∀ (v59 : IVec S16 32) (v1013 : IVec S16 32) (k3_hw266 : k3_chk266 v59 v1013), ∀ a x, ((![v59, v1013] : Fin 2 → IVec S16 32) a x).toNat < S208x64.size a := fun v59 v1013 k3_hw266 => k3_hw266

def k3_chk267 (v1015 : IVec S16 32) : Prop :=
  (∀ a x, ((![v1015] : Fin 1 → IVec S16 32) a x).toNat < S102656.size a)
theorem k3_idx268_inb : ∀ (v1015 : IVec S16 32) (k3_hw267 : k3_chk267 v1015), ∀ a x, ((![v1015] : Fin 1 → IVec S16 32) a x).toNat < S102656.size a := fun v1015 k3_hw267 => k3_hw267

def k3_chk268 (v1018 : IVec S16 32) : Prop :=
  (∀ a x, ((![v1018] : Fin 1 → IVec S16 32) a x).toNat < S102656.size a)
theorem k3_idx269_inb : ∀ (v1018 : IVec S16 32) (k3_hw268 : k3_chk268 v1018), ∀ a x, ((![v1018] : Fin 1 → IVec S16 32) a x).toNat < S102656.size a := fun v1018 k3_hw268 => k3_hw268

def k3_chk269 (v1021 : IVec S16 32) : Prop :=
  (∀ a x, ((![v1021] : Fin 1 → IVec S16 32) a x).toNat < S102656.size a)
theorem k3_idx270_inb : ∀ (v1021 : IVec S16 32) (k3_hw269 : k3_chk269 v1021), ∀ a x, ((![v1021] : Fin 1 → IVec S16 32) a x).toNat < S102656.size a := fun v1021 k3_hw269 => k3_hw269

def k3_chk270 (v1024 : IVec S16 32) : Prop :=
  (∀ a x, ((![v1024] : Fin 1 → IVec S16 32) a x).toNat < S102656.size a)
theorem k3_idx271_inb : ∀ (v1024 : IVec S16 32) (k3_hw270 : k3_chk270 v1024), ∀ a x, ((![v1024] : Fin 1 → IVec S16 32) a x).toNat < S102656.size a := fun v1024 k3_hw270 => k3_hw270

def k3_chk271 (v59 : IVec S16 32) (v1031 : IVec S16 32) : Prop :=
  (∀ a x, ((![v59, v1031] : Fin 2 → IVec S16 32) a x).toNat < S208x64.size a)
theorem k3_idx272_inb : ∀ (v59 : IVec S16 32) (v1031 : IVec S16 32) (k3_hw271 : k3_chk271 v59 v1031), ∀ a x, ((![v59, v1031] : Fin 2 → IVec S16 32) a x).toNat < S208x64.size a := fun v59 v1031 k3_hw271 => k3_hw271

def k3_chk272 (v1033 : IVec S16 32) : Prop :=
  (∀ a x, ((![v1033] : Fin 1 → IVec S16 32) a x).toNat < S102656.size a)
theorem k3_idx273_inb : ∀ (v1033 : IVec S16 32) (k3_hw272 : k3_chk272 v1033), ∀ a x, ((![v1033] : Fin 1 → IVec S16 32) a x).toNat < S102656.size a := fun v1033 k3_hw272 => k3_hw272

def k3_chk273 (v1036 : IVec S16 32) : Prop :=
  (∀ a x, ((![v1036] : Fin 1 → IVec S16 32) a x).toNat < S102656.size a)
theorem k3_idx274_inb : ∀ (v1036 : IVec S16 32) (k3_hw273 : k3_chk273 v1036), ∀ a x, ((![v1036] : Fin 1 → IVec S16 32) a x).toNat < S102656.size a := fun v1036 k3_hw273 => k3_hw273

def k3_chk274 (v1039 : IVec S16 32) : Prop :=
  (∀ a x, ((![v1039] : Fin 1 → IVec S16 32) a x).toNat < S102656.size a)
theorem k3_idx275_inb : ∀ (v1039 : IVec S16 32) (k3_hw274 : k3_chk274 v1039), ∀ a x, ((![v1039] : Fin 1 → IVec S16 32) a x).toNat < S102656.size a := fun v1039 k3_hw274 => k3_hw274

def k3_chk275 (v1042 : IVec S16 32) : Prop :=
  (∀ a x, ((![v1042] : Fin 1 → IVec S16 32) a x).toNat < S102656.size a)
theorem k3_idx276_inb : ∀ (v1042 : IVec S16 32) (k3_hw275 : k3_chk275 v1042), ∀ a x, ((![v1042] : Fin 1 → IVec S16 32) a x).toNat < S102656.size a := fun v1042 k3_hw275 => k3_hw275

def k3_chk276 (v59 : IVec S16 32) (v1049 : IVec S16 32) : Prop :=
  (∀ a x, ((![v59, v1049] : Fin 2 → IVec S16 32) a x).toNat < S208x64.size a)
theorem k3_idx277_inb : ∀ (v59 : IVec S16 32) (v1049 : IVec S16 32) (k3_hw276 : k3_chk276 v59 v1049), ∀ a x, ((![v59, v1049] : Fin 2 → IVec S16 32) a x).toNat < S208x64.size a := fun v59 v1049 k3_hw276 => k3_hw276

def k3_chk277 (v1051 : IVec S16 32) : Prop :=
  (∀ a x, ((![v1051] : Fin 1 → IVec S16 32) a x).toNat < S102656.size a)
theorem k3_idx278_inb : ∀ (v1051 : IVec S16 32) (k3_hw277 : k3_chk277 v1051), ∀ a x, ((![v1051] : Fin 1 → IVec S16 32) a x).toNat < S102656.size a := fun v1051 k3_hw277 => k3_hw277

def k3_chk278 (v1054 : IVec S16 32) : Prop :=
  (∀ a x, ((![v1054] : Fin 1 → IVec S16 32) a x).toNat < S102656.size a)
theorem k3_idx279_inb : ∀ (v1054 : IVec S16 32) (k3_hw278 : k3_chk278 v1054), ∀ a x, ((![v1054] : Fin 1 → IVec S16 32) a x).toNat < S102656.size a := fun v1054 k3_hw278 => k3_hw278

def k3_chk279 (v1057 : IVec S16 32) : Prop :=
  (∀ a x, ((![v1057] : Fin 1 → IVec S16 32) a x).toNat < S102656.size a)
theorem k3_idx280_inb : ∀ (v1057 : IVec S16 32) (k3_hw279 : k3_chk279 v1057), ∀ a x, ((![v1057] : Fin 1 → IVec S16 32) a x).toNat < S102656.size a := fun v1057 k3_hw279 => k3_hw279

def k3_chk280 (v1060 : IVec S16 32) : Prop :=
  (∀ a x, ((![v1060] : Fin 1 → IVec S16 32) a x).toNat < S102656.size a)
theorem k3_idx281_inb : ∀ (v1060 : IVec S16 32) (k3_hw280 : k3_chk280 v1060), ∀ a x, ((![v1060] : Fin 1 → IVec S16 32) a x).toNat < S102656.size a := fun v1060 k3_hw280 => k3_hw280

def k3_chk281 (v59 : IVec S16 32) (v1067 : IVec S16 32) : Prop :=
  (∀ a x, ((![v59, v1067] : Fin 2 → IVec S16 32) a x).toNat < S208x64.size a)
theorem k3_idx282_inb : ∀ (v59 : IVec S16 32) (v1067 : IVec S16 32) (k3_hw281 : k3_chk281 v59 v1067), ∀ a x, ((![v59, v1067] : Fin 2 → IVec S16 32) a x).toNat < S208x64.size a := fun v59 v1067 k3_hw281 => k3_hw281

def k3_chk282 (v1069 : IVec S16 32) : Prop :=
  (∀ a x, ((![v1069] : Fin 1 → IVec S16 32) a x).toNat < S102656.size a)
theorem k3_idx283_inb : ∀ (v1069 : IVec S16 32) (k3_hw282 : k3_chk282 v1069), ∀ a x, ((![v1069] : Fin 1 → IVec S16 32) a x).toNat < S102656.size a := fun v1069 k3_hw282 => k3_hw282

def k3_chk283 (v1072 : IVec S16 32) : Prop :=
  (∀ a x, ((![v1072] : Fin 1 → IVec S16 32) a x).toNat < S102656.size a)
theorem k3_idx284_inb : ∀ (v1072 : IVec S16 32) (k3_hw283 : k3_chk283 v1072), ∀ a x, ((![v1072] : Fin 1 → IVec S16 32) a x).toNat < S102656.size a := fun v1072 k3_hw283 => k3_hw283

def k3_chk284 (v1075 : IVec S16 32) : Prop :=
  (∀ a x, ((![v1075] : Fin 1 → IVec S16 32) a x).toNat < S102656.size a)
theorem k3_idx285_inb : ∀ (v1075 : IVec S16 32) (k3_hw284 : k3_chk284 v1075), ∀ a x, ((![v1075] : Fin 1 → IVec S16 32) a x).toNat < S102656.size a := fun v1075 k3_hw284 => k3_hw284

def k3_chk285 (v1078 : IVec S16 32) : Prop :=
  (∀ a x, ((![v1078] : Fin 1 → IVec S16 32) a x).toNat < S102656.size a)
theorem k3_idx286_inb : ∀ (v1078 : IVec S16 32) (k3_hw285 : k3_chk285 v1078), ∀ a x, ((![v1078] : Fin 1 → IVec S16 32) a x).toNat < S102656.size a := fun v1078 k3_hw285 => k3_hw285

def k3_chk286 (v59 : IVec S16 32) (v1085 : IVec S16 32) : Prop :=
  (∀ a x, ((![v59, v1085] : Fin 2 → IVec S16 32) a x).toNat < S208x64.size a)
theorem k3_idx287_inb : ∀ (v59 : IVec S16 32) (v1085 : IVec S16 32) (k3_hw286 : k3_chk286 v59 v1085), ∀ a x, ((![v59, v1085] : Fin 2 → IVec S16 32) a x).toNat < S208x64.size a := fun v59 v1085 k3_hw286 => k3_hw286

def k3_chk287 (v1087 : IVec S16 32) : Prop :=
  (∀ a x, ((![v1087] : Fin 1 → IVec S16 32) a x).toNat < S102656.size a)
theorem k3_idx288_inb : ∀ (v1087 : IVec S16 32) (k3_hw287 : k3_chk287 v1087), ∀ a x, ((![v1087] : Fin 1 → IVec S16 32) a x).toNat < S102656.size a := fun v1087 k3_hw287 => k3_hw287

def k3_chk288 (v1090 : IVec S16 32) : Prop :=
  (∀ a x, ((![v1090] : Fin 1 → IVec S16 32) a x).toNat < S102656.size a)
theorem k3_idx289_inb : ∀ (v1090 : IVec S16 32) (k3_hw288 : k3_chk288 v1090), ∀ a x, ((![v1090] : Fin 1 → IVec S16 32) a x).toNat < S102656.size a := fun v1090 k3_hw288 => k3_hw288

def k3_chk289 (v1093 : IVec S16 32) : Prop :=
  (∀ a x, ((![v1093] : Fin 1 → IVec S16 32) a x).toNat < S102656.size a)
theorem k3_idx290_inb : ∀ (v1093 : IVec S16 32) (k3_hw289 : k3_chk289 v1093), ∀ a x, ((![v1093] : Fin 1 → IVec S16 32) a x).toNat < S102656.size a := fun v1093 k3_hw289 => k3_hw289

def k3_chk290 (v1096 : IVec S16 32) : Prop :=
  (∀ a x, ((![v1096] : Fin 1 → IVec S16 32) a x).toNat < S102656.size a)
theorem k3_idx291_inb : ∀ (v1096 : IVec S16 32) (k3_hw290 : k3_chk290 v1096), ∀ a x, ((![v1096] : Fin 1 → IVec S16 32) a x).toNat < S102656.size a := fun v1096 k3_hw290 => k3_hw290

def k3_chk291 (v59 : IVec S16 32) (v1103 : IVec S16 32) : Prop :=
  (∀ a x, ((![v59, v1103] : Fin 2 → IVec S16 32) a x).toNat < S208x64.size a)
theorem k3_idx292_inb : ∀ (v59 : IVec S16 32) (v1103 : IVec S16 32) (k3_hw291 : k3_chk291 v59 v1103), ∀ a x, ((![v59, v1103] : Fin 2 → IVec S16 32) a x).toNat < S208x64.size a := fun v59 v1103 k3_hw291 => k3_hw291

def k3_chk292 (v1105 : IVec S16 32) : Prop :=
  (∀ a x, ((![v1105] : Fin 1 → IVec S16 32) a x).toNat < S102656.size a)
theorem k3_idx293_inb : ∀ (v1105 : IVec S16 32) (k3_hw292 : k3_chk292 v1105), ∀ a x, ((![v1105] : Fin 1 → IVec S16 32) a x).toNat < S102656.size a := fun v1105 k3_hw292 => k3_hw292

def k3_chk293 (v1108 : IVec S16 32) : Prop :=
  (∀ a x, ((![v1108] : Fin 1 → IVec S16 32) a x).toNat < S102656.size a)
theorem k3_idx294_inb : ∀ (v1108 : IVec S16 32) (k3_hw293 : k3_chk293 v1108), ∀ a x, ((![v1108] : Fin 1 → IVec S16 32) a x).toNat < S102656.size a := fun v1108 k3_hw293 => k3_hw293

def k3_chk294 (v1111 : IVec S16 32) : Prop :=
  (∀ a x, ((![v1111] : Fin 1 → IVec S16 32) a x).toNat < S102656.size a)
theorem k3_idx295_inb : ∀ (v1111 : IVec S16 32) (k3_hw294 : k3_chk294 v1111), ∀ a x, ((![v1111] : Fin 1 → IVec S16 32) a x).toNat < S102656.size a := fun v1111 k3_hw294 => k3_hw294

def k3_chk295 (v1114 : IVec S16 32) : Prop :=
  (∀ a x, ((![v1114] : Fin 1 → IVec S16 32) a x).toNat < S102656.size a)
theorem k3_idx296_inb : ∀ (v1114 : IVec S16 32) (k3_hw295 : k3_chk295 v1114), ∀ a x, ((![v1114] : Fin 1 → IVec S16 32) a x).toNat < S102656.size a := fun v1114 k3_hw295 => k3_hw295

def k3_chk296 (v59 : IVec S16 32) (v1121 : IVec S16 32) : Prop :=
  (∀ a x, ((![v59, v1121] : Fin 2 → IVec S16 32) a x).toNat < S208x64.size a)
theorem k3_idx297_inb : ∀ (v59 : IVec S16 32) (v1121 : IVec S16 32) (k3_hw296 : k3_chk296 v59 v1121), ∀ a x, ((![v59, v1121] : Fin 2 → IVec S16 32) a x).toNat < S208x64.size a := fun v59 v1121 k3_hw296 => k3_hw296

def k3_chk297 (v1123 : IVec S16 32) : Prop :=
  (∀ a x, ((![v1123] : Fin 1 → IVec S16 32) a x).toNat < S102656.size a)
theorem k3_idx298_inb : ∀ (v1123 : IVec S16 32) (k3_hw297 : k3_chk297 v1123), ∀ a x, ((![v1123] : Fin 1 → IVec S16 32) a x).toNat < S102656.size a := fun v1123 k3_hw297 => k3_hw297

def k3_chk298 (v1126 : IVec S16 32) : Prop :=
  (∀ a x, ((![v1126] : Fin 1 → IVec S16 32) a x).toNat < S102656.size a)
theorem k3_idx299_inb : ∀ (v1126 : IVec S16 32) (k3_hw298 : k3_chk298 v1126), ∀ a x, ((![v1126] : Fin 1 → IVec S16 32) a x).toNat < S102656.size a := fun v1126 k3_hw298 => k3_hw298

def k3_chk299 (v1129 : IVec S16 32) : Prop :=
  (∀ a x, ((![v1129] : Fin 1 → IVec S16 32) a x).toNat < S102656.size a)
theorem k3_idx300_inb : ∀ (v1129 : IVec S16 32) (k3_hw299 : k3_chk299 v1129), ∀ a x, ((![v1129] : Fin 1 → IVec S16 32) a x).toNat < S102656.size a := fun v1129 k3_hw299 => k3_hw299

def k3_chk300 (v1132 : IVec S16 32) : Prop :=
  (∀ a x, ((![v1132] : Fin 1 → IVec S16 32) a x).toNat < S102656.size a)
theorem k3_idx301_inb : ∀ (v1132 : IVec S16 32) (k3_hw300 : k3_chk300 v1132), ∀ a x, ((![v1132] : Fin 1 → IVec S16 32) a x).toNat < S102656.size a := fun v1132 k3_hw300 => k3_hw300

def k3_chk301 (v59 : IVec S16 32) (v1139 : IVec S16 32) : Prop :=
  (∀ a x, ((![v59, v1139] : Fin 2 → IVec S16 32) a x).toNat < S208x64.size a)
theorem k3_idx302_inb : ∀ (v59 : IVec S16 32) (v1139 : IVec S16 32) (k3_hw301 : k3_chk301 v59 v1139), ∀ a x, ((![v59, v1139] : Fin 2 → IVec S16 32) a x).toNat < S208x64.size a := fun v59 v1139 k3_hw301 => k3_hw301

def k3_chk302 (v1141 : IVec S16 32) : Prop :=
  (∀ a x, ((![v1141] : Fin 1 → IVec S16 32) a x).toNat < S102656.size a)
theorem k3_idx303_inb : ∀ (v1141 : IVec S16 32) (k3_hw302 : k3_chk302 v1141), ∀ a x, ((![v1141] : Fin 1 → IVec S16 32) a x).toNat < S102656.size a := fun v1141 k3_hw302 => k3_hw302

def k3_chk303 (v1144 : IVec S16 32) : Prop :=
  (∀ a x, ((![v1144] : Fin 1 → IVec S16 32) a x).toNat < S102656.size a)
theorem k3_idx304_inb : ∀ (v1144 : IVec S16 32) (k3_hw303 : k3_chk303 v1144), ∀ a x, ((![v1144] : Fin 1 → IVec S16 32) a x).toNat < S102656.size a := fun v1144 k3_hw303 => k3_hw303

def k3_chk304 (v1147 : IVec S16 32) : Prop :=
  (∀ a x, ((![v1147] : Fin 1 → IVec S16 32) a x).toNat < S102656.size a)
theorem k3_idx305_inb : ∀ (v1147 : IVec S16 32) (k3_hw304 : k3_chk304 v1147), ∀ a x, ((![v1147] : Fin 1 → IVec S16 32) a x).toNat < S102656.size a := fun v1147 k3_hw304 => k3_hw304

def k3_chk305 (v1150 : IVec S16 32) : Prop :=
  (∀ a x, ((![v1150] : Fin 1 → IVec S16 32) a x).toNat < S102656.size a)
theorem k3_idx306_inb : ∀ (v1150 : IVec S16 32) (k3_hw305 : k3_chk305 v1150), ∀ a x, ((![v1150] : Fin 1 → IVec S16 32) a x).toNat < S102656.size a := fun v1150 k3_hw305 => k3_hw305

def k3_chk306 (v59 : IVec S16 32) (v1157 : IVec S16 32) : Prop :=
  (∀ a x, ((![v59, v1157] : Fin 2 → IVec S16 32) a x).toNat < S208x64.size a)
theorem k3_idx307_inb : ∀ (v59 : IVec S16 32) (v1157 : IVec S16 32) (k3_hw306 : k3_chk306 v59 v1157), ∀ a x, ((![v59, v1157] : Fin 2 → IVec S16 32) a x).toNat < S208x64.size a := fun v59 v1157 k3_hw306 => k3_hw306

def k3_chk307 (v1159 : IVec S16 32) : Prop :=
  (∀ a x, ((![v1159] : Fin 1 → IVec S16 32) a x).toNat < S102656.size a)
theorem k3_idx308_inb : ∀ (v1159 : IVec S16 32) (k3_hw307 : k3_chk307 v1159), ∀ a x, ((![v1159] : Fin 1 → IVec S16 32) a x).toNat < S102656.size a := fun v1159 k3_hw307 => k3_hw307

def k3_chk308 (v1162 : IVec S16 32) : Prop :=
  (∀ a x, ((![v1162] : Fin 1 → IVec S16 32) a x).toNat < S102656.size a)
theorem k3_idx309_inb : ∀ (v1162 : IVec S16 32) (k3_hw308 : k3_chk308 v1162), ∀ a x, ((![v1162] : Fin 1 → IVec S16 32) a x).toNat < S102656.size a := fun v1162 k3_hw308 => k3_hw308

def k3_chk309 (v1165 : IVec S16 32) : Prop :=
  (∀ a x, ((![v1165] : Fin 1 → IVec S16 32) a x).toNat < S102656.size a)
theorem k3_idx310_inb : ∀ (v1165 : IVec S16 32) (k3_hw309 : k3_chk309 v1165), ∀ a x, ((![v1165] : Fin 1 → IVec S16 32) a x).toNat < S102656.size a := fun v1165 k3_hw309 => k3_hw309

def k3_chk310 (v1168 : IVec S16 32) : Prop :=
  (∀ a x, ((![v1168] : Fin 1 → IVec S16 32) a x).toNat < S102656.size a)
theorem k3_idx311_inb : ∀ (v1168 : IVec S16 32) (k3_hw310 : k3_chk310 v1168), ∀ a x, ((![v1168] : Fin 1 → IVec S16 32) a x).toNat < S102656.size a := fun v1168 k3_hw310 => k3_hw310

def k3_chk311 (v59 : IVec S16 32) (v1175 : IVec S16 32) : Prop :=
  (∀ a x, ((![v59, v1175] : Fin 2 → IVec S16 32) a x).toNat < S208x64.size a)
theorem k3_idx312_inb : ∀ (v59 : IVec S16 32) (v1175 : IVec S16 32) (k3_hw311 : k3_chk311 v59 v1175), ∀ a x, ((![v59, v1175] : Fin 2 → IVec S16 32) a x).toNat < S208x64.size a := fun v59 v1175 k3_hw311 => k3_hw311

def k3_chk312 (v1177 : IVec S16 32) : Prop :=
  (∀ a x, ((![v1177] : Fin 1 → IVec S16 32) a x).toNat < S102656.size a)
theorem k3_idx313_inb : ∀ (v1177 : IVec S16 32) (k3_hw312 : k3_chk312 v1177), ∀ a x, ((![v1177] : Fin 1 → IVec S16 32) a x).toNat < S102656.size a := fun v1177 k3_hw312 => k3_hw312

def k3_chk313 (v1180 : IVec S16 32) : Prop :=
  (∀ a x, ((![v1180] : Fin 1 → IVec S16 32) a x).toNat < S102656.size a)
theorem k3_idx314_inb : ∀ (v1180 : IVec S16 32) (k3_hw313 : k3_chk313 v1180), ∀ a x, ((![v1180] : Fin 1 → IVec S16 32) a x).toNat < S102656.size a := fun v1180 k3_hw313 => k3_hw313

def k3_chk314 (v1183 : IVec S16 32) : Prop :=
  (∀ a x, ((![v1183] : Fin 1 → IVec S16 32) a x).toNat < S102656.size a)
theorem k3_idx315_inb : ∀ (v1183 : IVec S16 32) (k3_hw314 : k3_chk314 v1183), ∀ a x, ((![v1183] : Fin 1 → IVec S16 32) a x).toNat < S102656.size a := fun v1183 k3_hw314 => k3_hw314

def k3_chk315 (v1186 : IVec S16 32) : Prop :=
  (∀ a x, ((![v1186] : Fin 1 → IVec S16 32) a x).toNat < S102656.size a)
theorem k3_idx316_inb : ∀ (v1186 : IVec S16 32) (k3_hw315 : k3_chk315 v1186), ∀ a x, ((![v1186] : Fin 1 → IVec S16 32) a x).toNat < S102656.size a := fun v1186 k3_hw315 => k3_hw315

def k3_chk316 (v59 : IVec S16 32) (v1193 : IVec S16 32) : Prop :=
  (∀ a x, ((![v59, v1193] : Fin 2 → IVec S16 32) a x).toNat < S208x64.size a)
theorem k3_idx317_inb : ∀ (v59 : IVec S16 32) (v1193 : IVec S16 32) (k3_hw316 : k3_chk316 v59 v1193), ∀ a x, ((![v59, v1193] : Fin 2 → IVec S16 32) a x).toNat < S208x64.size a := fun v59 v1193 k3_hw316 => k3_hw316

def k3_chk317 (v1195 : IVec S16 32) : Prop :=
  (∀ a x, ((![v1195] : Fin 1 → IVec S16 32) a x).toNat < S102656.size a)
theorem k3_idx318_inb : ∀ (v1195 : IVec S16 32) (k3_hw317 : k3_chk317 v1195), ∀ a x, ((![v1195] : Fin 1 → IVec S16 32) a x).toNat < S102656.size a := fun v1195 k3_hw317 => k3_hw317

def k3_chk318 (v1198 : IVec S16 32) : Prop :=
  (∀ a x, ((![v1198] : Fin 1 → IVec S16 32) a x).toNat < S102656.size a)
theorem k3_idx319_inb : ∀ (v1198 : IVec S16 32) (k3_hw318 : k3_chk318 v1198), ∀ a x, ((![v1198] : Fin 1 → IVec S16 32) a x).toNat < S102656.size a := fun v1198 k3_hw318 => k3_hw318

def k3_chk319 (v1201 : IVec S16 32) : Prop :=
  (∀ a x, ((![v1201] : Fin 1 → IVec S16 32) a x).toNat < S102656.size a)
theorem k3_idx320_inb : ∀ (v1201 : IVec S16 32) (k3_hw319 : k3_chk319 v1201), ∀ a x, ((![v1201] : Fin 1 → IVec S16 32) a x).toNat < S102656.size a := fun v1201 k3_hw319 => k3_hw319

def k3_chk320 (v1204 : IVec S16 32) : Prop :=
  (∀ a x, ((![v1204] : Fin 1 → IVec S16 32) a x).toNat < S102656.size a)
theorem k3_idx321_inb : ∀ (v1204 : IVec S16 32) (k3_hw320 : k3_chk320 v1204), ∀ a x, ((![v1204] : Fin 1 → IVec S16 32) a x).toNat < S102656.size a := fun v1204 k3_hw320 => k3_hw320

def k3_chk321 (v59 : IVec S16 32) (v1211 : IVec S16 32) : Prop :=
  (∀ a x, ((![v59, v1211] : Fin 2 → IVec S16 32) a x).toNat < S208x64.size a)
theorem k3_idx322_inb : ∀ (v59 : IVec S16 32) (v1211 : IVec S16 32) (k3_hw321 : k3_chk321 v59 v1211), ∀ a x, ((![v59, v1211] : Fin 2 → IVec S16 32) a x).toNat < S208x64.size a := fun v59 v1211 k3_hw321 => k3_hw321
def k3_off2 (i : grid3.Coords) (k3_t1 : Fin k3_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32_2 : BitVec 32 := 25#32
  let v4 : BitVec 32 := Scalar.muli v1 c25_i32_2
  let c0_i32_0 : BitVec 32 := 0#32
  let c1_i32 : BitVec 32 := 1#32
  let arg10 : BitVec 32 := Scf.iv c0_i32_0 c1_i32 k3_t1
  let v5 : BitVec 32 := Scalar.addi v4 arg10
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c200_i32 : BitVec 32 := 200#32
  let c0_i32_5 : BitVec 32 := 0#32
  let v12 : BitVec 1 := Scalar.cmpi .sgt c200_i32 c0_i32_5
  let v13 : BitVec 32 := Scalar.extui v12
  let c0_i32_6 : BitVec 32 := 0#32
  let v14 : BitVec 1 := Scalar.cmpi .slt c200_i32 c0_i32_6
  let v15 : BitVec 32 := Scalar.extui v14
  let v16 : BitVec 32 := Scalar.subi v13 v15
  let v17 : BitVec 1 := Scalar.cmpi .ne v11 v16
  let v18 : BitVec 32 := Scalar.remsi v5 c200_i32
  let c0_i32_7 : BitVec 32 := 0#32
  let v19 : BitVec 1 := Scalar.cmpi .ne v18 c0_i32_7
  let v20 : BitVec 1 := Scalar.andi v17 v19
  let v6 : BitVec 32 := Scalar.divsi v5 c200_i32
  let c1_i32_8 : BitVec 32 := 1#32
  let v21 : BitVec 32 := Scalar.subi v6 c1_i32_8
  let v22 : BitVec 32 := Scalar.select v20 v21 v6
  let c200_i32_9 : BitVec 32 := 200#32
  let v23 : BitVec 32 := Scalar.muli v22 c200_i32_9
  let v24 : BitVec 32 := Scalar.subi v5 v23
  let c0_i32_16_r3 : BitVec 32 := 0#32
  let c0_i32_17_r3 : BitVec 32 := 0#32
  ![v22.toNat, v24.toNat, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x200 : Shape := ⟨2, ![4, 200]⟩
abbrev S1000000x64 : Shape := ⟨2, ![1000000, 64]⟩
abbrev S64x64 : Shape := ⟨2, ![64, 64]⟩
abbrev S64 : Shape := ⟨1, ![64]⟩
abbrev S401x64 : Shape := ⟨2, ![401, 64]⟩
abbrev S64x256 : Shape := ⟨2, ![64, 256]⟩
abbrev S_ : Shape := ⟨0, ![]⟩
abbrev S4x200x1 : Shape := ⟨3, ![4, 200, 1]⟩
abbrev S1 : Shape := ⟨1, ![1]⟩
abbrev S1x1x1 : Shape := ⟨3, ![1, 1, 1]⟩
abbrev S4x200x64 : Shape := ⟨3, ![4, 200, 64]⟩
abbrev S1x1x64 : Shape := ⟨3, ![1, 1, 64]⟩
abbrev S4x1x200 : Shape := ⟨3, ![4, 1, 200]⟩
abbrev S4x200x200 : Shape := ⟨3, ![4, 200, 200]⟩
abbrev S4x200x200x1 : Shape := ⟨4, ![4, 200, 200, 1]⟩
abbrev S1x1x1x1 : Shape := ⟨4, ![1, 1, 1, 1]⟩
abbrev S4x200x200x64 : Shape := ⟨4, ![4, 200, 200, 64]⟩
abbrev S4x200x200x256 : Shape := ⟨4, ![4, 200, 200, 256]⟩
abbrev S256x64 : Shape := ⟨2, ![256, 64]⟩
abbrev S1x1x1x64 : Shape := ⟨4, ![1, 1, 1, 64]⟩

abbrev nBuf : Space → Nat
  | .hbm => 201
  | .vmem => 0
  | .smem => 0
  | _ => 0

abbrev hbmTy0_0 (i : Nat) : BufTy := match i % 128 with
  | 0 => ⟨S4x200, .i32⟩
  | 1 => ⟨S4x200, .i32⟩
  | 2 => ⟨S4x200, .i32⟩
  | 3 => ⟨S1000000x64, .f32⟩
  | 4 => ⟨S64x64, .f32⟩
  | 5 => ⟨S64, .f32⟩
  | 6 => ⟨S64, .f32⟩
  | 7 => ⟨S64, .f32⟩
  | 8 => ⟨S401x64, .f32⟩
  | 9 => ⟨S64x256, .f32⟩
  | 10 => ⟨S64, .f32⟩
  | 11 => ⟨S_, .i32⟩
  | 12 => ⟨S4x200, .i32⟩
  | 13 => ⟨S4x200, .i1⟩
  | 14 => ⟨S_, .i32⟩
  | 15 => ⟨S4x200, .i32⟩
  | 16 => ⟨S4x200, .i32⟩
  | 17 => ⟨S4x200, .i32⟩
  | 18 => ⟨S4x200x1, .i32⟩
  | 19 => ⟨S1, .i32⟩
  | 20 => ⟨S_, .i32⟩
  | 21 => ⟨S4x200x1, .i32⟩
  | 22 => ⟨S4x200x1, .i1⟩
  | 23 => ⟨S1x1x1, .i32⟩
  | 24 => ⟨S4x200x1, .i32⟩
  | 25 => ⟨S4x200x1, .i1⟩
  | 26 => ⟨S4x200x1, .i1⟩
  | 27 => ⟨S_, .i1⟩
  | 28 => ⟨S4x200, .i1⟩
  | 29 => ⟨S4x200x64, .f32⟩
  | 30 => ⟨S4x200x64, .i1⟩
  | 31 => ⟨S_, .f32⟩
  | 32 => ⟨S4x200x64, .f32⟩
  | 33 => ⟨S4x200x64, .f32⟩
  | 34 => ⟨S64x64, .f32⟩
  | 35 => ⟨S4x200x64, .f32⟩
  | 36 => ⟨S1x1x64, .f32⟩
  | 37 => ⟨S4x200x64, .f32⟩
  | 38 => ⟨S4x200x64, .f32⟩
  | 39 => ⟨S_, .f32⟩
  | 40 => ⟨S4x200, .f32⟩
  | 41 => ⟨S4x200x1, .f32⟩
  | 42 => ⟨S_, .f32⟩
  | 43 => ⟨S4x200x1, .f32⟩
  | 44 => ⟨S4x200x1, .f32⟩
  | 45 => ⟨S4x200x64, .f32⟩
  | 46 => ⟨S4x200x64, .f32⟩
  | 47 => ⟨S4x200x64, .f32⟩
  | 48 => ⟨S_, .f32⟩
  | 49 => ⟨S4x200, .f32⟩
  | 50 => ⟨S4x200x1, .f32⟩
  | 51 => ⟨S_, .f32⟩
  | 52 => ⟨S4x200x1, .f32⟩
  | 53 => ⟨S4x200x1, .f32⟩
  | 54 => ⟨S4x200x64, .f32⟩
  | 55 => ⟨S4x200x64, .f32⟩
  | 56 => ⟨S_, .f32⟩
  | 57 => ⟨S4x200x1, .f32⟩
  | 58 => ⟨S4x200x1, .f32⟩
  | 59 => ⟨S4x200x1, .f32⟩
  | 60 => ⟨S4x200x64, .f32⟩
  | 61 => ⟨S4x200x64, .f32⟩
  | 62 => ⟨S1x1x64, .f32⟩
  | 63 => ⟨S4x200x64, .f32⟩
  | 64 => ⟨S4x200x64, .f32⟩
  | 65 => ⟨S1x1x64, .f32⟩
  | 66 => ⟨S4x200x64, .f32⟩
  | 67 => ⟨S4x200x64, .f32⟩
  | 68 => ⟨S4x200x1, .i32⟩
  | 69 => ⟨S4x1x200, .i32⟩
  | 70 => ⟨S4x200x200, .i32⟩
  | 71 => ⟨S4x200x200, .i32⟩
  | 72 => ⟨S4x200x200, .i32⟩
  | 73 => ⟨S_, .i32⟩
  | 74 => ⟨S4x200x200, .i32⟩
  | 75 => ⟨S4x200x200, .i32⟩
  | 76 => ⟨S4x200x1, .i32⟩
  | 77 => ⟨S4x1x200, .i32⟩
  | 78 => ⟨S4x200x200, .i32⟩
  | 79 => ⟨S4x200x200, .i32⟩
  | 80 => ⟨S4x200x200, .i32⟩
  | 81 => ⟨S_, .i32⟩
  | 82 => ⟨S4x200x200, .i32⟩
  | 83 => ⟨S4x200x200, .i32⟩
  | 84 => ⟨S4x200x1, .i32⟩
  | 85 => ⟨S4x1x200, .i32⟩
  | 86 => ⟨S4x200x200, .i32⟩
  | 87 => ⟨S4x200x200, .i32⟩
  | 88 => ⟨S4x200x200, .i32⟩
  | 89 => ⟨S_, .i32⟩
  | 90 => ⟨S4x200x200, .i32⟩
  | 91 => ⟨S4x200x200, .i32⟩
  | 92 => ⟨S4x200x1, .i32⟩
  | 93 => ⟨S4x1x200, .i32⟩
  | 94 => ⟨S4x200x200, .i32⟩
  | 95 => ⟨S4x200x200, .i32⟩
  | 96 => ⟨S4x200x200, .i32⟩
  | 97 => ⟨S_, .i32⟩
  | 98 => ⟨S4x200x200, .i32⟩
  | 99 => ⟨S4x200x200, .i32⟩
  | 100 => ⟨S_, .i32⟩
  | 101 => ⟨S4x200x200, .i32⟩
  | 102 => ⟨S4x200x200, .i1⟩
  | 103 => ⟨S_, .i32⟩
  | 104 => ⟨S4x200x200, .i32⟩
  | 105 => ⟨S4x200x200, .i32⟩
  | 106 => ⟨S4x200x200, .i32⟩
  | 107 => ⟨S4x200x200x1, .i32⟩
  | 108 => ⟨S1, .i32⟩
  | 109 => ⟨S_, .i32⟩
  | 110 => ⟨S4x200x200x1, .i32⟩
  | 111 => ⟨S4x200x200x1, .i1⟩
  | 112 => ⟨S1x1x1x1, .i32⟩
  | 113 => ⟨S4x200x200x1, .i32⟩
  | 114 => ⟨S4x200x200x1, .i1⟩
  | 115 => ⟨S4x200x200x1, .i1⟩
  | 116 => ⟨S_, .i1⟩
  | 117 => ⟨S4x200x200, .i1⟩
  | 118 => ⟨S4x200x200x64, .f32⟩
  | 119 => ⟨S4x200x200x64, .i1⟩
  | 120 => ⟨S_, .f32⟩
  | 121 => ⟨S4x200x200x64, .f32⟩
  | 122 => ⟨S4x200x200x64, .f32⟩
  | 123 => ⟨S_, .i32⟩
  | 124 => ⟨S4x200x200, .i32⟩
  | 125 => ⟨S4x200x200, .i1⟩
  | 126 => ⟨S_, .i32⟩
  | 127 => ⟨S4x200x200, .i32⟩
  | _ => ⟨S4x200, .i32⟩

abbrev hbmTy0_1 (i : Nat) : BufTy := match i % 128 with
  | 0 => ⟨S4x200x200, .i32⟩
  | 1 => ⟨S4x200x200, .i32⟩
  | 2 => ⟨S4x200x200x1, .i32⟩
  | 3 => ⟨S1, .i32⟩
  | 4 => ⟨S_, .i32⟩
  | 5 => ⟨S4x200x200x1, .i32⟩
  | 6 => ⟨S4x200x200x1, .i1⟩
  | 7 => ⟨S1x1x1x1, .i32⟩
  | 8 => ⟨S4x200x200x1, .i32⟩
  | 9 => ⟨S4x200x200x1, .i1⟩
  | 10 => ⟨S4x200x200x1, .i1⟩
  | 11 => ⟨S_, .i1⟩
  | 12 => ⟨S4x200x200, .i1⟩
  | 13 => ⟨S4x200x200x64, .f32⟩
  | 14 => ⟨S4x200x200x64, .i1⟩
  | 15 => ⟨S_, .f32⟩
  | 16 => ⟨S4x200x200x64, .f32⟩
  | 17 => ⟨S4x200x200x64, .f32⟩
  | 18 => ⟨S_, .i32⟩
  | 19 => ⟨S4x200x200, .i32⟩
  | 20 => ⟨S4x200x200, .i1⟩
  | 21 => ⟨S_, .i32⟩
  | 22 => ⟨S4x200x200, .i32⟩
  | 23 => ⟨S4x200x200, .i32⟩
  | 24 => ⟨S4x200x200, .i32⟩
  | 25 => ⟨S4x200x200x1, .i32⟩
  | 26 => ⟨S1, .i32⟩
  | 27 => ⟨S_, .i32⟩
  | 28 => ⟨S4x200x200x1, .i32⟩
  | 29 => ⟨S4x200x200x1, .i1⟩
  | 30 => ⟨S1x1x1x1, .i32⟩
  | 31 => ⟨S4x200x200x1, .i32⟩
  | 32 => ⟨S4x200x200x1, .i1⟩
  | 33 => ⟨S4x200x200x1, .i1⟩
  | 34 => ⟨S_, .i1⟩
  | 35 => ⟨S4x200x200, .i1⟩
  | 36 => ⟨S4x200x200x64, .f32⟩
  | 37 => ⟨S4x200x200x64, .i1⟩
  | 38 => ⟨S_, .f32⟩
  | 39 => ⟨S4x200x200x64, .f32⟩
  | 40 => ⟨S4x200x200x64, .f32⟩
  | 41 => ⟨S_, .i32⟩
  | 42 => ⟨S4x200x200, .i32⟩
  | 43 => ⟨S4x200x200, .i1⟩
  | 44 => ⟨S_, .i32⟩
  | 45 => ⟨S4x200x200, .i32⟩
  | 46 => ⟨S4x200x200, .i32⟩
  | 47 => ⟨S4x200x200, .i32⟩
  | 48 => ⟨S4x200x200x1, .i32⟩
  | 49 => ⟨S1, .i32⟩
  | 50 => ⟨S_, .i32⟩
  | 51 => ⟨S4x200x200x1, .i32⟩
  | 52 => ⟨S4x200x200x1, .i1⟩
  | 53 => ⟨S1x1x1x1, .i32⟩
  | 54 => ⟨S4x200x200x1, .i32⟩
  | 55 => ⟨S4x200x200x1, .i1⟩
  | 56 => ⟨S4x200x200x1, .i1⟩
  | 57 => ⟨S_, .i1⟩
  | 58 => ⟨S4x200x200, .i1⟩
  | 59 => ⟨S4x200x200x64, .f32⟩
  | 60 => ⟨S4x200x200x64, .i1⟩
  | 61 => ⟨S_, .f32⟩
  | 62 => ⟨S4x200x200x64, .f32⟩
  | 63 => ⟨S4x200x200x64, .f32⟩
  | 64 => ⟨S4x200x200x256, .f32⟩
  | 65 => ⟨S256x64, .f32⟩
  | 66 => ⟨S4x200x200x64, .f32⟩
  | 67 => ⟨S1x1x1x64, .f32⟩
  | 68 => ⟨S4x200x200x64, .f32⟩
  | 69 => ⟨S4x200x200x64, .f32⟩
  | 70 => ⟨S_, .f32⟩
  | 71 => ⟨S4x200x200x64, .f32⟩
  | 72 => ⟨S4x200x200x64, .f32⟩
  | _ => ⟨S4x200, .i32⟩

abbrev hbmTy (i : Nat) : BufTy := match i / 128 with
  | 0 => hbmTy0_0 i
  | 1 => hbmTy0_1 i
  | _ => ⟨S4x200, .i32⟩

abbrev bufTy : (tb : Table) → Fin (tcTables nBuf tb) → BufTy
  | .hbm, ⟨i, _⟩ => hbmTy i
  | _, _ => ⟨S4x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_3 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_4 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_5 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_6 : Ref sig .tc := ⟨.hbm, 97, rfl⟩
abbrev main_v56 : Ref sig .tc := ⟨.hbm, 98, rfl⟩
abbrev main_v57 : Ref sig .tc := ⟨.hbm, 99, rfl⟩
abbrev main_call1_c : Ref sig .tc := ⟨.hbm, 100, rfl⟩
abbrev main_call1_v0 : Ref sig .tc := ⟨.hbm, 101, rfl⟩
abbrev main_call1_v1 : Ref sig .tc := ⟨.hbm, 102, rfl⟩
abbrev main_call1_c_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_c_1 : Ref sig .tc := ⟨.hbm, 108, rfl⟩
abbrev main_call1_c_2 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_c_3 : Ref sig .tc := ⟨.hbm, 116, rfl⟩
abbrev main_call1_v12 : Ref sig .tc := ⟨.hbm, 117, rfl⟩
abbrev main_call1_v13 : Ref sig .tc := ⟨.hbm, 118, rfl⟩
abbrev main_call1_v14 : Ref sig .tc := ⟨.hbm, 119, rfl⟩
abbrev main_call1_cst : Ref sig .tc := ⟨.hbm, 120, rfl⟩
abbrev main_call1_v15 : Ref sig .tc := ⟨.hbm, 121, rfl⟩
abbrev main_v58 : Ref sig .tc := ⟨.hbm, 122, rfl⟩
abbrev main_call2_c : Ref sig .tc := ⟨.hbm, 123, rfl⟩
abbrev main_call2_v0 : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_c_1 : Ref sig .tc := ⟨.hbm, 131, rfl⟩
abbrev main_call2_c_2 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_3 : Ref sig .tc := ⟨.hbm, 139, rfl⟩
abbrev main_call2_v12 : Ref sig .tc := ⟨.hbm, 140, rfl⟩
abbrev main_call2_v13 : Ref sig .tc := ⟨.hbm, 141, rfl⟩
abbrev main_call2_v14 : Ref sig .tc := ⟨.hbm, 142, rfl⟩
abbrev main_call2_cst : Ref sig .tc := ⟨.hbm, 143, rfl⟩
abbrev main_call2_v15 : Ref sig .tc := ⟨.hbm, 144, rfl⟩
abbrev main_v59 : Ref sig .tc := ⟨.hbm, 145, rfl⟩
abbrev main_call3_c : Ref sig .tc := ⟨.hbm, 146, rfl⟩
abbrev main_call3_v0 : Ref sig .tc := ⟨.hbm, 147, rfl⟩
abbrev main_call3_v1 : Ref sig .tc := ⟨.hbm, 148, rfl⟩
abbrev main_call3_c_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_c_1 : Ref sig .tc := ⟨.hbm, 154, rfl⟩
abbrev main_call3_c_2 : Ref sig .tc := ⟨.hbm, 155, rfl⟩
abbrev main_call3_v6 : Ref sig .tc := ⟨.hbm, 156, rfl⟩
abbrev main_call3_v7 : Ref sig .tc := ⟨.hbm, 157, rfl⟩
abbrev main_call3_v8 : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_c_3 : Ref sig .tc := ⟨.hbm, 162, rfl⟩
abbrev main_call3_v12 : Ref sig .tc := ⟨.hbm, 163, rfl⟩
abbrev main_call3_v13 : Ref sig .tc := ⟨.hbm, 164, rfl⟩
abbrev main_call3_v14 : Ref sig .tc := ⟨.hbm, 165, rfl⟩
abbrev main_call3_cst : Ref sig .tc := ⟨.hbm, 166, rfl⟩
abbrev main_call3_v15 : Ref sig .tc := ⟨.hbm, 167, rfl⟩
abbrev main_v60 : Ref sig .tc := ⟨.hbm, 168, rfl⟩
abbrev main_call4_c : Ref sig .tc := ⟨.hbm, 169, rfl⟩
abbrev main_call4_v0 : Ref sig .tc := ⟨.hbm, 170, rfl⟩
abbrev main_call4_v1 : Ref sig .tc := ⟨.hbm, 171, rfl⟩
abbrev main_call4_c_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_c_1 : Ref sig .tc := ⟨.hbm, 177, rfl⟩
abbrev main_call4_c_2 : Ref sig .tc := ⟨.hbm, 178, rfl⟩
abbrev main_call4_v6 : Ref sig .tc := ⟨.hbm, 179, rfl⟩
abbrev main_call4_v7 : Ref sig .tc := ⟨.hbm, 180, rfl⟩
abbrev main_call4_v8 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_c_3 : Ref sig .tc := ⟨.hbm, 185, rfl⟩
abbrev main_call4_v12 : Ref sig .tc := ⟨.hbm, 186, rfl⟩
abbrev main_call4_v13 : Ref sig .tc := ⟨.hbm, 187, rfl⟩
abbrev main_call4_v14 : Ref sig .tc := ⟨.hbm, 188, rfl⟩
abbrev main_call4_cst : Ref sig .tc := ⟨.hbm, 189, rfl⟩
abbrev main_call4_v15 : Ref sig .tc := ⟨.hbm, 190, rfl⟩
abbrev main_v61 : Ref sig .tc := ⟨.hbm, 191, rfl⟩
abbrev main_v62 : Ref sig .tc := ⟨.hbm, 192, rfl⟩
abbrev main_v63 : Ref sig .tc := ⟨.hbm, 193, rfl⟩
abbrev main_v64 : Ref sig .tc := ⟨.hbm, 194, rfl⟩
abbrev main_v65 : Ref sig .tc := ⟨.hbm, 195, rfl⟩
abbrev main_v66 : Ref sig .tc := ⟨.hbm, 196, rfl⟩
abbrev main_v67 : Ref sig .tc := ⟨.hbm, 197, rfl⟩
abbrev main_call5_cst : Ref sig .tc := ⟨.hbm, 198, rfl⟩
abbrev main_call5_v0 : Ref sig .tc := ⟨.hbm, 199, rfl⟩
abbrev main_v68 : Ref sig .tc := ⟨.hbm, 200, rfl⟩

abbrev nD : Nat := 1
abbrev τ : Topo := Topo.v7x

variable {F : FTy → Type} [FloatOps F]
-- ==== Proof.Common.lean ====
/-
  Facts and value functions shared by the two readings of the kernel: a row written through a squeezed slice, the indexed
  store of the SparseCore's vector unit read one element at a time, and what the kernel's two SparseCore calls compute.
-/
module

public import Idealize.ShloMosaic.Lib.SparseCore.Ops
public import Idealize.ShloMosaic.Lib.WritesUnit
public import Idealize.ShloMosaic.Lib.WordArith.Masks
public import Idealize.ShloMosaic.Lib.ValueLayout
public import Idealize.ShloMosaic.Lib.Pointwise.Index

@[expose] public section

set_option maxRecDepth 16384
set_option Elab.async false

noncomputable section

namespace Cert.Common

open Idealize.ShloMosaic

variable {α : Type}

/-- Rows of a table named by words: row `r` of the result is the table's row at word `r`. -/
def rowsOf (tbl : (⟨2, ![1000000, 64]⟩ : Shape).Idx → α) (idx : (⟨1, ![1024]⟩ : Shape).Idx → BitVec 32) :
    (⟨2, ![1024, 64]⟩ : Shape).Idx → α := fun x =>
  tbl (ix2 ⟨(idx (ix1 (x 0))).toNat % 1000000, Nat.mod_lt _ (by norm_num)⟩ (x 1))

/-! ## The scan of a constant vector -/

/-- The running maximum of a constant vector is that constant. -/
theorem scan_max_const (y : BitVec 32) :
    scan (d := ![16]) .max (fun _ => y) = fun _ => y := by
  funext i
  unfold scan
  have h : ∀ l : List (Fin 16), l.foldl (fun r _ => ScanKind.max.step r y) y = y := by
    intro l
    induction l with
    | nil => rfl
    | cons a l ih =>
      rw [List.foldl_cons]
      have e : ScanKind.max.step y y = y := by simp [ScanKind.step, IntOp.maxui]
      rw [e]; exact ih
  exact h _

/-- The sign bit flipped, the running maximum taken and the bit flipped back: a constant vector is unchanged. -/
theorem flip_scan_const (x : BitVec 32) (v : IVec ⟨1, ![16]⟩ 32) (hv : v = fun _ => x) :
    xori (scan (d := ![16]) .max (xori v (broadcast ⟨1, ![16]⟩ 2147483648#32))) (broadcast ⟨1, ![16]⟩ 2147483648#32) = fun _ => x := by
  subst hv
  have e : xori (fun _ : (⟨1, ![16]⟩ : Shape).Idx => x) (broadcast ⟨1, ![16]⟩ 2147483648#32) = fun _ => x ^^^ 2147483648#32 := rfl
  rw [e, scan_max_const]
  funext i
  show (x ^^^ 2147483648#32) ^^^ 2147483648#32 = x
  rw [BitVec.xor_assoc, BitVec.xor_self, BitVec.xor_zero]

/-! ## A window written through a squeezed slice -/

section Squeezed

variable {sig : RefSig} {κ : Kind} {sp : Space} {s s' : Shape} {e : EltTy} {Val : EltTy → Type}

/-- Inside the window, the element reads the payload. -/
theorem read_write_sq_hit (v : View sig κ sp s e) (r : Rect s) (hn : s'.numel = r.shape.numel) (f : v.ty.Contents Val)
    (w : s'.Idx → Val e) (x : s'.Idx) :
    v.read Val (((v.slice r).reshape s' hn).write Val f w Finset.univ) (r.emb (Shape.reshapeEquiv hn x)) = w x := by
  rw [View.write_reshape_univ, View.read_slice_write_emb r f _ (Finset.mem_univ _), Equiv.symm_apply_apply]

/-- Outside the window, the element keeps its contents. -/
theorem read_write_sq_miss (v : View sig κ sp s e) (r : Rect s) (hn : s'.numel = r.shape.numel) (f : v.ty.Contents Val)
    (w : s'.Idx → Val e) (y : s.Idx) (hy : y ∉ r.set) :
    v.read Val (((v.slice r).reshape s' hn).write Val f w Finset.univ) y = v.read Val f y := by
  rw [View.write_reshape_univ]
  exact View.read_slice_write_of_not_mem _ _ _ _ (by rw [Rect.map_emb_univ]; exact hy)

end Squeezed

/-- Lane `c` of one row's window, squeezed to a vector, is that row's element `c`. -/
theorem row_emb {n : ℕ} {off : Fin 2 → ℕ} (o : ℕ) (ho : off = ![o, 0])
    (inb : ∀ a, off a + (![1, 64] : Fin 2 → ℕ) a ≤ (⟨2, ![n, 64]⟩ : Shape).size a)
    (hn : (⟨1, ![64]⟩ : Shape).numel = (Rect.unit (s := ⟨2, ![n, 64]⟩) off ![1, 64] inb).shape.numel) (hlt : o < n) (c : Fin 64) :
    (Rect.unit (s := ⟨2, ![n, 64]⟩) off ![1, 64] inb).emb (Shape.reshapeEquiv hn (ix1 c)) = ix2 ⟨o, hlt⟩ c := by
  subst ho
  have e : Shape.reshapeEquiv hn (ix1 c) = (Fin.cons ⟨0, Nat.one_pos⟩ (ix1 c) : (⟨2, ![1, 64]⟩ : Shape).Idx) :=
    Shape.reshapeEquiv_cons_one (n := 1) (d := ![64]) hn (ix1 c)
  rw [e]
  funext a
  match a with
  | ⟨0, _⟩ => exact Fin.ext (by show o + 1 * 0 = o; omega)
  | ⟨1, _⟩ => exact Fin.ext (by show 0 + 1 * c.val = c.val; omega)

/-- An element of another row is outside the row's window. -/
theorem row_not_mem {n : ℕ} {off : Fin 2 → ℕ} (o : ℕ) (ho : off = ![o, 0])
    (inb : ∀ a, off a + (![1, 64] : Fin 2 → ℕ) a ≤ (⟨2, ![n, 64]⟩ : Shape).size a) (r : Fin n) (c : Fin 64) (hr : r.val ≠ o) :
    ix2 r c ∉ (Rect.unit (s := ⟨2, ![n, 64]⟩) off ![1, 64] inb).set := by
  subst ho
  rw [Rect.mem_set_unit]
  intro h
  have h0 : o ≤ r.val ∧ r.val < o + 1 := h (0 : Fin 2)
  omega

/-! ## The indexed store, one element at a time -/

section StoreIdx

variable {ι κ β : Type}

/-- A fold of conditional overwrites keeps an element none of the overwrites names. -/
theorem foldl_upd_miss (P : ι → κ → Prop) [∀ k j, Decidable (P k j)] (v : ι → β) (y : κ) :
    ∀ (l : List ι) (f : κ → β), (∀ k ∈ l, ¬ P k y) → l.foldl (fun g k j => if P k j then v k else g j) f y = f y
  | [], _, _ => rfl
  | a :: l, f, h => by
    rw [List.foldl_cons, foldl_upd_miss P v y l _ fun k hk => h k (List.mem_cons_of_mem _ hk)]
    exact if_neg (h a List.mem_cons_self)

/-- A fold of conditional overwrites leaves, at an element named by some overwrite, the value those that name it agree on. -/
theorem foldl_upd_hit (P : ι → κ → Prop) [∀ k j, Decidable (P k j)] (v : ι → β) (y : κ) :
    ∀ (l : List ι) (f : κ → β) (k₀ : ι), k₀ ∈ l → P k₀ y → (∀ k ∈ l, P k y → v k = v k₀) →
      l.foldl (fun g k j => if P k j then v k else g j) f y = v k₀
  | [], _, _, h, _, _ => absurd h List.not_mem_nil
  | a :: l, f, k₀, hm, hP, hu => by
    rw [List.foldl_cons]
    by_cases hex : ∃ k ∈ l, P k y
    · obtain ⟨k, hk, hPk⟩ := hex
      have e := hu k (List.mem_cons_of_mem _ hk) hPk
      rw [foldl_upd_hit P v y l _ k hk hPk fun k' hk' h' => (hu k' (List.mem_cons_of_mem _ hk') h').trans e.symm, e]
    · have hno : ∀ k ∈ l, ¬ P k y := fun k hk h => hex ⟨k, hk, h⟩
      rw [foldl_upd_miss P v y l _ hno]
      rcases List.mem_cons.mp hm with rfl | h
      · exact if_pos hP
      · exact absurd hP (hno _ h)

variable {F : FTy → Type} [FloatOps F]

/-- An unmasked indexed store of 16 values down one column of a [208, 64] buffer, from row `o` on. -/
theorem storeIdx_col (f : Vec F ⟨2, ![208, 64]⟩ .f32) (rws cls : IVec ⟨1, ![16]⟩ 32) (v : Vec F ⟨1, ![16]⟩ .f32)
    (h : ∀ a x, ((![rws, cls] : Fin 2 → IVec ⟨1, ![16]⟩ 32) a x).toNat < (⟨2, ![208, 64]⟩ : Shape).size a) (o c : ℕ)
    (hr : ∀ k : Fin 16, (rws (ix1 k)).toNat = o + k.val) (hc : ∀ k : Fin 16, (cls (ix1 k)).toNat = c)
    (y : (⟨2, ![208, 64]⟩ : Shape).Idx) :
    storeIdx f ![rws, cls] v (fun _ => 1#1) false h y
      = if hy : (o ≤ (y 0).val ∧ (y 0).val < o + 16) ∧ (y 1).val = c then v (ix1 ⟨(y 0).val - o, by omega⟩) else f y := by
  have hlane : ∀ k : Fin 16, (Shape.ofLane k : (⟨1, ![16]⟩ : Shape).Idx) = ix1 k := fun k => by
    funext a; match a with | ⟨0, _⟩ => rfl
  have hP : ∀ k : Fin 16, (∀ a, (y a).val = (idxAt (s := ⟨2, ![208, 64]⟩) ![rws, cls] h (Shape.ofLane k) a).val)
      ↔ ((y 0).val = o + k.val ∧ (y 1).val = c) := by
    intro k
    rw [hlane k, ← hr k, ← hc k]
    exact ⟨fun g => ⟨g 0, g 1⟩, fun g => Fin.forall_fin_two.mpr g⟩
  have e : storeIdx f ![rws, cls] v (fun _ => 1#1) false h
      = (List.finRange 16).foldl (fun g k j => if (∀ a, (j a).val = (idxAt (s := ⟨2, ![208, 64]⟩) ![rws, cls] h (Shape.ofLane k) a).val)
          then v (Shape.ofLane k) else g j) f := by
    unfold storeIdx
    refine congrArg (fun G => List.foldl G f (List.finRange 16)) ?_
    funext g k
    dsimp only
    rw [if_pos (show (1#1 : BitVec 1) = 1 from rfl)]
    simp only [Bool.false_eq_true, if_false]
  rw [e]
  split
  next hy =>
    have hk : (y 0).val - o < 16 := by omega
    refine (foldl_upd_hit _ _ y _ f ⟨(y 0).val - o, hk⟩ (List.mem_finRange _) ((hP _).mpr ⟨?_, hy.2⟩) ?_).trans ?_
    · show (y 0).val = o + ((y 0).val - o); omega
    · intro k _ hPk
      have := ((hP k).mp hPk).1
      congr 1
      exact congrArg Shape.ofLane (Fin.ext (by show k.val = (y 0).val - o; omega))
    · exact congrArg v (hlane ⟨(y 0).val - o, hk⟩)
  next hy =>
    refine foldl_upd_miss _ _ y _ f fun k _ hPk => hy ?_
    have := (hP k).mp hPk
    have := k.isLt
    exact ⟨⟨by omega, by omega⟩, by omega⟩

end StoreIdx

end Cert.Common
-- ==== Proof.KBase.lean ====
/-
  The kernel program's configuration as the launch theorem takes it: the label signature, the procedure table, the
  SparseCore launch facts, and the resource algebra (the launch handshakes' rounds, the TensorCore pipelines' rounds, the
  local transfers' counters).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Common
public import proofs.«01_k».proof.Proof.Gen.Kernel
public import proofs.«01_k».proof.Proof.Gen.Kernel.Skeleton
public import proofs.«01_k».proof.Proof.Gen.Kernel.Launch
public import proofs.«01_k».proof.Proof.Gen.Kernel.Points

@[expose] public section

set_option maxRecDepth 16384
set_option Elab.async false

noncomputable section

namespace Cert.Kernel.Run

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the kernels and of the two TensorCore pipelines. -/
abbrev ΛP : Labels := Pipeline.Sig Λ₀ (Fin 2) fun p => (pcfgs (F := F) p).Adm
/-- The SparseCore launch configuration: two calls. -/
abbrev K : SparseCore.Cfg τ sig (ΛP (F := F)) 2 := sc (F := F)
/-- The procedure table under the launch protocol. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch protocol's semaphores are distinct and on the processors that use them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
abbrev UU : Type := UH × (UP × Counters)

local notation "𝕄" => MT nD τ sig (HIx 2) (Elt F) ℕ UU ℕ

/-- Where the handshakes' rounds live. -/
abbrev EH : Emb UH (MT nD τ sig (HIx 2) (Elt F) ℕ UU ℕ) := embL

/-- Where the pipelines' rounds live. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP (F := F)).LandsIn (upEmb : UEmb _ 𝕄) := by unfold EP; infer_instance

/-- The grid point of core `c`, subcore `s`. -/
def coordsV (c : Fin (grid0.bound 0)) (s : Fin (grid0.bound 1)) : grid0.Coords := fun | 0 => c | 1 => s | ⟨_ + 2, h⟩ => absurd h (Nat.not_lt.2 (Nat.le_add_left _ _))

/-- A task's weaker record of its waits: those it had, or waits of its own. -/
theorem obl_post [FloatOps F] {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A side condition assumed at the head of a program, given its proof. -/
theorem wp_assumed [FloatOps F] (c : Thread nD τ) {α : Type} {Q : α → sProp (MT nD τ sig (HIx 2) (Elt F) ℕ UU ℕ)} {P : Prop} {dec : Decidable P} {k : PLift P → Prog (TpuEff nD τ sig (Elt F) Λ₀ c.2) α} (hP : P) :
    wp frame (wpE (defs₀ (F := F)) 𝒱₀ c none) Set.univ (k ⟨hP⟩) Q
      ⊢ wp frame (wpE (defs₀ (F := F)) 𝒱₀ c none) Set.univ (Prog.lift (TpuEff.assume P dec) >>= k) Q :=
  wp_assume 𝒱₀ c none Set.univ hP

/-- A side condition assumed, then an indexed load whose range fact is that condition: the program continues at `val`, what
    the load reads. -/
theorem wp_gather [FloatOps F] (c : Thread nD τ) {α : Type} {Q : α → sProp (MT nD τ sig (HIx 2) (Elt F) ℕ UU ℕ)} {s t : Shape} {e : EltTy} {P : Prop} {dec : Decidable P} {base : Memref sig c.2.kind .vmem s e} {idxs : Fin s.rank → IVec t 32}
    {hinb : P → ∀ a x, (idxs a x).toNat < s.size a} {hl : base.view.Loads}
    {k : Vec F t e → Prog (TpuEff nD τ sig (Elt F) Λ₀ c.2) α} {q : PosShare TreeShare} {f : Buf (Elt F) (base.view.loc c)}
    (hP : P) (val : Vec F t e) (hval : loadIdx ((base.access (.whole s)).read (Elt F) f) idxs (hinb hP) = val) :
    (base.view.loc c ↦{q} f)
      ⊢ iprop(((base.view.loc c ↦{q} f) -∗ wp frame (wpE (defs₀ (F := F)) 𝒱₀ c none) Set.univ (k val) Q)
        -∗ wp frame (wpE (defs₀ (F := F)) 𝒱₀ c none) Set.univ
            (Prog.lift (TpuEff.assume P dec) >>= fun hw => SparseCore.vectorLoadIdx base idxs (hinb hw.down) hl >>= k) Q) := by
  subst hval
  iintro H Hk
  iapply (wp_assumed c hP)
  iapply (SparseCore.wp_vectorLoadIdx 𝒱₀ c none Set.univ (base := base) (S := Finset.univ) (q := q) (Finset.subset_univ _)) $$ H
  iexact Hk

/-- An indexed load: the program continues at `val`, what the load reads. -/
theorem wp_take [FloatOps F] (c : Thread nD τ) {α : Type} {Q : α → sProp (MT nD τ sig (HIx 2) (Elt F) ℕ UU ℕ)} {s t : Shape} {e : EltTy} {base : Memref sig c.2.kind .vmem s e} {idxs : Fin s.rank → IVec t 32}
    {hinb : ∀ a x, (idxs a x).toNat < s.size a} {hl : base.view.Loads}
    {k : Vec F t e → Prog (TpuEff nD τ sig (Elt F) Λ₀ c.2) α} {q : PosShare TreeShare} {f : Buf (Elt F) (base.view.loc c)}
    (val : Vec F t e) (hval : loadIdx ((base.access (.whole s)).read (Elt F) f) idxs hinb = val) :
    (base.view.loc c ↦{q} f)
      ⊢ iprop(((base.view.loc c ↦{q} f) -∗ wp frame (wpE (defs₀ (F := F)) 𝒱₀ c none) Set.univ (k val) Q)
        -∗ wp frame (wpE (defs₀ (F := F)) 𝒱₀ c none) Set.univ (SparseCore.vectorLoadIdx base idxs hinb hl >>= k) Q) := by
  subst hval
  exact SparseCore.wp_vectorLoadIdx 𝒱₀ c none Set.univ (base := base) (S := Finset.univ) (q := q) (Finset.subset_univ _)

/-- A side condition assumed, then an unmasked indexed store whose range fact is that condition: the program continues
    holding the contents `g`, what the store leaves. -/
theorem wp_scatter [FloatOps F] (c : Thread nD τ) {α : Type} {Q : α → sProp (MT nD τ sig (HIx 2) (Elt F) ℕ UU ℕ)} {s : Shape} {e : EltTy} {P : Prop} {dec : Decidable P} {dd : Fin 1 → Nat} {base : Memref sig c.2.kind .vmem s e} {idxs : Fin s.rank → IVec ⟨1, dd⟩ 32}
    {v : Vec F ⟨1, dd⟩ e} {mask : IVec ⟨1, dd⟩ 1} {add : Bool}
    {hinb : P → ∀ a x, (idxs a x).toNat < s.size a} {hs : (base.access (.whole s)).Stores Finset.univ}
    {k : PUnit → Prog (TpuEff nD τ sig (Elt F) Λ₀ c.2) α} {f : Buf (Elt F) (base.view.loc c)}
    (hP : P) (hset : (base.access (.whole s)).set = Finset.univ) (g : Buf (Elt F) (base.view.loc c))
    (hval : (base.access (.whole s)).write (Elt F) f
      (storeIdx ((base.access (.whole s)).read (Elt F) f) idxs v mask add (hinb hP)) Finset.univ = g) :
    (base.view.loc c ↦{fullShare} f)
      ⊢ iprop(((base.view.loc c ↦{fullShare} g) -∗ wp frame (wpE (defs₀ (F := F)) 𝒱₀ c none) Set.univ (k ⟨⟩) Q)
        -∗ wp frame (wpE (defs₀ (F := F)) 𝒱₀ c none) Set.univ
            (Prog.lift (TpuEff.assume P dec) >>= fun hw => SparseCore.vectorStoreIdx base idxs v mask add (hinb hw.down) hs >>= k) Q) := by
  subst hval
  iintro H Hk
  iapply (wp_assumed c hP)
  have e : ∀ h : Buf (Elt F) (base.view.loc c), (base.view.loc c ↦{fullShare} h : sProp 𝕄)
      = ((base.access (.whole s)).loc c ↦[(base.access (.whole s)).set]{fullShare} h) := fun h => by rw [hset]
  ihave H' := (Entails.of_eq (e _)) $$ H
  iapply (SparseCore.wp_vectorStoreIdx 𝒱₀ c none Set.univ (base := base)) $$ H'
  iintro H
  iapply Hk
  iapply (Entails.of_eq (e _).symm)
  iexact H

end Cert.Kernel.Run
-- ==== Proof.KGather.lean ====
/-
  The first SparseCore call: each of the 32 vector subcores copies its 32 index words, fetches the named table rows one
  copy at a time, and writes its 32 rows of the result.
-/
module

public import proofs.«01_k».proof.Proof.KBase

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the kernel's memrefs, spelt as the body table passes them
local notation "tblW" => (Memref.whole main_arg3_scv : Memref sig Kind.scVector Space.hbm S1000000x64 EltTy.f32)
local notation "idxW" => (Memref.whole main_v1_scv : Memref sig Kind.scVector Space.hbm S1024 EltTy.i32)
local notation "outW" => (Memref.whole main_v2_scv : Memref sig Kind.scVector Space.hbm S1024x64 EltTy.f32)
local notation "sIdx" => (Memref.whole cc0_scratch0 : Memref sig Kind.scVector Space.vmem S32 EltTy.i32)
local notation "sRow" => (Memref.whole cc0_scratch1 : Memref sig Kind.scVector Space.vmem S32x64 EltTy.f32)

variable [FloatOps F] (d : Dev nD)

/-- Subcore `L` of the grid as a SparseCore and a subcore of it. -/
abbrev cV (L : grid0.Coords) : Fin τ.nSC := (L 0).castLE hcore0
abbrev jV (L : grid0.Coords) : Fin τ.nSub := (L 1).castLE hsub0
abbrev thr0 (L : grid0.Coords) : Thread nD τ := V d (cV L) (jV L)

/-- The rows of the result that subcore `L` writes, as the kernel slices them. -/
abbrev outSl (L : grid0.Coords) : Memref sig Kind.scVector Space.hbm S32x64 EltTy.f32 :=
  (outW).slice (Rect.unit (s := S1024x64) (k0_off5 L) S32x64.size (k0_off5_inb L)) (fun _ => rfl)

abbrev c0cell (c : Fin τ.nSC) (j : Fin τ.nSub) : GSem nD τ sig := (V d c j, .dma cc0_scoped0.sem)
abbrev c1cell (c : Fin τ.nSC) (j : Fin τ.nSub) : GSem nD τ sig := (V d c j, .dma cc0_scoped1.sem)
abbrev c2cell (c : Fin τ.nSC) (j : Fin τ.nSub) : GSem nD τ sig := (V d c j, .dma cc0_scoped2.sem)

omit [FloatOps F] in
/-- The three copy semaphores are among the subcore's own. -/
theorem ownSems0_V (c : Fin τ.nSC) (j : Fin τ.nSub) :
    (ownSems0 (V d c j) : sProp 𝕄)
      = iprop(semVal (c0cell d c j) 0 ∗ semVal (c1cell d c j) 0 ∗ semVal (c2cell d c j) 0
          ∗ bigSep ((((ownCells (V d c j)).erase (c0cell d c j)).erase (c1cell d c j)).erase (c2cell d c j)) fun g => semVal g 0) := by
  unfold SparseCore.Cfg.ownSems0
  rw [SparseCore.bigSep_erase' ((mem_ownCells (g := c0cell d c j)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d c j)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d c j)).mpr ⟨rfl, by show (SemLoc.dma cc0_scoped2.sem : SemLoc sig).isScoped .scVector = true; decide⟩⟩⟩)]

omit [FloatOps F] in
/-- The two scratch buffers are among the subcore's own. -/
theorem ownBufs_V (c : Fin τ.nSC) (j : Fin τ.nSub) :
    (ownBufs (V d c j) : sProp 𝕄)
      = iprop((∃ f, (V d c j).loc cc0_scratch0 ↦{fullShare} f) ∗ (∃ f, (V d c j).loc cc0_scratch1 ↦{fullShare} f)
          ∗ bigSep (((ownRefs (τ := τ) (.scVector c j)).erase ((Proc.scVector c j).devRef cc0_scratch0)).erase
              ((Proc.scVector c j).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c j)
    (b := (Proc.scVector c j).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c j) (b := (Proc.scVector c j).devRef cc0_scratch1) rfl⟩)]

omit [FloatOps F] in
/-- A scratch buffer whole, as the subcore's memref addresses it. -/
theorem pts_sIdx (c : Fin τ.nSC) (j : Fin τ.nSub) (f : Buf (Elt F) ((V d c j).loc cc0_scratch0)) :
    ((sIdx).view.loc (V d c j) ↦{fullShare} f : sProp 𝕄) = (V d c j).loc cc0_scratch0 ↦{fullShare} f := by
  simp only [Memref.view_whole, View.set_whole]
omit [FloatOps F] in
/-- A scratch buffer whole, as the subcore's memref addresses it. -/
theorem pts_sRow (c : Fin τ.nSC) (j : Fin τ.nSub) (f : Buf (Elt F) ((V d c j).loc cc0_scratch1)) :
    ((sRow).view.loc (V d c j) ↦{fullShare} f : sProp 𝕄) = (V d c j).loc cc0_scratch1 ↦{fullShare} f := by
  simp only [Memref.view_whole, View.set_whole]

variable (L : grid0.Coords) (q : PosShare TreeShare)
  (tbl : Vec F S1000000x64 .f32) (idx : IVec S1024 32)

/-- What subcore `L` holds of the call's arrays: a share of the table, a share of the index words, its rows of the result. -/
def pre0 (fo : Vec F S1024x64 .f32) : sProp 𝕄 :=
  iprop(((tblW).view.loc (thr0 d L) ↦{q} tbl) ∗ ((idxW).view.loc (thr0 d L) ↦{q} idx)
    ∗ ((outSl L).view.loc (thr0 d L) ↦[(outSl L).view.set]{fullShare} fo))

/-- Where subcore `L`'s rows begin. -/
def base0 (L : grid0.Coords) : ℕ := ((L 1).val * 2 + (L 0).val) * 32

omit [FloatOps F] in
theorem base0_le (L : grid0.Coords) : base0 L + 32 ≤ 1024 := by
  have h0 : (L 0).val < 2 := (L 0).isLt
  have h1 : (L 1).val < 16 := (L 1).isLt
  unfold base0; omega

omit [FloatOps F] in
theorem off1_eq (L : grid0.Coords) : k0_off1 L = ![base0 L] := by
  have h0 : (L 0).val < 2 := (L 0).isLt
  have h1 : (L 1).val < 16 := (L 1).isLt
  unfold k0_off1 base0 Scalar.muli Scalar.addi
  simp only [IntOp.muli, IntOp.addi, BitVec.toNat_mul, BitVec.toNat_add, BitVec.toNat_ofNat]
  congr 1
  omega

omit [FloatOps F] in
theorem off5_eq (L : grid0.Coords) : k0_off5 L = ![base0 L, 0] := by
  have h := congrFun (off1_eq L) 0
  exact congrArg (fun n => ![n, 0]) h

omit [FloatOps F] in
/-- Index word `k` of subcore `L`'s slice is word `base0 L + k`. -/
theorem off1_emb (L : grid0.Coords) (k : Fin 32) :
    (Rect.unit (s := S1024) (k0_off1 L) S32.size (k0_off1_inb L)).emb (ix1 k)
      = ix1 ⟨base0 L + k.val, by have := base0_le L; omega⟩ := by
  funext a
  match a with
  | ⟨0, _⟩ => exact Fin.ext (by
      show k0_off1 L 0 + 1 * k.val = base0 L + k.val
      rw [off1_eq, Nat.one_mul]; rfl)

omit [FloatOps F] in
theorem k0_trips : k0_t1_loop.trips = 32 := by decide

omit [FloatOps F] in
theorem iv_val {n : ℕ} (k : Fin n) (hn : n ≤ 1024) : (Scf.iv 0#32 1#32 k.val).toNat = k.val :=
  WordArith.toNat_iv_zero_one _ (by have := k.isLt; omega)

omit [FloatOps F] in
theorem chk1_ok (k : Fin k0_t1_loop.trips) : k0_chk1 (broadcast S16 (Scf.iv 0#32 1#32 k)) := by
  have hk : k.val < 32 := Nat.lt_of_lt_of_eq k.isLt k0_trips
  intro a x
  match a with
  | ⟨0, _⟩ =>
    show (Scf.iv 0#32 1#32 k.val).toNat < 32
    rw [iv_val k (by rw [k0_trips]; norm_num)]; exact hk

/-- Before trip `t`: the first `t` rows of the scratch are the table's rows at the subcore's words. -/
def inv0 (g5 : IVec S32 32) (O : CellTallies nD τ sig (HIx 2)) (W : Waits sig (HIx 2)) (t : Nat) (_ : Unit) : sProp 𝕄 :=
  iprop(Transfers.MayWaits (thr0 d L) (none : HIx 2) O
    ∗ ((tblW).view.loc (thr0 d L) ↦{q} tbl)
    ∗ ((sIdx).view.loc (thr0 d L) ↦{fullShare} g5)
    ∗ (∃ f6 : Vec F S32x64 .f32, ((sRow).view.loc (thr0 d L) ↦{fullShare} f6)
        ∗ ⌜∀ (r : Fin 32) (c : Fin 64), r.val < t → f6 (ix2 r c) = rowsOf tbl idx (ix2 ⟨base0 L + r.val, by have := base0_le L; omega⟩ c)⌝)
    ∗ semVal (thr0 d L, SemLoc.dma cc0_scoped1.sem) 0
    ∗ ∃ W', ⌜∀ p ∈ W', p ∈ W ∨ p.2 = none⌝ ∗ owes (thr0 d L) O W')

theorem trip0 (g5 : IVec S32 32) (hg5 : ∀ k : Fin 32, g5 (ix1 k) = idx (ix1 ⟨base0 L + k.val, by have := base0_le L; omega⟩))
    (hidx : ∀ x, (idx x).toNat < 1000000)
    (O : CellTallies nD τ sig (HIx 2)) (W : Waits sig (HIx 2)) (k : Fin k0_t1_loop.trips) :
    inv0 d L q tbl idx g5 O W k.val ()
      ⊢ wp frame (wpE (defs₀ (F := F)) 𝒱₀ (thr0 d L) none) Set.univ
          (k0_t1_body L tblW (Memref.isWhole_whole _) idxW (Memref.isWhole_whole _) outW (Memref.isWhole_whole _)
            sIdx (Memref.isWhole_whole _) sRow (Memref.isWhole_whole _) cc0_scoped0 cc0_scoped1 cc0_scoped2 k ())
          fun u => inv0 d L q tbl idx g5 O W (k.val + 1) u := by
  unfold inv0
  iintro ⟨#Hmw, Ht, H5, ⟨%f6, H6, %hf6⟩, Hs1, %W', %hW', HO⟩
  unfold k0_t1_body
  have hk : k.val < 32 := Nat.lt_of_lt_of_eq k.isLt k0_trips
  have hrow := hg5 ⟨k.val, hk⟩
  iapply (wp_gather (F := F) (thr0 d L) (base := sIdx) (chk1_ok k) (fun _ => g5 (ix1 ⟨k.val, hk⟩)) ?_) $$ H5
  · funext x
    refine congrArg g5 ?_
    funext a
    match a with
    | ⟨0, _⟩ => exact Fin.ext (by
        show 0 + 1 * (Scf.iv 0#32 1#32 k.val).toNat = k.val
        rw [iv_val k (by rw [k0_trips]; norm_num)]; omega)
  iintro H5
  have hv11 : extractAt ![15] (k0_pay1 (F := F) (fun _ => g5 (ix1 ⟨k.val, hk⟩))) inpos_S16_p15 = g5 (ix1 ⟨k.val, hk⟩) :=
    congrFun (flip_scan_const (g5 (ix1 ⟨k.val, hk⟩)) _ rfl) _
  have hw : (extractAt ![15] (k0_pay1 (F := F) (fun _ => g5 (ix1 ⟨k.val, hk⟩))) inpos_S16_p15).toNat < 1000000 := by
    rw [hv11, hrow]; exact hidx _
  have hc2 : k0_chk2 (extractAt ![15] (k0_pay1 (F := F) (fun _ => g5 (ix1 ⟨k.val, hk⟩))) inpos_S16_p15) :=
    Fin.forall_fin_two.mpr ⟨by
      show (extractAt ![15] (k0_pay1 (F := F) (fun _ => g5 (ix1 ⟨k.val, hk⟩))) inpos_S16_p15).toNat + 1 ≤ 1000000
      omega, by show 0 + 64 ≤ 64; omega⟩
  iapply (wp_assumed (F := F) (thr0 d L) hc2)
  sl_exec (disch := exact View.amount_pos _ _ (show 0 < S64.numel by decide))
  obtain ⟨g6, hg6⟩ : ∃ g6 : Vec F S32x64 .f32, g6 = trip0.sl.H6_w0 tbl g5 k f6 hk hc2 := ⟨_, rfl⟩
  rw [← hg6]
  have hoff4 : k0_off4 k = ![k.val, 0] := congrArg (fun n => ![n, 0]) (iv_val k (by rw [k0_trips]; norm_num))
  have hoff3 : k0_off3 (extractAt ![15] (k0_pay1 (F := F) (fun _ => g5 (ix1 ⟨k.val, hk⟩))) inpos_S16_p15)
      = ![(g5 (ix1 ⟨k.val, hk⟩)).toNat, 0] := congrArg (fun v : BitVec 32 => ![v.toNat, 0]) hv11
  have hval : ∀ (r : Fin 32) (c : Fin 64), r.val < k.val + 1 →
      g6 (ix2 r c) = rowsOf tbl idx (ix2 ⟨base0 L + r.val, by have := base0_le L; omega⟩ c) := by
    intro r c hr
    by_cases h : r.val = k.val
    · have he := row_emb (n := 32) k.val hoff4 (k0_off4_inb k) squeezes_S1x64_S64.numel_eq hk c
      have hgo : g6 (ix2 ⟨k.val, hk⟩ c) = tbl ((Rect.unit (s := S1000000x64) (k0_off3 _) S1x64.size (k0_off3_inb _ hc2)).emb
          (Shape.reshapeEquiv squeezes_S1x64_S64.numel_eq (ix1 c))) := by
        rw [← he, hg6]
        exact read_write_sq_hit (sRow).view _ squeezes_S1x64_S64.numel_eq f6 _ (ix1 c)
      have hrk : r = ⟨k.val, hk⟩ := Fin.ext h
      subst hrk
      rw [hgo, row_emb (n := 1000000) _ hoff3 _ _ (by rw [hrow]; exact hidx _)]
      unfold rowsOf
      refine congrArg tbl ?_
      refine congrArg₂ ix2 (Fin.ext ?_) rfl
      show (g5 (ix1 ⟨k.val, hk⟩)).toNat = (idx (ix1 ⟨base0 L + k.val, _⟩)).toNat % 1000000
      rw [hrow, Nat.mod_eq_of_lt (hidx _)]
    · rw [← hf6 r c (by omega), hg6]
      exact read_write_sq_miss (sRow).view _ squeezes_S1x64_S64.numel_eq f6 _ (ix2 r c)
        (row_not_mem (n := 32) k.val hoff4 (k0_off4_inb k) r c h)
  sl_step
  isplitr; · iexact Hmw
  isplitl [Ht]; · iexact Ht
  isplitl [H5]; · iexact H5
  isplitl [H6]
  · iexists g6; isplitl [H6]; · iexact H6
    ipureintro; exact hval
  isplitl [Hs1]; · iexact Hs1
  iexists (insert (SemLoc.dma cc0_scoped1.sem, (default : HIx 2)) W'); isplitr
  · ipureintro; intro p hp
    rcases Finset.mem_insert.mp hp with hp | hp
    · exact .inr (hp ▸ rfl)
    · exact hW' p hp
  · iexact HO

omit [FloatOps F] in
/-- Row `r`, column `c` of subcore `L`'s slice of the result is row `base0 L + r`, column `c`. -/
theorem off5_emb (L : grid0.Coords) (x : S32x64.Idx) :
    (Rect.unit (s := S1024x64) (k0_off5 L) S32x64.size (k0_off5_inb L)).emb x
      = ix2 ⟨base0 L + (x 0).val, by have := base0_le L; have h : (x 0).val < 32 := (x 0).isLt; omega⟩ (x 1) := by
  funext a
  match a with
  | ⟨0, _⟩ => exact Fin.ext (by
      show k0_off5 L 0 + 1 * (x 0).val = base0 L + (x 0).val
      rw [off5_eq, Nat.one_mul]; rfl)
  | ⟨1, _⟩ => exact Fin.ext (by
      show k0_off5 L 1 + 1 * (x 1).val = (x 1).val
      rw [off5_eq, Nat.one_mul]; exact Nat.zero_add _)

theorem body0 (hF : (K (F := F)).Facts) (fo : Vec F S1024x64 .f32)
    (hidx : ∀ x, (idx x).toNat < 1000000)
    (O : CellTallies nD τ sig (HIx 2)) (W : Waits sig (HIx 2)) (hO : ∀ g, O g none = 0) :
    iprop(levAts (K (F := F)).L (K (F := F)).lev ∗ emp ∗ pre0 d L q tbl idx fo
        ∗ scopedBufs (thr0 d L) ∗ scopedSems0 (thr0 d L) ∗ owes (thr0 d L) O W)
      ⊢ wp frame (wpE (defs₀ (F := F)) 𝒱₀ (thr0 d L) none) Set.univ
          (cc0_k L tblW (Memref.isWhole_whole _) idxW (Memref.isWhole_whole _) outW (Memref.isWhole_whole _)
            sIdx (Memref.isWhole_whole _) sRow (Memref.isWhole_whole _) cc0_scoped0 cc0_scoped1 cc0_scoped2)
          fun _ => iprop(pre0 d L q tbl idx (rowsOf tbl idx)
            ∗ scopedBufs (thr0 d L) ∗ scopedSems0 (thr0 d L)
            ∗ ∃ W', ⌜∀ p ∈ W', p ∈ W ∨ p.2 = none⌝ ∗ owes (thr0 d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold pre0
  iintro ⟨#Hlv, -, ⟨Ht, Hi, Ho⟩, ⟨⟨%f5, H5⟩, ⟨%f6, H6⟩, Hbufs⟩, ⟨Hs0, Hs1, Hs2, Hsems⟩, HO⟩
  ihave Hmw := ((K (F := F)).mayWaits_none (thr := thr0 d L) hO) $$ Hlv
  ihave H5' := (Entails.of_eq (pts_sIdx (F := F) d (cV L) (jV L) _).symm) $$ H5
  ihave H6' := (Entails.of_eq (pts_sRow (F := F) d (cV L) (jV L) _).symm) $$ H6
  sl_exec
  have hb : base0 L + 32 ≤ 1024 := base0_le L
  obtain ⟨g5, hg5⟩ : ∃ g5 : IVec S32 32, g5 = View.write (Elt F) (sIdx).view f5 (body0.sl.dma0 L idx) Finset.univ := ⟨_, rfl⟩
  have hg5' : ∀ k : Fin 32, g5 (ix1 k) = idx (ix1 ⟨base0 L + k.val, by omega⟩) := by
    intro k
    rw [hg5, View.write_whole_univ]
    exact congrArg idx (off1_emb L k)
  rw [← hg5]
  sl_for (inv0 d L q tbl idx g5 O W) $$ [Hmw Ht H5' H6' Hs1 HO]
  case region =>
    exact fun k _ => trip0 d L q tbl idx g5 hg5' hidx O W k
  · unfold inv0
    isplitl [Hmw]; · iexact Hmw
    isplitl [Ht]; · iexact Ht
    isplitl [H5']; · iexact H5'
    isplitl [H6']
    · iexists f6; isplitl [H6']; · iexact H6'
      ipureintro; intro r c h; exact absurd h (Nat.not_lt_zero _)
    isplitl [Hs1]; · iexact Hs1
    iexists _; isplitr; rotate_left
    · iexact HO
    ipureintro; intro p hp
    rcases Finset.mem_insert.mp hp with hp | hp
    · exact .inr (hp ▸ rfl)
    · exact .inl hp
  iintro %_ HI
  unfold inv0
  icases HI with ⟨Hmw, Ht, H5, ⟨%g6, H6, %hg6⟩, Hs1, %W', %hW', HO⟩
  sl_exec
  have hout : ((outSl L).view.loc (thr0 d L) ↦[(outSl L).view.set]{fullShare}
        (outSl L).view.writes (Elt F) fo [⟨Rect.whole S32x64, body0.sl.dma0_1 g6⟩] : sProp 𝕄)
      = ((outSl L).view.loc (thr0 d L) ↦[(outSl L).view.set]{fullShare} rowsOf tbl idx) := by
    refine pointsTo_congr fun i hi => ?_
    obtain ⟨x, -, rfl⟩ := Finset.mem_map.mp hi
    have h1 := View.read_writes_cons_emb (outSl L).view fo (Rect.whole S32x64) (body0.sl.dma0_1 g6) [] x
    rw [Rect.emb_whole_apply] at h1
    refine Eq.trans h1 ?_
    have h2 := hg6 (x 0) (x 1) (Nat.lt_of_lt_of_eq (x 0).isLt (k0_trips).symm)
    rw [show (outSl L).view.emb x = _ from off5_emb L x]
    refine Eq.trans ?_ h2
    exact congrArg g6 (eq_ix2 x)
  ihave Ho' := (Entails.of_eq hout) $$ Ho
  sl_step
  isplitl [Ht Hi Ho']
  · isplitl [Ht]; · iexact Ht
    isplitl [Hi]; · iexact Hi
    iexact Ho'
  isplitl [H5 H6 Hbufs]
  · isplitl [H5]; · iexists _; iapply (Entails.of_eq (pts_sIdx (F := F) d (cV L) (jV L) _)); iexact H5
    isplitl [H6]; · iexists _; iapply (Entails.of_eq (pts_sRow (F := F) d (cV L) (jV L) _)); iexact H6
    iexact Hbufs
  isplitl [Hs0 Hs1 Hs2 Hsems]
  · isplitl [Hs0]; · iexact Hs0
    isplitl [Hs1]; · iexact Hs1
    isplitl [Hs2]; · iexact Hs2
    iexact Hsems
  iexists _; isplitr; rotate_left
  · iexact HO
  ipureintro; intro p hp
  rcases Finset.mem_insert.mp hp with hp | hp
  · exact .inr (hp ▸ rfl)
  · exact hW' p hp

end Cert.Kernel.Run
-- ==== Proof.RelPos.lean ====
/-
  The second SparseCore call's value, and the words its loops compute: which slab a step of a subcore's loop is, and which
  table words the four differences of two positions name.
-/
module

public import proofs.«01_k».proof.Proof.Common

@[expose] public section

set_option maxRecDepth 16384
set_option Elab.async false

noncomputable section

namespace Cert.Common

open Idealize.ShloMosaic

local notation "I16" => IVec (⟨1, ![16]⟩ : Shape) 32

/-- Sixteen lanes. -/
abbrev P16 : Shape := ⟨1, ![16]⟩

variable {F : FTy → Type} [FloatOps F]

/-! ## The value -/

/-- The first word of the table row for the difference of two positions, `w` being the word of difference zero. -/
def adr (w s t : BitVec 32) : BitVec 32 := (s - t) * 64#32 + w

/-- Word `a + c` of the flat table. -/
def cell (p : Vec F ⟨1, ![102656]⟩ .f32) (a : BitVec 32) (c : ℕ) : F .f32 :=
  p (ix1 ⟨(a.toNat + c) % 102656, Nat.mod_lt _ (by norm_num)⟩)

/-- Column `c` for a pair of tokens with positions `(s₁, e₁)` and `(s₂, e₂)`: four table words added in pairs, negative
    results made zero. -/
def relAt (p : Vec F ⟨1, ![102656]⟩ .f32) (s₁ s₂ e₁ e₂ : BitVec 32) (c : ℕ) : F .f32 :=
  FloatOps.maximumf
    (FloatOps.addf (FloatOps.addf (cell p (adr 12800#32 s₁ s₂) c) (cell p (adr 38464#32 s₁ e₂) c))
      (FloatOps.addf (cell p (adr 64128#32 e₁ s₂) c) (cell p (adr 89792#32 e₁ e₂) c)))
    (Scalar.ofBits .f32 0x00000000#32)

/-- Word `r` of row `b` of a position table whose rows are 208 words apart. -/
def posAt (ps : IVec ⟨1, ![832]⟩ 32) (b r : ℕ) : BitVec 32 := ps (ix1 ⟨(208 * b + r) % 832, Nat.mod_lt _ (by norm_num)⟩)

/-- Rows of slab `(b, i)`: row `j`, column `c` for tokens `i` and `j` of sequence `b`. -/
def slabOf (p : Vec F ⟨1, ![102656]⟩ .f32) (ps pe : IVec ⟨1, ![832]⟩ 32) (b i : ℕ) : Vec F ⟨2, ![208, 64]⟩ .f32 := fun y =>
  relAt p (posAt ps b i) (posAt ps b (y 0).val) (posAt pe b i) (posAt pe b (y 0).val) (y 1).val

/-- What the second SparseCore call computes. -/
def relOut (p : Vec F ⟨1, ![102656]⟩ .f32) (ps pe : IVec ⟨1, ![832]⟩ 32) : Vec F ⟨4, ![4, 200, 200, 64]⟩ .f32 := fun z =>
  relAt p (posAt ps (z 0).val (z 1).val) (posAt ps (z 0).val (z 2).val) (posAt pe (z 0).val (z 1).val)
    (posAt pe (z 0).val (z 2).val) (z 3).val

/-! ## Sixteen lanes at a time -/

/-- Every lane names a whole row of 64 table words. -/
def Bnd (X : I16) : Prop := ∀ x, (X x).toNat + 64 ≤ 102656

/-- The table words `n` past the sixteen words of `X`. -/
def gv (p : Vec F ⟨1, ![102656]⟩ .f32) (X : I16) (n : ℕ) : Vec F P16 .f32 := fun x => cell p (X x) n

/-- Four vectors added in pairs, negative lanes made zero. -/
def sumMax (a b c e : Vec F P16 .f32) : FVec F P16 .f32 :=
  maximumf (addf (addf a b) (addf c e)) (broadcast P16 (Scalar.ofBits .f32 0x00000000#32))

theorem step_toNat (X : I16) (hX : Bnd X) (n : ℕ) (hn : n < 64) (x : P16.Idx) :
    (addi X (broadcast P16 (BitVec.ofNat 32 n)) x).toNat = (X x).toNat + n := by
  have h := hX x
  show (X x + BitVec.ofNat 32 n).toNat = _
  rw [BitVec.toNat_add, BitVec.toNat_ofNat]
  omega

/-- Sixteen words stepped along their rows stay inside the table. -/
theorem step_inb (X : I16) (hX : Bnd X) (n : ℕ) (hn : n < 64) :
    ∀ a x, ((![addi X (broadcast P16 (BitVec.ofNat 32 n))] : Fin 1 → I16) a x).toNat < (⟨1, ![102656]⟩ : Shape).size a := by
  intro a x
  match a with
  | ⟨0, _⟩ =>
    show (addi X (broadcast P16 (BitVec.ofNat 32 n)) x).toNat < 102656
    rw [step_toNat X hX n hn]
    have := hX x
    omega

/-- What an indexed load of the table reads at those words. -/
theorem loadIdx_step (p : Vec F ⟨1, ![102656]⟩ .f32) (X : I16) (hX : Bnd X) (n : ℕ) (hn : n < 64)
    (h : ∀ a x, ((![addi X (broadcast P16 (BitVec.ofNat 32 n))] : Fin 1 → I16) a x).toNat < (⟨1, ![102656]⟩ : Shape).size a) :
    loadIdx p ![addi X (broadcast P16 (BitVec.ofNat 32 n))] h = gv p X n := by
  funext x
  refine congrArg p ?_
  funext a
  match a with
  | ⟨0, _⟩ => exact Fin.ext (by
      show (addi X (broadcast P16 (BitVec.ofNat 32 n)) x).toNat = ((X x).toNat + n) % 102656
      have := hX x
      rw [step_toNat X hX n hn, Nat.mod_eq_of_lt (by omega)])

/-- A store of sixteen lanes down column `n` of the buffer stays inside it. -/
theorem col_inb (R : I16) (o : ℕ) (hR : ∀ k : Fin 16, (R (ix1 k)).toNat = o + k.val) (ho : o + 16 ≤ 208) (n : ℕ) (hn : n < 64) :
    ∀ a x, ((![R, broadcast P16 (BitVec.ofNat 32 n)] : Fin 2 → I16) a x).toNat < (⟨2, ![208, 64]⟩ : Shape).size a := by
  intro a x
  match a with
  | ⟨0, _⟩ =>
    have h : (R x).toNat = o + (x 0).val := (congrArg (fun z => (R z).toNat) (eq_ix1 x)).trans (hR (x 0))
    have hx : (x 0).val < 16 := (x 0).isLt
    show (R x).toNat < 208
    omega
  | ⟨1, _⟩ =>
    show (BitVec.ofNat 32 n).toNat < 64
    rw [BitVec.toNat_ofNat]; omega

/-- The rows before `o`, and the first `n` columns of the sixteen rows from `o` on, hold `G`. -/
def Good (G : Vec F ⟨2, ![208, 64]⟩ .f32) (o n : ℕ) (f : Vec F ⟨2, ![208, 64]⟩ .f32) : Prop :=
  ∀ y, ((y 0).val < o ∨ ((y 0).val < o + 16 ∧ (y 1).val < n)) → f y = G y

/-- One more column stored. -/
theorem good_step {G f : Vec F ⟨2, ![208, 64]⟩ .f32} {o n : ℕ} (hf : Good G o n f) (R : I16)
    (hR : ∀ k : Fin 16, (R (ix1 k)).toNat = o + k.val) (hn : n < 64) (v : Vec F P16 .f32)
    (hv : ∀ (k : Fin 16) (y : (⟨2, ![208, 64]⟩ : Shape).Idx), (y 0).val = o + k.val → (y 1).val = n → v (ix1 k) = G y)
    (h : ∀ a x, ((![R, broadcast P16 (BitVec.ofNat 32 n)] : Fin 2 → I16) a x).toNat < (⟨2, ![208, 64]⟩ : Shape).size a) :
    Good G o (n + 1) (storeIdx f ![R, broadcast P16 (BitVec.ofNat 32 n)] v (fun _ => 1#1) false h) := by
  intro y hy
  rw [storeIdx_col f R _ v h o n hR (fun k => by
    show (BitVec.ofNat 32 n).toNat = n
    rw [BitVec.toNat_ofNat]; omega) y]
  split
  next hc => exact hv _ y (by show (y 0).val = o + ((y 0).val - o); omega) hc.2
  next hc => exact hf y (by omega)

/-- All 64 columns stored: the next sixteen rows may start. -/
theorem good_next {G f : Vec F ⟨2, ![208, 64]⟩ .f32} {o : ℕ} (hf : Good G o 64 f) : Good G (o + 16) 0 f := by
  intro y hy
  have : (y 1).val < 64 := (y 1).isLt
  exact hf y (by omega)

/-- The sixteen rows from `o` on: their table words inside the table, their rows inside the buffer, and `G` their values. -/
structure Cols (p : Vec F ⟨1, ![102656]⟩ .f32) (X₁ X₂ X₃ X₄ R : I16) (G : Vec F ⟨2, ![208, 64]⟩ .f32) (o : ℕ) : Prop where
  h₁ : Bnd X₁
  h₂ : Bnd X₂
  h₃ : Bnd X₃
  h₄ : Bnd X₄
  hR : ∀ k : Fin 16, (R (ix1 k)).toNat = o + k.val
  ho : o + 16 ≤ 208
  hG : ∀ n, n < 64 → ∀ (k : Fin 16) (y : (⟨2, ![208, 64]⟩ : Shape).Idx), (y 0).val = o + k.val → (y 1).val = n →
    sumMax (gv p X₁ n) (gv p X₂ n) (gv p X₃ n) (gv p X₄ n) (ix1 k) = G y

/-! ## The words -/

/-- The row of a difference of two positions below 200 lies inside the table. -/
theorem adr_bnd (w : ℕ) (hw : 12800 ≤ w) (hw' : w ≤ 89792) (s t : BitVec 32) (hs : s.toNat < 200) (ht : t.toNat < 200) :
    (adr (BitVec.ofNat 32 w) s t).toNat = (s.toNat + 200 - t.toNat) * 64 + (w - 12800) := by
  unfold adr
  rw [BitVec.toNat_add, BitVec.toNat_mul, BitVec.toNat_sub, BitVec.toNat_ofNat, BitVec.toNat_ofNat]
  omega

omit [FloatOps F] in
theorem posAt_lt {ps : IVec ⟨1, ![832]⟩ 32} (hps : ∀ x, (ps x).toNat < 200) (b r : ℕ) : (posAt ps b r).toNat < 200 := hps _

/-- The words the kernel computes for sixteen rows of a slab are what those rows' values need. -/
theorem cols_ok (p : Vec F ⟨1, ![102656]⟩ .f32) {ps pe : IVec ⟨1, ![832]⟩ 32} (hps : ∀ x, (ps x).toNat < 200)
    (hpe : ∀ x, (pe x).toNat < 200) (b i o : ℕ) (ho : o + 16 ≤ 208) {A B R : I16}
    (hA : ∀ k : Fin 16, A (ix1 k) = posAt ps b (o + k.val)) (hB : ∀ k : Fin 16, B (ix1 k) = posAt pe b (o + k.val))
    (hR : ∀ k : Fin 16, (R (ix1 k)).toNat = o + k.val) :
    Cols p (fun x => adr 12800#32 (posAt ps b i) (A x)) (fun x => adr 38464#32 (posAt ps b i) (B x))
      (fun x => adr 64128#32 (posAt pe b i) (A x)) (fun x => adr 89792#32 (posAt pe b i) (B x)) R (slabOf p ps pe b i) o := by
  have hA' : ∀ x, (A x).toNat < 200 := fun x => by
    rw [show A x = _ from (congrArg A (eq_ix1 x)).trans (hA (x 0))]; exact posAt_lt hps _ _
  have hB' : ∀ x, (B x).toNat < 200 := fun x => by
    rw [show B x = _ from (congrArg B (eq_ix1 x)).trans (hB (x 0))]; exact posAt_lt hpe _ _
  have bnd : ∀ (w : ℕ), 12800 ≤ w → w ≤ 89792 → ∀ (s : BitVec 32), s.toNat < 200 → ∀ C : I16, (∀ x, (C x).toNat < 200) →
      Bnd (fun x => adr (BitVec.ofNat 32 w) s (C x)) := fun w h h' s hs C hC x => by
    dsimp only
    rw [adr_bnd w h h' s (C x) hs (hC x)]; omega
  have hs := posAt_lt hps b i
  have he := posAt_lt hpe b i
  refine ⟨bnd 12800 (by omega) (by omega) _ hs A hA', bnd 38464 (by omega) (by omega) _ hs B hB',
    bnd 64128 (by omega) (by omega) _ he A hA', bnd 89792 (by omega) (by omega) _ he B hB', hR, ho, ?_⟩
  intro n _ k y hy hn
  unfold slabOf
  rw [hy, hn, ← hA k, ← hB k]
  rfl

/-- Floor division of a word by 200, as the kernel spells it. -/
def divW (t : BitVec 32) : BitVec 32 :=
  Scalar.select
    (Scalar.andi
      (Scalar.cmpi .ne (Scalar.subi (Scalar.extui (Scalar.cmpi .sgt t 0#32) : BitVec 32) (Scalar.extui (Scalar.cmpi .slt t 0#32)))
        (Scalar.subi (Scalar.extui (Scalar.cmpi .sgt 200#32 0#32)) (Scalar.extui (Scalar.cmpi .slt 200#32 0#32))))
      (Scalar.cmpi .ne (Scalar.remsi t 200#32) 0#32))
    (Scalar.subi (Scalar.divsi t 200#32) 1#32) (Scalar.divsi t 200#32)

theorem divW_val : ∀ t : Fin 800, divW (BitVec.ofNat 32 t.val) = BitVec.ofNat 32 (t.val / 200) := by
  decide +kernel

/-- The word of slab `t`, and of its sequence and its token. -/
theorem slab_words (w k : ℕ) (hw : w < 32) (hk : k < 25) :
    Scalar.addi (Scalar.muli (BitVec.ofNat 32 w) 25#32) (BitVec.ofNat 32 k) = BitVec.ofNat 32 (w * 25 + k) := by
  apply BitVec.eq_of_toNat_eq
  show (BitVec.ofNat 32 w * 25#32 + BitVec.ofNat 32 k).toNat = _
  rw [BitVec.toNat_add, BitVec.toNat_mul, BitVec.toNat_ofNat, BitVec.toNat_ofNat, BitVec.toNat_ofNat, BitVec.toNat_ofNat]
  omega

/-- A subcore's number. -/
theorem wid_word (s c : ℕ) (hs : s < 16) (hc : c < 2) :
    Scalar.addi (Scalar.muli (BitVec.ofNat 32 s) 2#32) (BitVec.ofNat 32 c) = BitVec.ofNat 32 (s * 2 + c) := by
  apply BitVec.eq_of_toNat_eq
  show (BitVec.ofNat 32 s * 2#32 + BitVec.ofNat 32 c).toNat = _
  rw [BitVec.toNat_add, BitVec.toNat_mul, BitVec.toNat_ofNat, BitVec.toNat_ofNat, BitVec.toNat_ofNat, BitVec.toNat_ofNat]
  omega

theorem iv_word (k : ℕ) (hk : k < 1024) : Scf.iv 0#32 1#32 k = BitVec.ofNat 32 k := by
  apply BitVec.eq_of_toNat_eq
  rw [WordArith.toNat_iv_zero_one _ (by omega), BitVec.toNat_ofNat]
  omega

end Cert.Common
-- ==== Proof.KCols.lean ====
/-
  The second SparseCore call, one step of its inner loop: sixteen rows of a slab, 64 columns, each column four indexed loads
  of the table, three additions, a maximum with zero and one indexed store.
-/
module

public import proofs.«01_k».proof.Proof.KBase
public import proofs.«01_k».proof.Proof.RelPos

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the call's memrefs, spelt as the body table passes them
local notation "posW" => (Memref.whole main_v15_scv : Memref sig Kind.scVector Space.hbm S102656 EltTy.f32)
local notation "psW" => (Memref.whole main_v12_scv : Memref sig Kind.scVector Space.hbm S832 EltTy.i32)
local notation "peW" => (Memref.whole main_v14_scv : Memref sig Kind.scVector Space.hbm S832 EltTy.i32)
local notation "relW" => (Memref.whole main_v16_scv : Memref sig Kind.scVector Space.hbm S4x200x200x64 EltTy.f32)
local notation "sP" => (Memref.whole cc3_scratch0 : Memref sig Kind.scVector Space.vmem S102656 EltTy.f32)
local notation "sPs" => (Memref.whole cc3_scratch1 : Memref sig Kind.scVector Space.vmem S832 EltTy.i32)
local notation "sPe" => (Memref.whole cc3_scratch2 : Memref sig Kind.scVector Space.vmem S832 EltTy.i32)
local notation "sB" => (Memref.whole cc3_scratch3 : Memref sig Kind.scVector Space.vmem S208x64 EltTy.f32)

variable [FloatOps F] (d : Dev nD)

/-- Subcore `L` of the grid as a SparseCore and a subcore of it. -/
abbrev cR (L : grid3.Coords) : Fin τ.nSC := (L 0).castLE hcore3
abbrev jR (L : grid3.Coords) : Fin τ.nSub := (L 1).castLE hsub3
abbrev thr3 (L : grid3.Coords) : Thread nD τ := V d (cR L) (jR L)

variable (L : grid3.Coords)

/-- The table held, and the buffer with the rows before `o` and the first `n` columns of the sixteen from `o` on as `G` says. -/
def colSt (p : Vec F S102656 .f32) (G : Vec F S208x64 .f32) (o n : ℕ) : sProp 𝕄 :=
  iprop(((sP).view.loc (thr3 d L) ↦{fullShare} p)
    ∗ ∃ f : Vec F S208x64 .f32, ((sB).view.loc (thr3 d L) ↦{fullShare} f) ∗ ⌜Good G o n f⌝)

/-- Sixteen words read by four indexed loads, each with its range assumed first. -/
theorem wp_gather4 {α : Type} {Q : α → sProp (MT nD τ sig (HIx 2) (Elt F) ℕ UU ℕ)} {p : Vec F S102656 .f32}
    {X₁ X₂ X₃ X₄ : IVec S16 32} (h₁ : Bnd X₁) (h₂ : Bnd X₂) (h₃ : Bnd X₃) (h₄ : Bnd X₄) {n : ℕ} (hn : n < 64)
    {P₁ P₂ P₃ P₄ : Prop} {d₁ : Decidable P₁} {d₂ : Decidable P₂} {d₃ : Decidable P₃} {d₄ : Decidable P₄}
    (w₁ : P₁) (w₂ : P₂) (w₃ : P₃) (w₄ : P₄)
    {i₁ : P₁ → ∀ a x, ((![addi X₁ (broadcast S16 (BitVec.ofNat 32 n))] : Fin 1 → IVec S16 32) a x).toNat < S102656.size a}
    {i₂ : P₂ → ∀ a x, ((![addi X₂ (broadcast S16 (BitVec.ofNat 32 n))] : Fin 1 → IVec S16 32) a x).toNat < S102656.size a}
    {i₃ : P₃ → ∀ a x, ((![addi X₃ (broadcast S16 (BitVec.ofNat 32 n))] : Fin 1 → IVec S16 32) a x).toNat < S102656.size a}
    {i₄ : P₄ → ∀ a x, ((![addi X₄ (broadcast S16 (BitVec.ofNat 32 n))] : Fin 1 → IVec S16 32) a x).toNat < S102656.size a}
    {l₁ l₂ l₃ l₄ : (sP).view.Loads}
    {k : Vec F S16 .f32 → Vec F S16 .f32 → Vec F S16 .f32 → Vec F S16 .f32 → Prog (TpuEff nD τ sig (Elt F) Λ₀ (thr3 d L).2) α} :
    ((sP).view.loc (thr3 d L) ↦{fullShare} p)
      ⊢ iprop((((sP).view.loc (thr3 d L) ↦{fullShare} p)
          -∗ wp frame (wpE (defs₀ (F := F)) 𝒱₀ (thr3 d L) none) Set.univ (k (gv p X₁ n) (gv p X₂ n) (gv p X₃ n) (gv p X₄ n)) Q)
        -∗ wp frame (wpE (defs₀ (F := F)) 𝒱₀ (thr3 d L) none) Set.univ
            (Prog.lift (TpuEff.assume P₁ d₁) >>= fun hw₁ => SparseCore.vectorLoadIdx sP ![addi X₁ (broadcast S16 (BitVec.ofNat 32 n))] (i₁ hw₁.down) l₁ >>= fun a₁ =>
             Prog.lift (TpuEff.assume P₂ d₂) >>= fun hw₂ => SparseCore.vectorLoadIdx sP ![addi X₂ (broadcast S16 (BitVec.ofNat 32 n))] (i₂ hw₂.down) l₂ >>= fun a₂ =>
             Prog.lift (TpuEff.assume P₃ d₃) >>= fun hw₃ => SparseCore.vectorLoadIdx sP ![addi X₃ (broadcast S16 (BitVec.ofNat 32 n))] (i₃ hw₃.down) l₃ >>= fun a₃ =>
             Prog.lift (TpuEff.assume P₄ d₄) >>= fun hw₄ => SparseCore.vectorLoadIdx sP ![addi X₄ (broadcast S16 (BitVec.ofNat 32 n))] (i₄ hw₄.down) l₄ >>= fun a₄ =>
             k a₁ a₂ a₃ a₄) Q) := by
  have val : ∀ (X : IVec S16 32) (hX : Bnd X) (h), loadIdx (((sP).access (.whole S102656)).read (Elt F) p)
      ![addi X (broadcast S16 (BitVec.ofNat 32 n))] h = gv p X n := fun X hX h =>
    (congrArg (fun t => loadIdx t ![addi X (broadcast S16 (BitVec.ofNat 32 n))] h)
      (Memref.read_access_whole (Val := Elt F) cc3_scratch0 p)).trans (loadIdx_step p X hX n hn h)
  iintro H Hk
  iapply (wp_gather (F := F) (thr3 d L) (base := sP) w₁ (gv p X₁ n) (val X₁ h₁ _)) $$ H
  iintro H
  iapply (wp_gather (F := F) (thr3 d L) (base := sP) w₂ (gv p X₂ n) (val X₂ h₂ _)) $$ H
  iintro H
  iapply (wp_gather (F := F) (thr3 d L) (base := sP) w₃ (gv p X₃ n) (val X₃ h₃ _)) $$ H
  iintro H
  iapply (wp_gather (F := F) (thr3 d L) (base := sP) w₄ (gv p X₄ n) (val X₄ h₄ _)) $$ H
  iexact Hk

/-- Sixteen results written down column `n` of the buffer by one indexed store, its range assumed first. -/
theorem wp_col {α : Type} {Q : α → sProp (MT nD τ sig (HIx 2) (Elt F) ℕ UU ℕ)} {G f : Vec F S208x64 .f32} {o n : ℕ}
    (hf : Good G o n f) {R : IVec S16 32} (hR : ∀ k : Fin 16, (R (ix1 k)).toNat = o + k.val) (hn : n < 64)
    {v : Vec F S16 .f32} (hv : ∀ (k : Fin 16) (y : S208x64.Idx), (y 0).val = o + k.val → (y 1).val = n → v (ix1 k) = G y)
    {P : Prop} {dec : Decidable P} (hP : P)
    {hi : P → ∀ a x, ((![R, broadcast S16 (BitVec.ofNat 32 n)] : Fin 2 → IVec S16 32) a x).toNat < S208x64.size a}
    {hs : ((sB).access (.whole S208x64)).Stores Finset.univ}
    {k : PUnit → Prog (TpuEff nD τ sig (Elt F) Λ₀ (thr3 d L).2) α} :
    ((sB).view.loc (thr3 d L) ↦{fullShare} f)
      ⊢ iprop(((∃ g : Vec F S208x64 .f32, ((sB).view.loc (thr3 d L) ↦{fullShare} g) ∗ ⌜Good G o (n + 1) g⌝)
          -∗ wp frame (wpE (defs₀ (F := F)) 𝒱₀ (thr3 d L) none) Set.univ (k ⟨⟩) Q)
        -∗ wp frame (wpE (defs₀ (F := F)) 𝒱₀ (thr3 d L) none) Set.univ
            (Prog.lift (TpuEff.assume P dec) >>= fun hw => SparseCore.vectorStoreIdx sB ![R, broadcast S16 (BitVec.ofNat 32 n)] v
              (fun _ => 1#1) false (hi hw.down) hs >>= k) Q) := by
  have hval : ((sB).access (.whole S208x64)).write (Elt F) f
      (storeIdx (((sB).access (.whole S208x64)).read (Elt F) f) ![R, broadcast S16 (BitVec.ofNat 32 n)] v (fun _ => 1#1) false (hi hP))
      Finset.univ = storeIdx f ![R, broadcast S16 (BitVec.ofNat 32 n)] v (fun _ => 1#1) false (hi hP) :=
    (Memref.write_access_whole_univ (Val := Elt F) cc3_scratch3 f _).trans
      (congrArg (fun t => storeIdx t ![R, broadcast S16 (BitVec.ofNat 32 n)] v (fun _ => 1#1) false (hi hP))
        (Memref.read_access_whole (Val := Elt F) cc3_scratch3 f))
  iintro H Hk
  iapply (wp_scatter (F := F) (thr3 d L) (base := sB) hP (Memref.set_access_whole cc3_scratch3) _ hval) $$ H
  iintro H
  iapply Hk
  iexists _
  isplitl [H]; · iexact H
  ipureintro
  exact good_step hf R hR hn v hv _

/-- Two columns: the values of column `n` stored, those of column `n + 1` read and stored, those of column `n + 2` read. -/
theorem wp_part {α : Type} {Q : α → sProp (MT nD τ sig (HIx 2) (Elt F) ℕ UU ℕ)} {p : Vec F S102656 .f32}
    {X₁ X₂ X₃ X₄ R : IVec S16 32} {G : Vec F S208x64 .f32} {o : ℕ} (C : Cols p X₁ X₂ X₃ X₄ R G o) (n n₁ n₂ : ℕ)
    (e₁ : n + 1 = n₁) (e₂ : n₁ + 1 = n₂) (hn : n₂ < 64)
    {ds : Decidable (∀ a x, ((![R, broadcast S16 (BitVec.ofNat 32 n)] : Fin 2 → IVec S16 32) a x).toNat < S208x64.size a)}
    {ds' : Decidable (∀ a x, ((![R, broadcast S16 (BitVec.ofNat 32 n₁)] : Fin 2 → IVec S16 32) a x).toNat < S208x64.size a)}
    {d₁ : Decidable (∀ a x, ((![addi X₁ (broadcast S16 (BitVec.ofNat 32 n₁))] : Fin 1 → IVec S16 32) a x).toNat < S102656.size a)}
    {d₂ : Decidable (∀ a x, ((![addi X₂ (broadcast S16 (BitVec.ofNat 32 n₁))] : Fin 1 → IVec S16 32) a x).toNat < S102656.size a)}
    {d₃ : Decidable (∀ a x, ((![addi X₃ (broadcast S16 (BitVec.ofNat 32 n₁))] : Fin 1 → IVec S16 32) a x).toNat < S102656.size a)}
    {d₄ : Decidable (∀ a x, ((![addi X₄ (broadcast S16 (BitVec.ofNat 32 n₁))] : Fin 1 → IVec S16 32) a x).toNat < S102656.size a)}
    {d₁' : Decidable (∀ a x, ((![addi X₁ (broadcast S16 (BitVec.ofNat 32 n₂))] : Fin 1 → IVec S16 32) a x).toNat < S102656.size a)}
    {d₂' : Decidable (∀ a x, ((![addi X₂ (broadcast S16 (BitVec.ofNat 32 n₂))] : Fin 1 → IVec S16 32) a x).toNat < S102656.size a)}
    {d₃' : Decidable (∀ a x, ((![addi X₃ (broadcast S16 (BitVec.ofNat 32 n₂))] : Fin 1 → IVec S16 32) a x).toNat < S102656.size a)}
    {d₄' : Decidable (∀ a x, ((![addi X₄ (broadcast S16 (BitVec.ofNat 32 n₂))] : Fin 1 → IVec S16 32) a x).toNat < S102656.size a)}
    {l : (sP).view.Loads} {hs : ((sB).access (.whole S208x64)).Stores Finset.univ}
    {k : (Σ' (_ : Vec F S16 .f32) (_ : Vec F S16 .f32) (_ : Vec F S16 .f32), Vec F S16 .f32) → Prog (TpuEff nD τ sig (Elt F) Λ₀ (thr3 d L).2) α} :
    colSt d L p G o n
      ⊢ iprop((colSt d L p G o n₂
          -∗ wp frame (wpE (defs₀ (F := F)) 𝒱₀ (thr3 d L) none) Set.univ (k ⟨gv p X₁ n₂, gv p X₂ n₂, gv p X₃ n₂, gv p X₄ n₂⟩) Q)
        -∗ wp frame (wpE (defs₀ (F := F)) 𝒱₀ (thr3 d L) none) Set.univ
            ((Prog.lift (TpuEff.assume _ ds) >>= fun hw => SparseCore.vectorStoreIdx sB ![R, broadcast S16 (BitVec.ofNat 32 n)]
                (sumMax (gv p X₁ n) (gv p X₂ n) (gv p X₃ n) (gv p X₄ n)) (fun _ => 1#1) false hw.down hs >>= fun _ =>
              Prog.lift (TpuEff.assume _ d₁) >>= fun hw => SparseCore.vectorLoadIdx sP ![addi X₁ (broadcast S16 (BitVec.ofNat 32 n₁))] hw.down l >>= fun a₁ =>
              Prog.lift (TpuEff.assume _ d₂) >>= fun hw => SparseCore.vectorLoadIdx sP ![addi X₂ (broadcast S16 (BitVec.ofNat 32 n₁))] hw.down l >>= fun a₂ =>
              Prog.lift (TpuEff.assume _ d₃) >>= fun hw => SparseCore.vectorLoadIdx sP ![addi X₃ (broadcast S16 (BitVec.ofNat 32 n₁))] hw.down l >>= fun a₃ =>
              Prog.lift (TpuEff.assume _ d₄) >>= fun hw => SparseCore.vectorLoadIdx sP ![addi X₄ (broadcast S16 (BitVec.ofNat 32 n₁))] hw.down l >>= fun a₄ =>
              Prog.lift (TpuEff.assume _ ds') >>= fun hw => SparseCore.vectorStoreIdx sB ![R, broadcast S16 (BitVec.ofNat 32 n₁)]
                (sumMax a₁ a₂ a₃ a₄) (fun _ => 1#1) false hw.down hs >>= fun _ =>
              Prog.lift (TpuEff.assume _ d₁') >>= fun hw => SparseCore.vectorLoadIdx sP ![addi X₁ (broadcast S16 (BitVec.ofNat 32 n₂))] hw.down l >>= fun b₁ =>
              Prog.lift (TpuEff.assume _ d₂') >>= fun hw => SparseCore.vectorLoadIdx sP ![addi X₂ (broadcast S16 (BitVec.ofNat 32 n₂))] hw.down l >>= fun b₂ =>
              Prog.lift (TpuEff.assume _ d₃') >>= fun hw => SparseCore.vectorLoadIdx sP ![addi X₃ (broadcast S16 (BitVec.ofNat 32 n₂))] hw.down l >>= fun b₃ =>
              Prog.lift (TpuEff.assume _ d₄') >>= fun hw => SparseCore.vectorLoadIdx sP ![addi X₄ (broadcast S16 (BitVec.ofNat 32 n₂))] hw.down l >>= fun b₄ =>
              pure ⟨b₁, b₂, b₃, b₄⟩) >>= k) Q) := by
  subst e₁ e₂
  unfold colSt
  rw [wp_bind]
  iintro ⟨Hp, %f, Hb, %hf⟩ Hk
  iapply (wp_col (F := F) d L (hi := id) hf C.hR (by omega) (C.hG n (by omega)) (col_inb R o C.hR C.ho n (by omega))) $$ Hb
  iintro ⟨%g, Hb, %hg⟩
  iapply (wp_gather4 (F := F) d L (i₁ := id) (i₂ := id) (i₃ := id) (i₄ := id) C.h₁ C.h₂ C.h₃ C.h₄ (n := n + 1) (by omega) (step_inb _ C.h₁ _ (by omega)) (step_inb _ C.h₂ _ (by omega))
    (step_inb _ C.h₃ _ (by omega)) (step_inb _ C.h₄ _ (by omega))) $$ Hp
  iintro Hp
  iapply (wp_col (F := F) d L (hi := id) hg C.hR (by omega) (C.hG (n + 1) (by omega)) (col_inb R o C.hR C.ho (n + 1) (by omega))) $$ Hb
  iintro ⟨%g', Hb, %hg'⟩
  iapply (wp_gather4 (F := F) d L (i₁ := id) (i₂ := id) (i₃ := id) (i₄ := id) C.h₁ C.h₂ C.h₃ C.h₄ (n := n + 1 + 1) hn (step_inb _ C.h₁ _ hn) (step_inb _ C.h₂ _ hn)
    (step_inb _ C.h₃ _ hn) (step_inb _ C.h₄ _ hn)) $$ Hp
  iintro Hp
  rw [wp_pure, fupd_wp_eq]
  iapply Hk
  isplitl [Hp]; · iexact Hp
  iexists g'
  isplitl [Hb]; · iexact Hb
  ipureintro
  exact hg'

/-- Slab number `k` of subcore `L`. -/
def slab (L : grid3.Coords) (k : ℕ) : ℕ := ((L 1).val * 2 + (L 0).val) * 25 + k

omit [FloatOps F] in
theorem slab_lt {k : ℕ} (hk : k < 25) : slab L k < 800 := by
  have h0 : (L 0).val < 2 := (L 0).isLt
  have h1 : (L 1).val < 16 := (L 1).isLt
  unfold slab; omega

omit [FloatOps F] in
theorem k3_trips1 : k3_t1_loop.trips = 25 := by decide

omit [FloatOps F] in
theorem k3_trips2 : k3_t2_loop.trips = 13 := by decide

omit [FloatOps F] in
/-- The word of the slab that trip `k` works on. -/
theorem slab_word (k : Fin k3_t1_loop.trips) :
    Scalar.addi (Scalar.muli (Scalar.addi (Scalar.muli (BitVec.ofNat 32 (L 1).val) 2#32) (BitVec.ofNat 32 (L 0).val)) 25#32)
      (Scf.iv 0#32 1#32 k.val) = BitVec.ofNat 32 (slab L k.val) := by
  have hk : k.val < 25 := Nat.lt_of_lt_of_eq k.isLt k3_trips1
  have h0 : (L 0).val < 2 := (L 0).isLt
  have h1 : (L 1).val < 16 := (L 1).isLt
  rw [wid_word _ _ h1 h0, iv_word _ (by omega), slab_words _ _ (by omega) hk]
  rfl

omit [FloatOps F] in
theorem off3_1_eq (k : Fin k3_t1_loop.trips) (j : Fin k3_t2_loop.trips) :
    k3_off1 L k j = ![208 * (slab L k.val / 200) + 16 * j.val] := by
  have hj : j.val < 13 := Nat.lt_of_lt_of_eq j.isLt k3_trips2
  have hs := slab_lt L (Nat.lt_of_lt_of_eq k.isLt k3_trips1)
  have h : k3_off1 L k j = ![(Scalar.addi (Scalar.muli (divW (Scalar.addi (Scalar.muli (Scalar.addi (Scalar.muli (BitVec.ofNat 32 (L 1).val) 2#32) (BitVec.ofNat 32 (L 0).val)) 25#32)
      (Scf.iv 0#32 1#32 k.val))) 208#32) (Scalar.muli (Scf.iv 0#32 1#32 j.val) 16#32)).toNat] := rfl
  rw [h, slab_word, iv_word _ (by omega), divW_val ⟨slab L k.val, hs⟩]
  refine congrArg (fun n => ![n]) ?_
  show (BitVec.ofNat 32 (slab L k.val / 200) * 208#32 + BitVec.ofNat 32 j.val * 16#32).toNat = _
  rw [BitVec.toNat_add, BitVec.toNat_mul, BitVec.toNat_mul, BitVec.toNat_ofNat, BitVec.toNat_ofNat, BitVec.toNat_ofNat, BitVec.toNat_ofNat]
  omega

omit [FloatOps F] in
theorem off3_2_eq (k : Fin k3_t1_loop.trips) :
    k3_off2 L k = ![slab L k.val / 200, slab L k.val % 200, 0, 0] := by
  have hs := slab_lt L (Nat.lt_of_lt_of_eq k.isLt k3_trips1)
  have h : k3_off2 L k = (fun t : BitVec 32 => ![(divW t).toNat, (Scalar.subi t (Scalar.muli (divW t) 200#32)).toNat, 0, 0])
      (Scalar.addi (Scalar.muli (Scalar.addi (Scalar.muli (BitVec.ofNat 32 (L 1).val) 2#32) (BitVec.ofNat 32 (L 0).val)) 25#32)
      (Scf.iv 0#32 1#32 k.val)) := rfl
  rw [h, slab_word]
  dsimp only
  rw [divW_val ⟨slab L k.val, hs⟩]
  have h1 : (BitVec.ofNat 32 (slab L k.val / 200)).toNat = slab L k.val / 200 := by rw [BitVec.toNat_ofNat]; omega
  have h2 : (Scalar.subi (BitVec.ofNat 32 (slab L k.val)) (Scalar.muli (BitVec.ofNat 32 (slab L k.val / 200)) 200#32)).toNat = slab L k.val % 200 := by
    show (BitVec.ofNat 32 (slab L k.val) - BitVec.ofNat 32 (slab L k.val / 200) * 200#32).toNat = _
    rw [BitVec.toNat_sub, BitVec.toNat_mul, BitVec.toNat_ofNat, BitVec.toNat_ofNat, BitVec.toNat_ofNat]
    omega
  rw [h1, h2]

variable (p : Vec F S102656 .f32) (ps pe : IVec S832 32)

/-- What an inner trip holds: the two position tables, and the buffer's first `16 * t` rows as the slab's. -/
def inv2 (b i t : ℕ) (_ : Unit) : sProp 𝕄 :=
  iprop(((sPs).view.loc (thr3 d L) ↦{fullShare} ps) ∗ ((sPe).view.loc (thr3 d L) ↦{fullShare} pe)
    ∗ colSt d L p (slabOf p ps pe b i) (16 * t) 0)

/-- The first loads of an inner trip: sixteen words of each position table, the four vectors of table words they give, and
    the table's words of column 0. -/
theorem wp_part1 (hps : ∀ x, (ps x).toNat < 200) (hpe : ∀ x, (pe x).toNat < 200) (k : Fin k3_t1_loop.trips) (v25 : BitVec 32) (j : Fin k3_t2_loop.trips)
    {α : Type} {Q : α → sProp (MT nD τ sig (HIx 2) (Elt F) ℕ UU ℕ)}
    {kk : (Σ' (_ : IVec S16 32) (_ : IVec S16 32) (_ : IVec S16 32) (_ : IVec S16 32) (_ : IVec S16 32) (_ : Vec F S16 .f32) (_ : Vec F S16 .f32) (_ : Vec F S16 .f32), Vec F S16 .f32)
      → Prog (TpuEff nD τ sig (Elt F) Λ₀ (thr3 d L).2) α} :
    iprop(((sPs).view.loc (thr3 d L) ↦{fullShare} ps) ∗ ((sPe).view.loc (thr3 d L) ↦{fullShare} pe) ∗ ((sP).view.loc (thr3 d L) ↦{fullShare} p))
     ⊢ iprop((∀ X₁ X₂ X₃ X₄ R, ⌜Cols p X₁ X₂ X₃ X₄ R (slabOf p ps pe (slab L k.val / 200) (slab L k.val % 200)) (16 * j.val)⌝
          -∗ ((sPs).view.loc (thr3 d L) ↦{fullShare} ps) -∗ ((sPe).view.loc (thr3 d L) ↦{fullShare} pe) -∗ ((sP).view.loc (thr3 d L) ↦{fullShare} p)
          -∗ wp frame (wpE (defs₀ (F := F)) 𝒱₀ (thr3 d L) none) Set.univ (kk ⟨X₁, X₂, X₃, X₄, R, gv p X₁ 0, gv p X₂ 0, gv p X₃ 0, gv p X₄ 0⟩) Q)
        -∗ wp frame (wpE (defs₀ (F := F)) 𝒱₀ (thr3 d L) none) Set.univ
          (k3_part1 L posW (Memref.isWhole_whole _) psW (Memref.isWhole_whole _) peW (Memref.isWhole_whole _) relW (Memref.isWhole_whole _)
            sP (Memref.isWhole_whole _) sPs (Memref.isWhole_whole _) sPe (Memref.isWhole_whole _) sB (Memref.isWhole_whole _)
            cc3_scoped0 cc3_scoped1 cc3_scoped2 cc3_scoped3 (iota .scVector S16 32 [0] iota_S16_d0_w32_scVector) k v25
            (fun _ => posAt ps (slab L k.val / 200) (slab L k.val % 200)) (fun _ => posAt pe (slab L k.val / 200) (slab L k.val % 200)) 0#32 1#32 j >>= kk) Q) := by
  have hj : j.val < 13 := Nat.lt_of_lt_of_eq j.isLt k3_trips2
  have hs := slab_lt L (Nat.lt_of_lt_of_eq k.isLt k3_trips1)
  have rd : ∀ (w : IVec S832 32) (x : Fin 16), w ((Rect.unit (s := S832) (k3_off1 L k j) S16.size (k3_off1_inb L k j)).emb (ix1 x))
      = posAt w (slab L k.val / 200) (16 * j.val + x.val) := fun w x => by
    refine congrArg w ?_
    funext a
    match a with
    | ⟨0, _⟩ => exact Fin.ext (by
        show k3_off1 L k j 0 + 1 * x.val = (208 * (slab L k.val / 200) + (16 * j.val + x.val)) % 832
        rw [off3_1_eq]
        show 208 * (slab L k.val / 200) + 16 * j.val + 1 * x.val = _
        omega)
  have hR : ∀ x : Fin 16, (k3_pay5 (iota .scVector S16 32 [0] iota_S16_d0_w32_scVector) 0#32 1#32 j (ix1 x)).toNat = 16 * j.val + x.val := fun x => by
    show (Scf.iv 0#32 1#32 j.val * 16#32 + BitVec.ofNat 32 (0 * 16 + x.val)).toNat = _
    rw [iv_word _ (by omega), BitVec.toNat_add, BitVec.toNat_mul, BitVec.toNat_ofNat, BitVec.toNat_ofNat, BitVec.toNat_ofNat]
    omega
  rw [k3_part1_eq_skeleton]; unfold k3_part1_skel
  rw [wp_bind]
  iintro ⟨Hs, He, Hp⟩ Hk
  iapply (wp_load 𝒱₀ (thr3 d L) none Set.univ (m := sPs) (S := Finset.univ) (Finset.subset_univ _)) $$ Hs
  iintro Hs
  iapply (wp_load 𝒱₀ (thr3 d L) none Set.univ (m := sPe) (S := Finset.univ) (Finset.subset_univ _)) $$ He
  iintro He
  have C := cols_ok p hps hpe (slab L k.val / 200) (slab L k.val % 200) (16 * j.val) (by omega)
    (A := (sPs).view.readAt (Elt F) (Rect.unit (s := S832) (k3_off1 L k j) S16.size (k3_off1_inb L k j)).toLoadRect ps)
    (B := (sPe).view.readAt (Elt F) (Rect.unit (s := S832) (k3_off1 L k j) S16.size (k3_off1_inb L k j)).toLoadRect pe)
    (rd ps) (rd pe) hR
  iapply (wp_gather4 (F := F) d L (n := 0) C.h₁ C.h₂ C.h₃ C.h₄ (by omega) (step_inb _ C.h₁ _ (by omega)) (step_inb _ C.h₂ _ (by omega))
    (step_inb _ C.h₃ _ (by omega)) (step_inb _ C.h₄ _ (by omega))) $$ Hp
  iintro Hp
  rw [wp_pure, fupd_wp_eq]
  iapply Hk $$ %_ %_ %_ %_ %_ %C Hs He Hp

end Cert.Kernel.Run
-- ==== Proof.KRel.lean ====
/-
  The second SparseCore call, its loops: sixteen rows of a slab per inner trip, a slab per outer trip, and the task of one
  vector subcore.
-/
module

public import proofs.«01_k».proof.Proof.KCols

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the call's memrefs, spelt as the body table passes them
local notation "posW" => (Memref.whole main_v15_scv : Memref sig Kind.scVector Space.hbm S102656 EltTy.f32)
local notation "psW" => (Memref.whole main_v12_scv : Memref sig Kind.scVector Space.hbm S832 EltTy.i32)
local notation "peW" => (Memref.whole main_v14_scv : Memref sig Kind.scVector Space.hbm S832 EltTy.i32)
local notation "relW" => (Memref.whole main_v16_scv : Memref sig Kind.scVector Space.hbm S4x200x200x64 EltTy.f32)
local notation "sP" => (Memref.whole cc3_scratch0 : Memref sig Kind.scVector Space.vmem S102656 EltTy.f32)
local notation "sPs" => (Memref.whole cc3_scratch1 : Memref sig Kind.scVector Space.vmem S832 EltTy.i32)
local notation "sPe" => (Memref.whole cc3_scratch2 : Memref sig Kind.scVector Space.vmem S832 EltTy.i32)
local notation "sB" => (Memref.whole cc3_scratch3 : Memref sig Kind.scVector Space.vmem S208x64 EltTy.f32)

variable [FloatOps F] (d : Dev nD)

variable (L : grid3.Coords) (p : Vec F S102656 .f32) (ps pe : IVec S832 32)

/-- What an indexed load of the table reads, sixteen words `n` past `X`. -/
theorem load_val {X : IVec S16 32} (hX : Bnd X) {n : ℕ} (hn : n < 64) (h) :
    loadIdx (((sP).access (.whole S102656)).read (Elt F) p) ![addi X (broadcast S16 (BitVec.ofNat 32 n))] h = gv p X n :=
  (congrArg (fun t => loadIdx t ![addi X (broadcast S16 (BitVec.ofNat 32 n))] h)
    (Memref.read_access_whole (Val := Elt F) cc3_scratch0 p)).trans (loadIdx_step p X hX n hn h)

theorem colSt_eq (G : Vec F S208x64 .f32) (o n : ℕ) : (colSt d L p G o n : sProp 𝕄)
    = iprop(((sP).view.loc (thr3 d L) ↦{fullShare} p)
      ∗ ∃ f : Vec F S208x64 .f32, ((sB).view.loc (thr3 d L) ↦{fullShare} f) ∗ ⌜Good G o n f⌝) := rfl

/-- An inner trip writes sixteen more rows of the slab. -/
theorem trip2 (hps : ∀ x, (ps x).toNat < 200) (hpe : ∀ x, (pe x).toNat < 200) (k : Fin k3_t1_loop.trips)
    (v1 v25 : BitVec 32) (j : Fin k3_t2_loop.trips) :
    inv2 d L p ps pe (slab L k.val / 200) (slab L k.val % 200) j.val ()
      ⊢ wp frame (wpE (defs₀ (F := F)) 𝒱₀ (thr3 d L) none) Set.univ
          (k3_t2_body L posW (Memref.isWhole_whole _) psW (Memref.isWhole_whole _) peW (Memref.isWhole_whole _) relW (Memref.isWhole_whole _)
            sP (Memref.isWhole_whole _) sPs (Memref.isWhole_whole _) sPe (Memref.isWhole_whole _) sB (Memref.isWhole_whole _)
            cc3_scoped0 cc3_scoped1 cc3_scoped2 cc3_scoped3 v1 (iota .scVector S16 32 [0] iota_S16_d0_w32_scVector) 0#32 1#32 k v25
            (fun _ => posAt ps (slab L k.val / 200) (slab L k.val % 200)) (fun _ => posAt pe (slab L k.val / 200) (slab L k.val % 200)) j ())
          fun u => inv2 d L p ps pe (slab L k.val / 200) (slab L k.val % 200) (j.val + 1) u := by
  unfold inv2
  iintro ⟨Hs, He, Hc⟩
  ihave ⟨Hp, Hc⟩ := (Entails.of_eq (colSt_eq (F := F) d L p _ _ _)) $$ Hc
  unfold k3_t2_body
  rw [wp_bind, k3_part33_eq_skeleton]; unfold k3_part33_skel
  iapply (wp_part1 (F := F) d L p ps pe hps hpe k v25 j) $$ [Hs He Hp]
  · isplitl [Hs]; · iexact Hs
    isplitl [He]; · iexact He
    iexact Hp
  iintro %X₁ %X₂ %X₃ %X₄ %R %C Hs He Hp
  ihave Hc := (Entails.of_eq (colSt_eq (F := F) d L p (slabOf p ps pe (slab L k.val / 200) (slab L k.val % 200)) (16 * j.val) 0).symm) $$ [Hp Hc]
  · isplitl [Hp]; · iexact Hp
    iexact Hc
  iapply (wp_part (F := F) d L C 0 1 2 rfl rfl (by omega)) $$ Hc; iintro Hc
  iapply (wp_part (F := F) d L C 2 3 4 rfl rfl (by omega)) $$ Hc; iintro Hc
  iapply (wp_part (F := F) d L C 4 5 6 rfl rfl (by omega)) $$ Hc; iintro Hc
  iapply (wp_part (F := F) d L C 6 7 8 rfl rfl (by omega)) $$ Hc; iintro Hc
  iapply (wp_part (F := F) d L C 8 9 10 rfl rfl (by omega)) $$ Hc; iintro Hc
  iapply (wp_part (F := F) d L C 10 11 12 rfl rfl (by omega)) $$ Hc; iintro Hc
  iapply (wp_part (F := F) d L C 12 13 14 rfl rfl (by omega)) $$ Hc; iintro Hc
  iapply (wp_part (F := F) d L C 14 15 16 rfl rfl (by omega)) $$ Hc; iintro Hc
  iapply (wp_part (F := F) d L C 16 17 18 rfl rfl (by omega)) $$ Hc; iintro Hc
  iapply (wp_part (F := F) d L C 18 19 20 rfl rfl (by omega)) $$ Hc; iintro Hc
  iapply (wp_part (F := F) d L C 20 21 22 rfl rfl (by omega)) $$ Hc; iintro Hc
  iapply (wp_part (F := F) d L C 22 23 24 rfl rfl (by omega)) $$ Hc; iintro Hc
  iapply (wp_part (F := F) d L C 24 25 26 rfl rfl (by omega)) $$ Hc; iintro Hc
  iapply (wp_part (F := F) d L C 26 27 28 rfl rfl (by omega)) $$ Hc; iintro Hc
  iapply (wp_part (F := F) d L C 28 29 30 rfl rfl (by omega)) $$ Hc; iintro Hc
  iapply (wp_part (F := F) d L C 30 31 32 rfl rfl (by omega)) $$ Hc; iintro Hc
  iapply (wp_part (F := F) d L C 32 33 34 rfl rfl (by omega)) $$ Hc; iintro Hc
  iapply (wp_part (F := F) d L C 34 35 36 rfl rfl (by omega)) $$ Hc; iintro Hc
  iapply (wp_part (F := F) d L C 36 37 38 rfl rfl (by omega)) $$ Hc; iintro Hc
  iapply (wp_part (F := F) d L C 38 39 40 rfl rfl (by omega)) $$ Hc; iintro Hc
  iapply (wp_part (F := F) d L C 40 41 42 rfl rfl (by omega)) $$ Hc; iintro Hc
  iapply (wp_part (F := F) d L C 42 43 44 rfl rfl (by omega)) $$ Hc; iintro Hc
  iapply (wp_part (F := F) d L C 44 45 46 rfl rfl (by omega)) $$ Hc; iintro Hc
  iapply (wp_part (F := F) d L C 46 47 48 rfl rfl (by omega)) $$ Hc; iintro Hc
  iapply (wp_part (F := F) d L C 48 49 50 rfl rfl (by omega)) $$ Hc; iintro Hc
  iapply (wp_part (F := F) d L C 50 51 52 rfl rfl (by omega)) $$ Hc; iintro Hc
  iapply (wp_part (F := F) d L C 52 53 54 rfl rfl (by omega)) $$ Hc; iintro Hc
  iapply (wp_part (F := F) d L C 54 55 56 rfl rfl (by omega)) $$ Hc; iintro Hc
  iapply (wp_part (F := F) d L C 56 57 58 rfl rfl (by omega)) $$ Hc; iintro Hc
  iapply (wp_part (F := F) d L C 58 59 60 rfl rfl (by omega)) $$ Hc; iintro Hc
  iapply (wp_part (F := F) d L C 60 61 62 rfl rfl (by omega)) $$ Hc; iintro Hc
  ihave ⟨Hp, %f, Hb, %hf⟩ := (Entails.of_eq (colSt_eq (F := F) d L p _ _ _)) $$ Hc
  iapply (wp_col (F := F) d L hf C.hR (by omega) (C.hG 62 (by omega)) (col_inb R _ C.hR C.ho 62 (by omega))) $$ Hb
  iintro ⟨%g, Hb, %hg⟩
  iapply (wp_gather (F := F) (thr3 d L) (base := sP) (step_inb _ C.h₁ 63 (by omega)) (gv p X₁ 63) (load_val p C.h₁ (by omega) _)) $$ Hp
  iintro Hp
  iapply (wp_gather (F := F) (thr3 d L) (base := sP) (step_inb _ C.h₂ 63 (by omega)) (gv p X₂ 63) (load_val p C.h₂ (by omega) _)) $$ Hp
  iintro Hp
  iapply (wp_gather (F := F) (thr3 d L) (base := sP) (step_inb _ C.h₃ 63 (by omega)) (gv p X₃ 63) (load_val p C.h₃ (by omega) _)) $$ Hp
  iintro Hp
  rw [wp_pure, fupd_wp_eq]
  iapply (wp_gather (F := F) (thr3 d L) (base := sP) (step_inb _ C.h₄ 63 (by omega)) (gv p X₄ 63) (load_val p C.h₄ (by omega) _)) $$ Hp
  iintro Hp
  iapply (wp_col (F := F) d L hg C.hR (by omega) (C.hG 63 (by omega)) (col_inb R _ C.hR C.ho 63 (by omega))) $$ Hb
  iintro ⟨%g', Hb, %hg'⟩
  sl_step
  isplitl [Hs]; · iexact Hs
  isplitl [He]; · iexact He
  iapply (Entails.of_eq (colSt_eq (F := F) d L p _ _ _).symm)
  isplitl [Hp]; · iexact Hp
  iexists g'
  isplitl [Hb]; · iexact Hb
  ipureintro
  exact good_next hg'

/-- Slab `k` of subcore `L` in the result, as the kernel slices it. -/
abbrev relSl (k : Fin k3_t1_loop.trips) : Memref sig Kind.scVector Space.hbm S200x64 EltTy.f32 :=
  ((relW).slice (Rect.unit (s := S4x200x200x64) (k3_off2 L k) S1x1x200x64.size (k3_off2_inb L k)) (fun _ => rfl)).squeeze S200x64 squeezes_S1x1x200x64_S200x64

/-- The subcore's slabs, those before `t` computed and the others as they were. -/
def slabs (fo : Vec F S4x200x200x64 .f32) (t : ℕ) : sProp 𝕄 :=
  bigSep Finset.univ fun k : Fin k3_t1_loop.trips =>
    ((relSl L k).view.loc (thr3 d L) ↦[(relSl L k).view.set]{fullShare} (if k.val < t then relOut p ps pe else fo))

/-- One slab of those taken out and put back. -/
theorem slabs_step (fo : Vec F S4x200x200x64 .f32) (k : Fin k3_t1_loop.trips) :
    (slabs d L p ps pe fo k.val : sProp 𝕄)
        = iprop(((relSl L k).view.loc (thr3 d L) ↦[(relSl L k).view.set]{fullShare} fo)
          ∗ bigSep (Finset.univ.erase k) fun k' => ((relSl L k').view.loc (thr3 d L) ↦[(relSl L k').view.set]{fullShare} (if k'.val < k.val then relOut p ps pe else fo)))
      ∧ (slabs d L p ps pe fo (k.val + 1) : sProp 𝕄)
        = iprop(((relSl L k).view.loc (thr3 d L) ↦[(relSl L k).view.set]{fullShare} relOut p ps pe)
          ∗ bigSep (Finset.univ.erase k) fun k' => ((relSl L k').view.loc (thr3 d L) ↦[(relSl L k').view.set]{fullShare} (if k'.val < k.val then relOut p ps pe else fo))) := by
  constructor
  · unfold slabs
    rw [SparseCore.bigSep_erase' (Finset.mem_univ k), if_neg (Nat.lt_irrefl _)]
  · unfold slabs
    rw [SparseCore.bigSep_erase' (Finset.mem_univ k), if_pos (Nat.lt_succ_self _)]
    refine congrArg (fun X : sProp 𝕄 => iprop(_ ∗ X)) (bigSep_congr fun k' hk' => ?_)
    have hne : k'.val ≠ k.val := fun e => (Finset.mem_erase.mp hk').1 (Fin.ext e)
    by_cases h : k'.val < k.val
    · rw [if_pos h, if_pos (by omega)]
    · rw [if_neg h, if_neg (by omega)]

omit [FloatOps F] in
/-- Row `x`, column `y` of slab `k` is element `(b, i, x, y)` of the result. -/
theorem relSl_emb (k : Fin k3_t1_loop.trips) (x : S200x64.Idx) :
    (relSl L k).view.emb x = ix4 (⟨slab L k.val / 200, by have := slab_lt L (Nat.lt_of_lt_of_eq k.isLt k3_trips1); omega⟩ : Fin 4)
      (⟨slab L k.val % 200, Nat.mod_lt _ (by norm_num)⟩ : Fin 200) (x 0) (x 1) := by
  have h : (relSl L k).view.emb x = (Rect.unit (s := S4x200x200x64) (k3_off2 L k) S1x1x200x64.size (k3_off2_inb L k)).emb
      (Shape.reshapeEquiv squeezes_S1x1x200x64_S200x64.numel_eq x) := rfl
  have e : Shape.reshapeEquiv squeezes_S1x1x200x64_S200x64.numel_eq x = ix4 (⟨0, Nat.one_pos⟩ : Fin 1) (⟨0, Nat.one_pos⟩ : Fin 1) (x 0) (x 1) :=
    (congrArg (Shape.reshapeEquiv squeezes_S1x1x200x64_S200x64.numel_eq) (eq_ix2 x)).trans
      (ValueIdx.reshapeEquiv_ix2_11ab (a := 200) (b := 64) squeezes_S1x1x200x64_S200x64.numel_eq (x 0) (x 1))
  rw [h, e]
  funext a
  match a with
  | ⟨0, _⟩ => exact Fin.ext (by show k3_off2 L k 0 + 1 * 0 = slab L k.val / 200; rw [off3_2_eq]; rfl)
  | ⟨1, _⟩ => exact Fin.ext (by show k3_off2 L k 1 + 1 * 0 = slab L k.val % 200; rw [off3_2_eq]; rfl)
  | ⟨2, _⟩ => exact Fin.ext (by show k3_off2 L k 2 + 1 * (x 0).val = (x 0).val; rw [off3_2_eq, Nat.one_mul]; exact Nat.zero_add _)
  | ⟨3, _⟩ => exact Fin.ext (by show k3_off2 L k 3 + 1 * (x 1).val = (x 1).val; rw [off3_2_eq, Nat.one_mul]; exact Nat.zero_add _)

/-- The buffer's first 200 rows copied over slab `k` make it the result's. -/
theorem slab_written (fo : Vec F S4x200x200x64 .f32) (k : Fin k3_t1_loop.trips) {g : Vec F S208x64 .f32}
    (hg : Good (slabOf p ps pe (slab L k.val / 200) (slab L k.val % 200)) (16 * 13) 0 g) (w : Vec F S200x64 .f32)
    (hw : ∀ x : S200x64.Idx, w x = g (ix2 ⟨(x 0).val, by have : (x 0).val < 200 := (x 0).isLt; omega⟩ (x 1))) :
    ((relSl L k).view.loc (thr3 d L) ↦[(relSl L k).view.set]{fullShare}
        (relSl L k).view.writes (Elt F) fo [⟨Rect.whole S200x64, w⟩] : sProp 𝕄)
      = ((relSl L k).view.loc (thr3 d L) ↦[(relSl L k).view.set]{fullShare} relOut p ps pe) := by
  refine pointsTo_congr fun i hi => ?_
  obtain ⟨x, -, rfl⟩ := Finset.mem_map.mp hi
  have h1 := View.read_writes_cons_emb (relSl L k).view fo (Rect.whole S200x64) w [] x
  rw [Rect.emb_whole_apply] at h1
  refine Eq.trans h1 ?_
  have hx : (x 0).val < 200 := (x 0).isLt
  rw [hw x, hg _ (Or.inl (by show (x 0).val < 16 * 13; omega)), relSl_emb L k x]
  rfl

/-- Before outer trip `t`: the first `t` slabs of the subcore are computed. -/
def inv1 (fo : Vec F S4x200x200x64 .f32) (O : CellTallies nD τ sig (HIx 2)) (W : Waits sig (HIx 2)) (t : ℕ) (_ : Unit) : sProp 𝕄 :=
  iprop(Transfers.MayWaits (thr3 d L) (none : HIx 2) O
    ∗ ((sPs).view.loc (thr3 d L) ↦{fullShare} ps) ∗ ((sPe).view.loc (thr3 d L) ↦{fullShare} pe) ∗ ((sP).view.loc (thr3 d L) ↦{fullShare} p)
    ∗ (∃ f : Vec F S208x64 .f32, (sB).view.loc (thr3 d L) ↦{fullShare} f)
    ∗ slabs d L p ps pe fo t
    ∗ semVal (thr3 d L, SemLoc.dma cc3_scoped3.sem) 0
    ∗ ∃ W', ⌜∀ p ∈ W', p ∈ W ∨ p.2 = none⌝ ∗ owes (thr3 d L) O W')

/-- The position word's place for slab `t`, as the kernel computes it. -/
def rowW (t : BitVec 32) : BitVec 32 := Scalar.addi (Scalar.muli (divW t) 208#32) (Scalar.subi t (Scalar.muli (divW t) 200#32))

omit [FloatOps F] in
theorem rowW_val (t : ℕ) (ht : t < 800) : (rowW (BitVec.ofNat 32 t)).toNat = 208 * (t / 200) + t % 200 := by
  unfold rowW
  rw [divW_val ⟨t, ht⟩]
  show (BitVec.ofNat 32 (t / 200) * 208#32 + (BitVec.ofNat 32 t - BitVec.ofNat 32 (t / 200) * 200#32)).toNat = _
  rw [BitVec.toNat_add, BitVec.toNat_mul, BitVec.toNat_sub, BitVec.toNat_mul, BitVec.toNat_ofNat, BitVec.toNat_ofNat, BitVec.toNat_ofNat, BitVec.toNat_ofNat]
  omega

/-- The word of trip `k`'s slab. -/
abbrev slabW (k : Fin k3_t1_loop.trips) : BitVec 32 :=
  Scalar.addi (Scalar.muli (Scalar.addi (Scalar.muli (BitVec.ofNat 32 (L 1).val) 2#32) (BitVec.ofNat 32 (L 0).val)) 25#32) (Scf.iv 0#32 1#32 k.val)

set_option maxHeartbeats 1000000 in
/-- An outer trip computes one slab in the buffer and copies it out. -/
theorem trip1 (hps : ∀ x, (ps x).toNat < 200) (hpe : ∀ x, (pe x).toNat < 200) (fo : Vec F S4x200x200x64 .f32)
    (O : CellTallies nD τ sig (HIx 2)) (W : Waits sig (HIx 2)) (k : Fin k3_t1_loop.trips) :
    inv1 d L p ps pe fo O W k.val ()
      ⊢ wp frame (wpE (defs₀ (F := F)) 𝒱₀ (thr3 d L) none) Set.univ
          (k3_t1_body L posW (Memref.isWhole_whole _) psW (Memref.isWhole_whole _) peW (Memref.isWhole_whole _) relW (Memref.isWhole_whole _)
            sP (Memref.isWhole_whole _) sPs (Memref.isWhole_whole _) sPe (Memref.isWhole_whole _) sB (Memref.isWhole_whole _)
            cc3_scoped0 cc3_scoped1 cc3_scoped2 cc3_scoped3
            (Scalar.addi (Scalar.muli (BitVec.ofNat 32 (L 1).val) 2#32) (BitVec.ofNat 32 (L 0).val)) (iota .scVector S16 32 [0] iota_S16_d0_w32_scVector) k ())
          fun u => inv1 d L p ps pe fo O W (k.val + 1) u := by
  have hs := slab_lt L (Nat.lt_of_lt_of_eq k.isLt k3_trips1)
  have hrow : (rowW (slabW L k)).toNat = 208 * (slab L k.val / 200) + slab L k.val % 200 := by
    unfold slabW; rw [slab_word, rowW_val _ hs]
  have hc1 : k3_chk1 (broadcast S16 (rowW (slabW L k))) := by
    have h : ∀ a x, ((![broadcast S16 (rowW (slabW L k))] : Fin 1 → IVec S16 32) a x).toNat < S832.size a := fun a x => by
      match a with
      | ⟨0, _⟩ => show (rowW (slabW L k)).toNat < 832; omega
    exact ⟨h, h⟩
  have hld : ∀ (w : Vec F S832 .i32) (h), loadIdx w ![broadcast S16 (rowW (slabW L k))] h
      = (fun _ => posAt w (slab L k.val / 200) (slab L k.val % 200) : Vec F S16 .i32) := fun w h => by
    funext x
    refine congrArg w ?_
    funext a
    match a with
    | ⟨0, _⟩ => exact Fin.ext (by
        show (rowW (slabW L k)).toNat = (208 * (slab L k.val / 200) + slab L k.val % 200) % 832
        rw [hrow]; omega)
  unfold inv1
  iintro ⟨#Hmw, Hs, He, Hp, ⟨%f, Hb⟩, Ho, Hs3, %W', %hW', HO⟩
  unfold k3_t1_body
  rw [wp_bind, k3_part34_eq_skeleton]; unfold k3_part34_skel
  iapply (wp_assumed (F := F) (thr3 d L) hc1)
  iapply (wp_take (F := F) (thr3 d L) (base := sPs) (fun _ => posAt ps (slab L k.val / 200) (slab L k.val % 200)) ?_) $$ Hs
  · exact (congrArg (fun t => loadIdx t ![broadcast S16 (rowW (slabW L k))] (k3_idx1_inb _ hc1))
      (Memref.read_access_whole (Val := Elt F) cc3_scratch1 ps)).trans (hld ps _)
  iintro Hs
  iapply (wp_take (F := F) (thr3 d L) (base := sPe) (fun _ => posAt pe (slab L k.val / 200) (slab L k.val % 200)) ?_) $$ He
  · exact (congrArg (fun t => loadIdx t ![broadcast S16 (rowW (slabW L k))] (k3_idx2_inb _ hc1))
      (Memref.read_access_whole (Val := Elt F) cc3_scratch2 pe)).trans (hld pe _)
  iintro He
  sl_for (inv2 d L p ps pe (slab L k.val / 200) (slab L k.val % 200)) $$ [Hs He Hp Hb]
  case region =>
    exact fun j _ => trip2 d L p ps pe hps hpe k _ _ j
  · unfold inv2
    isplitl [Hs]; · iexact Hs
    isplitl [He]; · iexact He
    iapply (Entails.of_eq (colSt_eq (F := F) d L p _ _ _).symm)
    isplitl [Hp]; · iexact Hp
    iexists f
    isplitl [Hb]; · iexact Hb
    ipureintro
    intro y hy
    exact absurd hy (by omega)
  iintro %_ HI
  unfold inv2
  icases HI with ⟨Hs, He, Hc⟩
  ihave ⟨Hp, %g, Hb, %hg⟩ := (Entails.of_eq (colSt_eq (F := F) d L p _ _ _)) $$ Hc
  ihave ⟨Hsl, Hrest⟩ := (Entails.of_eq (slabs_step (F := F) d L p ps pe fo k).1) $$ Ho
  sl_exec (disch := exact View.amount_pos _ _ (show 0 < S200x64.numel by decide))
  have hsrc : ∀ x : S200x64.Idx, trip1.sl.dma0 g x = g (ix2 ⟨(x 0).val, by have : (x 0).val < 200 := (x 0).isLt; omega⟩ (x 1)) := fun x => by
    refine congrArg g ?_
    funext a
    match a with
    | ⟨0, _⟩ => exact Fin.ext (by show 0 + 1 * (x 0).val = (x 0).val; omega)
    | ⟨1, _⟩ => exact Fin.ext (by show 0 + 1 * (x 1).val = (x 1).val; omega)
  have hout := slab_written (F := F) d L p ps pe fo k (k3_trips2 ▸ hg : Good _ (16 * 13) 0 g) _ hsrc
  ihave Hsl' := (Entails.of_eq hout) $$ Hsl
  ihave Ho := (Entails.of_eq (slabs_step (F := F) d L p ps pe fo k).2.symm) $$ [Hsl' Hrest]
  · isplitl [Hsl']; · iexact Hsl'
    iexact Hrest
  sl_step
  isplitr; · iexact Hmw
  isplitl [Hs]; · iexact Hs
  isplitl [He]; · iexact He
  isplitl [Hp]; · iexact Hp
  isplitl [Hb]; · iexists g; iexact Hb
  isplitl [Ho]; · iexact Ho
  isplitl [Hs3]; · iexact Hs3
  iexists (insert (SemLoc.dma cc3_scoped3.sem, (default : HIx 2)) W'); isplitr
  · ipureintro; intro p hp
    rcases Finset.mem_insert.mp hp with hp | hp
    · exact .inr (hp ▸ rfl)
    · exact hW' p hp
  · iexact HO

end Cert.Kernel.Run
-- ==== Proof.KTask.lean ====
/-
  The second SparseCore call, the task of one vector subcore: the table and the position words copied in, then its 25 slabs.
-/
module

public import proofs.«01_k».proof.Proof.KRel

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the call's memrefs, spelt as the body table passes them
local notation "posW" => (Memref.whole main_v15_scv : Memref sig Kind.scVector Space.hbm S102656 EltTy.f32)
local notation "psW" => (Memref.whole main_v12_scv : Memref sig Kind.scVector Space.hbm S832 EltTy.i32)
local notation "peW" => (Memref.whole main_v14_scv : Memref sig Kind.scVector Space.hbm S832 EltTy.i32)
local notation "relW" => (Memref.whole main_v16_scv : Memref sig Kind.scVector Space.hbm S4x200x200x64 EltTy.f32)
local notation "sP" => (Memref.whole cc3_scratch0 : Memref sig Kind.scVector Space.vmem S102656 EltTy.f32)
local notation "sPs" => (Memref.whole cc3_scratch1 : Memref sig Kind.scVector Space.vmem S832 EltTy.i32)
local notation "sPe" => (Memref.whole cc3_scratch2 : Memref sig Kind.scVector Space.vmem S832 EltTy.i32)
local notation "sB" => (Memref.whole cc3_scratch3 : Memref sig Kind.scVector Space.vmem S208x64 EltTy.f32)

variable [FloatOps F] (d : Dev nD)

abbrev r0cell (c : Fin τ.nSC) (j : Fin τ.nSub) : GSem nD τ sig := (V d c j, .dma cc3_scoped0.sem)
abbrev r1cell (c : Fin τ.nSC) (j : Fin τ.nSub) : GSem nD τ sig := (V d c j, .dma cc3_scoped1.sem)
abbrev r2cell (c : Fin τ.nSC) (j : Fin τ.nSub) : GSem nD τ sig := (V d c j, .dma cc3_scoped2.sem)
abbrev r3cell (c : Fin τ.nSC) (j : Fin τ.nSub) : GSem nD τ sig := (V d c j, .dma cc3_scoped3.sem)

omit [FloatOps F] in
/-- The four copy semaphores are among the subcore's own. -/
theorem ownSems3_V (c : Fin τ.nSC) (j : Fin τ.nSub) :
    (ownSems0 (V d c j) : sProp 𝕄)
      = iprop(semVal (r0cell d c j) 0 ∗ semVal (r1cell d c j) 0 ∗ semVal (r2cell d c j) 0 ∗ semVal (r3cell d c j) 0
          ∗ bigSep (((((ownCells (V d c j)).erase (r0cell d c j)).erase (r1cell d c j)).erase (r2cell d c j)).erase (r3cell d c j)) fun g => semVal g 0) := by
  have m0 : r0cell d c j ∈ ownCells (V d c j) := (mem_ownCells (g := r0cell d c j)).mpr ⟨rfl, by
      show (SemLoc.dma cc3_scoped0.sem : SemLoc sig).isScoped .scVector = true; decide⟩
  have m1 : r1cell d c j ∈ ownCells (V d c j) := (mem_ownCells (g := r1cell d c j)).mpr ⟨rfl, by
      show (SemLoc.dma cc3_scoped1.sem : SemLoc sig).isScoped .scVector = true; decide⟩
  have m2 : r2cell d c j ∈ ownCells (V d c j) := (mem_ownCells (g := r2cell d c j)).mpr ⟨rfl, by
      show (SemLoc.dma cc3_scoped2.sem : SemLoc sig).isScoped .scVector = true; decide⟩
  have m3 : r3cell d c j ∈ ownCells (V d c j) := (mem_ownCells (g := r3cell d c j)).mpr ⟨rfl, by
      show (SemLoc.dma cc3_scoped3.sem : SemLoc sig).isScoped .scVector = true; decide⟩
  have n10 : r1cell d c j ≠ r0cell d c j := by simp [r0cell, r1cell]; decide
  have n20 : r2cell d c j ≠ r0cell d c j := by simp [r0cell, r2cell]; decide
  have n21 : r2cell d c j ≠ r1cell d c j := by simp [r1cell, r2cell]; decide
  have n30 : r3cell d c j ≠ r0cell d c j := by simp [r0cell, r3cell]; decide
  have n31 : r3cell d c j ≠ r1cell d c j := by simp [r1cell, r3cell]; decide
  have n32 : r3cell d c j ≠ r2cell d c j := by simp [r2cell, r3cell]; decide
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

omit [FloatOps F] in
/-- The four scratch buffers are among the subcore's own. -/
theorem ownBufs3_V (c : Fin τ.nSC) (j : Fin τ.nSub) :
    (ownBufs (V d c j) : sProp 𝕄)
      = iprop((∃ f, (V d c j).loc cc3_scratch0 ↦{fullShare} f) ∗ (∃ f, (V d c j).loc cc3_scratch1 ↦{fullShare} f)
          ∗ (∃ f, (V d c j).loc cc3_scratch2 ↦{fullShare} f) ∗ (∃ f, (V d c j).loc cc3_scratch3 ↦{fullShare} f)
          ∗ bigSep (((((ownRefs (τ := τ) (.scVector c j)).erase ((Proc.scVector c j).devRef cc3_scratch0)).erase
              ((Proc.scVector c j).devRef cc3_scratch1)).erase ((Proc.scVector c j).devRef cc3_scratch2)).erase ((Proc.scVector c j).devRef cc3_scratch3))
              fun b => iprop(∃ f, ((d, b) : Loc nD τ sig) ↦{fullShare} f)) := by
  unfold SparseCore.Cfg.ownBufs
  have ne : ∀ {r r' : Ref sig .scVector}, r ≠ r' → (Proc.scVector (τ := τ) c j).devRef r ≠ (Proc.scVector c j).devRef r' :=
    fun h e => h (Proc.devRef_injective _ e)
  have m0 := SparseCore.Cfg.mem_ownRefs_of_owner (p := Proc.scVector (τ := τ) c j) (b := (Proc.scVector c j).devRef cc3_scratch0) rfl
  have m1 := SparseCore.Cfg.mem_ownRefs_of_owner (p := Proc.scVector (τ := τ) c j) (b := (Proc.scVector c j).devRef cc3_scratch1) rfl
  have m2 := SparseCore.Cfg.mem_ownRefs_of_owner (p := Proc.scVector (τ := τ) c j) (b := (Proc.scVector c j).devRef cc3_scratch2) rfl
  have m3 := SparseCore.Cfg.mem_ownRefs_of_owner (p := Proc.scVector (τ := τ) c j) (b := (Proc.scVector c j).devRef cc3_scratch3) rfl
  refine (SparseCore.bigSep_erase' m0).trans ?_
  rw [SparseCore.bigSep_erase' (Finset.mem_erase.mpr ⟨ne (r := cc3_scratch1) (r' := cc3_scratch0) (by decide), m1⟩),
    SparseCore.bigSep_erase' (Finset.mem_erase.mpr ⟨ne (r := cc3_scratch2) (r' := cc3_scratch1) (by decide), Finset.mem_erase.mpr ⟨ne (r := cc3_scratch2) (r' := cc3_scratch0) (by decide), m2⟩⟩),
    SparseCore.bigSep_erase' (Finset.mem_erase.mpr ⟨ne (r := cc3_scratch3) (r' := cc3_scratch2) (by decide), Finset.mem_erase.mpr ⟨ne (r := cc3_scratch3) (r' := cc3_scratch1) (by decide),
      Finset.mem_erase.mpr ⟨ne (r := cc3_scratch3) (r' := cc3_scratch0) (by decide), m3⟩⟩⟩)]

omit [FloatOps F] in
/-- A scratch buffer whole, as the subcore's memref addresses it. -/
theorem pts_whole (c : Fin τ.nSC) (j : Fin τ.nSub) (r : Ref sig .scVector) (f : Buf (Elt F) ((V d c j).loc r)) :
    ((Memref.whole r).view.loc (V d c j) ↦{fullShare} f : sProp 𝕄) = (V d c j).loc r ↦{fullShare} f := by
  simp only [Memref.view_whole, View.set_whole]

variable (L : grid3.Coords) (q : PosShare TreeShare) (p : Vec F S102656 .f32) (ps pe : IVec S832 32)

/-- What subcore `L` holds of the call's arrays: a share of the table and of each position table, its slabs of the result. -/
def pre3 (fo : Vec F S4x200x200x64 .f32) : sProp 𝕄 :=
  iprop(((posW).view.loc (thr3 d L) ↦{q} p) ∗ ((psW).view.loc (thr3 d L) ↦{q} ps) ∗ ((peW).view.loc (thr3 d L) ↦{q} pe)
    ∗ bigSep Finset.univ fun k : Fin k3_t1_loop.trips => ((relSl L k).view.loc (thr3 d L) ↦[(relSl L k).view.set]{fullShare} fo))

theorem slabs_first (fo : Vec F S4x200x200x64 .f32) :
    (slabs d L p ps pe fo 0 : sProp 𝕄)
      = bigSep Finset.univ fun k : Fin k3_t1_loop.trips => ((relSl L k).view.loc (thr3 d L) ↦[(relSl L k).view.set]{fullShare} fo) :=
  bigSep_congr fun k _ => by rw [if_neg (Nat.not_lt_zero _)]

theorem slabs_last (fo : Vec F S4x200x200x64 .f32) :
    (slabs d L p ps pe fo k3_t1_loop.trips : sProp 𝕄)
      = bigSep Finset.univ fun k : Fin k3_t1_loop.trips => ((relSl L k).view.loc (thr3 d L) ↦[(relSl L k).view.set]{fullShare} relOut p ps pe) :=
  bigSep_congr fun k _ => by rw [if_pos k.isLt]

/-- The task of subcore `L`: its slabs of the result computed. -/
theorem body3 (hF : (K (F := F)).Facts) (fo : Vec F S4x200x200x64 .f32)
    (hps : ∀ x, (ps x).toNat < 200) (hpe : ∀ x, (pe x).toNat < 200)
    (O : CellTallies nD τ sig (HIx 2)) (W : Waits sig (HIx 2)) (hO : ∀ g, O g none = 0) :
    iprop(levAts (K (F := F)).L (K (F := F)).lev ∗ emp ∗ pre3 d L q p ps pe fo
        ∗ scopedBufs (thr3 d L) ∗ scopedSems0 (thr3 d L) ∗ owes (thr3 d L) O W)
      ⊢ wp frame (wpE (defs₀ (F := F)) 𝒱₀ (thr3 d L) none) Set.univ
          (cc3_k L posW (Memref.isWhole_whole _) psW (Memref.isWhole_whole _) peW (Memref.isWhole_whole _) relW (Memref.isWhole_whole _)
            sP (Memref.isWhole_whole _) sPs (Memref.isWhole_whole _) sPe (Memref.isWhole_whole _) sB (Memref.isWhole_whole _)
            cc3_scoped0 cc3_scoped1 cc3_scoped2 cc3_scoped3)
          fun _ => iprop(pre3 d L q p ps pe (relOut p ps pe)
            ∗ scopedBufs (thr3 d L) ∗ scopedSems0 (thr3 d L)
            ∗ ∃ W', ⌜∀ p ∈ W', p ∈ W ∨ p.2 = none⌝ ∗ owes (thr3 d L) O W') := by
  simp only [cc3_k_eq_skeleton]; unfold cc3_k_skel
  rw [(K (F := F)).scopedBufs_V hF d (cR L) (jR L), SparseCore.Cfg.scopedSems0_V (Val := Elt F) d (cR L) (jR L), ownSems3_V, ownBufs3_V]
  unfold pre3
  iintro ⟨#Hlv, -, ⟨Hp, Hs, He, Ho⟩, ⟨⟨%f6, H6⟩, ⟨%f7, H7⟩, ⟨%f8, H8⟩, ⟨%f9, H9⟩, Hbufs⟩, ⟨Hs0, Hs1, Hs2, Hs3, Hsems⟩, HO⟩
  ihave Hmw := ((K (F := F)).mayWaits_none (thr := thr3 d L) hO) $$ Hlv
  ihave H6' := (Entails.of_eq (pts_whole (F := F) d (cR L) (jR L) cc3_scratch0 _).symm) $$ H6
  ihave H7' := (Entails.of_eq (pts_whole (F := F) d (cR L) (jR L) cc3_scratch1 _).symm) $$ H7
  ihave H8' := (Entails.of_eq (pts_whole (F := F) d (cR L) (jR L) cc3_scratch2 _).symm) $$ H8
  ihave H9' := (Entails.of_eq (pts_whole (F := F) d (cR L) (jR L) cc3_scratch3 _).symm) $$ H9
  sl_exec
  have e6 : View.write (Elt F) (sP).view f6 (body3.sl.dma0 p) Finset.univ = p := View.write_whole_univ cc3_scratch0 f6 _
  have e7 : View.write (Elt F) (sPs).view f7 (body3.sl.dma0_1 ps) Finset.univ = ps := View.write_whole_univ cc3_scratch1 f7 _
  have e8 : View.write (Elt F) (sPe).view f8 (body3.sl.dma0_2 pe) Finset.univ = pe := View.write_whole_univ cc3_scratch2 f8 _
  rw [e6, e7, e8]
  sl_for (inv1 d L p ps pe fo O W) $$ [Hmw H7' H8' H6' H9' Ho Hs3 HO]
  case region =>
    exact fun k _ => trip1 d L p ps pe hps hpe fo O W k
  · unfold inv1
    isplitl [Hmw]; · iexact Hmw
    isplitl [H7']; · iexact H7'
    isplitl [H8']; · iexact H8'
    isplitl [H6']; · iexact H6'
    isplitl [H9']; · iexists f9; iexact H9'
    isplitl [Ho]; · iapply (Entails.of_eq (slabs_first (F := F) d L p ps pe fo).symm); iexact Ho
    isplitl [Hs3]; · iexact Hs3
    iexists _; isplitr; rotate_left
    · iexact HO
    ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iintro %_ HI
  unfold inv1
  icases HI with ⟨-, H7, H8, H6, ⟨%g9, H9⟩, Ho, Hs3, HO⟩
  ihave Ho' := (Entails.of_eq (slabs_last (F := F) d L p ps pe fo)) $$ Ho
  sl_step
  isplitl [Hp Hs He Ho']
  · isplitl [Hp]; · iexact Hp
    isplitl [Hs]; · iexact Hs
    isplitl [He]; · iexact He
    iexact Ho'
  isplitl [H6 H7 H8 H9 Hbufs]
  · isplitl [H6]; · iexists _; iapply (Entails.of_eq (pts_whole (F := F) d (cR L) (jR L) cc3_scratch0 _)); iexact H6
    isplitl [H7]; · iexists _; iapply (Entails.of_eq (pts_whole (F := F) d (cR L) (jR L) cc3_scratch1 _)); iexact H7
    isplitl [H8]; · iexists _; iapply (Entails.of_eq (pts_whole (F := F) d (cR L) (jR L) cc3_scratch2 _)); iexact H8
    isplitl [H9]; · iexists _; iapply (Entails.of_eq (pts_whole (F := F) d (cR L) (jR L) cc3_scratch3 _)); iexact H9
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Cert.Kernel.Run
-- ==== Proof.KPay.lean ====
/-
  What the two SparseCore calls carry: each task its shares of the inputs and its part of the result; the parts of a result
  together are the result.
-/
module

public import proofs.«01_k».proof.Proof.KGather
public import proofs.«01_k».proof.Proof.KTask

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## One array over the tasks -/

omit F in
/-- An array is the sum of the fibers of a function of its positions. -/
theorem pointsTo_fibers {F : FTy → Type} {ℓ : Loc nD τ sig} {A : Type} [Fintype A] [DecidableEq A] (key : Idx ℓ → A) (R : A → Finset (Idx ℓ))
    (hR : ∀ a y, y ∈ R a ↔ key y = a) (f : Buf (Elt F) ℓ) :
    (ℓ ↦{fullShare} f : sProp (MT nD τ sig (HIx 2) (Elt F) ℕ UU ℕ)) = bigSep Finset.univ fun a => ℓ ↦[R a]{fullShare} f := by
  rw [← pointsTo_biUnion Finset.univ (ℓ := ℓ) R fun a _ b _ hab => Finset.disjoint_left.mpr fun y ha hb =>
    hab (((hR a y).mp ha).symm.trans ((hR b y).mp hb))]
  have e : Finset.univ.biUnion R = Finset.univ := by
    ext y; simp only [Finset.mem_biUnion, Finset.mem_univ, true_and, iff_true]; exact ⟨key y, (hR _ y).mpr rfl⟩
  rw [e]

/-- The share of subcore `i` of core `c` of an array all the tasks read. -/
def shareOf (c : Fin 2) (i : Fin 16) : PosShare TreeShare :=
  Transfers.dealOf (Transfers.dealOf fullShare Finset.univ c) Finset.univ i

/-- An array dealt to all the tasks. -/
theorem pointsTo_shares {ℓ : Loc nD τ sig} (f : Buf (Elt F) ℓ) :
    (ℓ ↦{fullShare} f : sProp 𝕄) = bigSep Finset.univ fun c : Fin 2 => bigSep Finset.univ fun i : Fin 16 => ℓ ↦{shareOf c i} f := by
  rw [Transfers.pointsTo_deal (Finset.univ : Finset (Fin 2)) ⟨0, Finset.mem_univ _⟩]
  refine bigSep_congr fun c _ => ?_
  rw [Transfers.pointsTo_deal (Finset.univ : Finset (Fin 16)) ⟨0, Finset.mem_univ _⟩]
  rfl

/-- The grid point of core `c`, subcore `s`, in the second call. -/
def coordsR (c : Fin (grid3.bound 0)) (s : Fin (grid3.bound 1)) : grid3.Coords := fun | 0 => c | 1 => s | ⟨_ + 2, h⟩ => absurd h (Nat.not_lt.2 (Nat.le_add_left _ _))

theorem outSl_emb (L : grid0.Coords) (x : S32x64.Idx) :
    (outSl L).view.emb x = ix2 (⟨base0 L + (x 0).val, by have := base0_le L; have h : (x 0).val < 32 := (x 0).isLt; omega⟩ : Fin 1024) (x 1) := off5_emb L x

theorem mem_outSl (c : Fin 2) (i : Fin 16) (y : S1024x64.Idx) :
    y ∈ (outSl (coordsV c i)).view.set ↔ ((⟨(y 0).val / 32 % 2, Nat.mod_lt _ (by norm_num)⟩, ⟨(y 0).val / 64, by have : (y 0).val < 1024 := (y 0).isLt; omega⟩) : Fin 2 × Fin 16) = (c, i) := by
  have hb : base0 (coordsV c i) = (i.val * 2 + c.val) * 32 := rfl
  rw [Prod.mk.injEq, Fin.ext_iff, Fin.ext_iff]
  constructor
  · intro h
    obtain ⟨x, -, rfl⟩ := Finset.mem_map.mp h
    have hx : (x 0).val < 32 := (x 0).isLt
    rw [outSl_emb]
    show (base0 (coordsV c i) + (x 0).val) / 32 % 2 = c.val ∧ (base0 (coordsV c i) + (x 0).val) / 64 = i.val
    rw [hb]; have := c.isLt; omega
  · rintro ⟨h1, h2⟩
    refine Finset.mem_map.mpr ⟨ix2 ⟨(y 0).val % 32, Nat.mod_lt _ (by norm_num)⟩ (y 1), Finset.mem_univ _, ?_⟩
    rw [outSl_emb]
    refine Eq.trans ?_ (eq_ix2 y).symm
    refine congrArg (fun a => ix2 a (y 1)) (Fin.ext ?_)
    show base0 (coordsV c i) + (y 0).val % 32 = (y 0).val
    simp only at h1 h2; rw [hb]; omega

theorem mem_relSl (c : Fin 2) (i : Fin 16) (k : Fin k3_t1_loop.trips) (y : S4x200x200x64.Idx) :
    y ∈ (relSl (coordsR c i) k).view.set ↔ ((⟨((y 0).val * 200 + (y 1).val) / 25 % 2, Nat.mod_lt _ (by norm_num)⟩,
      ⟨((y 0).val * 200 + (y 1).val) / 50, by have : (y 0).val < 4 := (y 0).isLt; have : (y 1).val < 200 := (y 1).isLt; omega⟩,
      ⟨((y 0).val * 200 + (y 1).val) % 25, Nat.lt_of_lt_of_eq (Nat.mod_lt _ (by norm_num)) k3_trips1.symm⟩) : Fin 2 × Fin 16 × Fin k3_t1_loop.trips) = (c, i, k) := by
  have hb : slab (coordsR c i) k.val = (i.val * 2 + c.val) * 25 + k.val := rfl
  have hk := Nat.lt_of_lt_of_eq k.isLt k3_trips1
  have hc := c.isLt
  have hi := i.isLt
  have h0 : (y 0).val < 4 := (y 0).isLt
  have h1 : (y 1).val < 200 := (y 1).isLt
  rw [Prod.mk.injEq, Prod.mk.injEq, Fin.ext_iff, Fin.ext_iff, Fin.ext_iff]
  constructor
  · intro h
    obtain ⟨x, -, e⟩ := Finset.mem_map.mp h
    rw [relSl_emb] at e
    have e0 : (y 0).val = slab (coordsR c i) k.val / 200 := congrArg (fun z : S4x200x200x64.Idx => (z 0).val) e.symm
    have e1 : (y 1).val = slab (coordsR c i) k.val % 200 := congrArg (fun z : S4x200x200x64.Idx => (z 1).val) e.symm
    simp only; rw [hb] at e0 e1; omega
  · rintro ⟨h1, h2, h3⟩
    simp only at h1 h2 h3
    refine Finset.mem_map.mpr ⟨ix2 (y 2) (y 3), Finset.mem_univ _, ?_⟩
    rw [relSl_emb]
    refine Eq.trans ?_ (eq_ix4 y).symm
    refine congrArg₂ (fun a b => ix4 a b (y 2) (y 3)) (Fin.ext ?_) (Fin.ext ?_)
    · show slab (coordsR c i) k.val / 200 = (y 0).val
      rw [hb]; omega
    · show slab (coordsR c i) k.val % 200 = (y 1).val
      rw [hb]; omega

/-! ## What the calls carry -/

/-- The arrays the two calls work on. -/
structure Arr (F : FTy → Type) where
  tbl : Vec F S1000000x64 .f32
  idx : IVec S1024 32
  fo0 : Vec F S1024x64 .f32
  p : Vec F S102656 .f32
  ps : IVec S832 32
  pe : IVec S832 32
  fo3 : Vec F S4x200x200x64 .f32

/-- The indices are in range. -/
structure Arr.Ok (A : Arr F) : Prop where
  idx : ∀ x, (A.idx x).toNat < 1000000
  ps : ∀ x, (A.ps x).toNat < 200
  pe : ∀ x, (A.pe x).toNat < 200

variable [FloatOps F] (A : Dev nD → Arr F)

/-- A task of the first call, its part of the result at `f`. -/
abbrev task0 (d : Dev nD) (f : Vec F S1024x64 .f32) (c : Fin 2) (i : Fin 16) : sProp 𝕄 :=
  pre0 d (coordsV c i) (shareOf c i) (A d).tbl (A d).idx f
/-- A task of the second call, its part of the result at `f`. -/
abbrev task3 (d : Dev nD) (f : Vec F S4x200x200x64 .f32) (c : Fin 2) (i : Fin 16) : sProp 𝕄 :=
  pre3 d (coordsR c i) (shareOf c i) (A d).p (A d).ps (A d).pe f

/-- What each call's tasks are handed. -/
def goP (q : Fin 2) (d : Dev nD) (c : Fin ((K (F := F)).nCore q)) (i : Fin ((K (F := F)).nSub q)) : sProp 𝕄 :=
  match q, c, i with
  | 0, c, i => task0 A d (A d).fo0 c i
  | 1, c, i => task3 A d (A d).fo3 c i
/-- What each call's tasks hand back. -/
def tdP (q : Fin 2) (d : Dev nD) (c : Fin ((K (F := F)).nCore q)) (i : Fin ((K (F := F)).nSub q)) : sProp 𝕄 :=
  match q, c, i with
  | 0, c, i => task0 A d (rowsOf (A d).tbl (A d).idx) c i
  | 1, c, i => task3 A d (relOut (A d).p (A d).ps (A d).pe) c i

instance goP_storable (q : Fin 2) (d : Dev nD) (c : Fin ((K (F := F)).nCore q)) (i : Fin ((K (F := F)).nSub q)) :
    BI.Storable (upEmb : UEmb _ 𝕄) (goP A q d c i) :=
  match q, c, i with
  | 0, c, i => by unfold goP task0 pre0; infer_instance
  | 1, c, i => by unfold goP task3 pre3; infer_instance
instance tdP_storable (q : Fin 2) (d : Dev nD) (c : Fin ((K (F := F)).nCore q)) (i : Fin ((K (F := F)).nSub q)) :
    BI.Storable (upEmb : UEmb _ 𝕄) (tdP A q d c i) :=
  match q, c, i with
  | 0, c, i => by unfold tdP task0 pre0; infer_instance
  | 1, c, i => by unfold tdP task3 pre3; infer_instance

/-- Each call hands every core what its tasks are handed, and takes back what they hand back. -/
def P : (K (F := F)).Pay (nD := nD) (Val := Elt F) (Name := ℕ) (U := UU) where
  st := fun q d c => bigSep Finset.univ fun i => goP A q d c i
  dn := fun q d c => bigSep Finset.univ fun i => tdP A q d c i
  go := goP A
  td := tdP A
  x := fun _ _ => iprop(emp)

instance P_storable : (P A).IsStorable where
  st q d c := by unfold P; infer_instance
  dn q d c := by unfold P; infer_instance
  go q d c i := goP_storable A q d c i
  td q d c i := tdP_storable A q d c i

theorem vecSplit (q : Fin 2) : (K (F := F)).VecSplit' (P A) q := by
  intro d c
  show bigSep Finset.univ (fun i => goP A q d c i) ⊢ |={Set.univ}=> iprop((bigSep Finset.univ fun i => goP A q d c i)
      ∗ ((bigSep Finset.univ fun i => tdP A q d c i) -∗ bigSep Finset.univ fun i => tdP A q d c i))
  iintro H; imodintro
  isplitl [H]; · iexact H
  iintro H; iexact H

/-! ## The calls' operands as whole arrays -/

theorem st0_eq (d : Dev nD) (f : Vec F S1024x64 .f32) :
    (bigSep Finset.univ fun c : Fin 2 => bigSep Finset.univ fun i : Fin 16 => task0 A d f c i)
      = iprop(((T d : Thread nD τ).loc main_arg3 ↦{fullShare} (A d).tbl) ∗ ((T d : Thread nD τ).loc main_v1 ↦{fullShare} (A d).idx)
          ∗ ((T d : Thread nD τ).loc main_v2 ↦{fullShare} f)) := by
  rw [pointsTo_shares (ℓ := (T d : Thread nD τ).loc main_arg3), pointsTo_shares (ℓ := (T d : Thread nD τ).loc main_v1),
    pointsTo_fibers (ℓ := (T d : Thread nD τ).loc main_v2) (A := Fin 2 × Fin 16) _ (fun a => (outSl (coordsV a.1 a.2)).view.set) (fun a y => mem_outSl a.1 a.2 y),
    bigSep_univ_prod, ← bigSep_sep', ← bigSep_sep']
  refine bigSep_congr fun c _ => ?_
  rw [← bigSep_sep', ← bigSep_sep']
  rfl

theorem st3_eq (d : Dev nD) (f : Vec F S4x200x200x64 .f32) :
    (bigSep Finset.univ fun c : Fin 2 => bigSep Finset.univ fun i : Fin 16 => task3 A d f c i)
      = iprop(((T d : Thread nD τ).loc main_v15 ↦{fullShare} (A d).p) ∗ ((T d : Thread nD τ).loc main_v12 ↦{fullShare} (A d).ps)
          ∗ ((T d : Thread nD τ).loc main_v14 ↦{fullShare} (A d).pe) ∗ ((T d : Thread nD τ).loc main_v16 ↦{fullShare} f)) := by
  rw [pointsTo_shares (ℓ := (T d : Thread nD τ).loc main_v15), pointsTo_shares (ℓ := (T d : Thread nD τ).loc main_v12), pointsTo_shares (ℓ := (T d : Thread nD τ).loc main_v14),
    pointsTo_fibers (ℓ := (T d : Thread nD τ).loc main_v16) (A := Fin 2 × Fin 16 × Fin k3_t1_loop.trips) _ (fun a => (relSl (coordsR a.1 a.2.1) a.2.2).view.set) (fun a y => mem_relSl a.1 a.2.1 a.2.2 y),
    bigSep_univ_prod, ← bigSep_sep', ← bigSep_sep', ← bigSep_sep']
  refine bigSep_congr fun c _ => ?_
  rw [bigSep_univ_prod, ← bigSep_sep', ← bigSep_sep', ← bigSep_sep']
  rfl

/-! ## The tasks -/

theorem defs₀_vec0 (c : Fin τ.nSC) (s : Fin τ.nSub) :
    defs₀ (F := F) (.scVector c s) 0 ()
      = SparseCore.onTile hcore0 hsub0 (fun c s => cc0_k (coordsV c s) (Memref.whole main_arg3_scv) (Memref.isWhole_whole _) (Memref.whole main_v1_scv) (Memref.isWhole_whole _)
          (Memref.whole main_v2_scv) (Memref.isWhole_whole _) (Memref.whole cc0_scratch0) (Memref.isWhole_whole _) (Memref.whole cc0_scratch1) (Memref.isWhole_whole _)
          cc0_scoped0 cc0_scoped1 cc0_scoped2) ⟨⟩ c s := rfl
theorem defs₀_vec3 (c : Fin τ.nSC) (s : Fin τ.nSub) :
    defs₀ (F := F) (.scVector c s) 3 ()
      = SparseCore.onTile hcore3 hsub3 (fun c s => cc3_k (coordsR c s) (Memref.whole main_v15_scv) (Memref.isWhole_whole _) (Memref.whole main_v12_scv) (Memref.isWhole_whole _)
          (Memref.whole main_v14_scv) (Memref.isWhole_whole _) (Memref.whole main_v16_scv) (Memref.isWhole_whole _) (Memref.whole cc3_scratch0) (Memref.isWhole_whole _)
          (Memref.whole cc3_scratch1) (Memref.isWhole_whole _) (Memref.whole cc3_scratch2) (Memref.isWhole_whole _) (Memref.whole cc3_scratch3) (Memref.isWhole_whole _)
          cc3_scoped0 cc3_scoped1 cc3_scoped2 cc3_scoped3) ⟨⟩ c s := rfl

theorem tileObl0 (hA : ∀ d, (A d).Ok) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vec0]; simp only [SparseCore.onTile, hc, and_self, ↓reduceDIte]
  exact (body0 d (coordsV ⟨_, hc.1⟩ ⟨_, hc.2⟩) _ (A d).tbl (A d).idx facts (A d).fo0 (hA d).idx O W hO).trans (wp_mono frame _ _ fun _ => obl_post)

theorem tileObl3 (hA : ∀ d, (A d).Ok) : (K (F := F)).TileObl (D (F := F)) 𝒱 (P A) v₀ 1 := by
  intro d c i O W hO _ _
  simp only [show (P A).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vec3]; simp only [SparseCore.onTile, hc, and_self, ↓reduceDIte]
  exact (body3 d (coordsR ⟨_, hc.1⟩ ⟨_, hc.2⟩) _ (A d).p (A d).ps (A d).pe facts (A d).fo3 (hA d).ps (hA d).pe O W hO).trans (wp_mono frame _ _ fun _ => obl_post)

end Cert.Kernel.Run
-- ==== Proof.KRegion.lean ====
/-
  The two TensorCore pipelines: what each leaves in its result, and the region as a step of the main program.
-/
module

public import proofs.«01_k».proof.Proof.KBase
public import Idealize.ShloMosaic.Lib.Pipeline.RegionsLoop
public import Idealize.ShloMosaic.Lib.Pipeline.FrameBody
public import Idealize.ShloMosaic.Lib.Pipeline.ValueKit

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.Pipeline (Dat Cfg Window BodyObligation)

variable [FloatOps F] [∀ e, Nonempty (Elt F e)]

/-- Memref `M`'s buffer on core `c`, held whole at `f`. -/
abbrev pt (c : Dev nD) {sp : Space} {S : Shape} {e : EltTy} (M : Memref sig .tc sp S e) (f : Buf (Elt F) (M.view.loc (T c : Thread nD τ))) : sProp 𝕄 :=
  M.view.loc (T c : Thread nD τ) ↦{fullShare} f

/-- Offsets that are zero. -/
theorem hz2 (off : Fin 2 → ℕ) (h0 : off 0 = 0) (h1 : off 1 = 0) : off = fun _ => 0 := funext fun a => match a with | 0 => h0 | 1 => h1

/-! ## The bodies -/

/-- The first pipeline's body: the result's buffer at the payload of the inputs. -/
theorem run1 (c : Dev nD) (M0 : Memref sig .tc .vmem S1024x64 .f32) (h0 : M0.IsWhole) (M1 : Memref sig .tc .vmem S64x64 .f32) (h1 : M1.IsWhole)
    (M2 : Memref sig .tc .vmem S1x64 .f32) (h2 : M2.IsWhole) (M3 : Memref sig .tc .vmem S1x64 .f32) (h3 : M3.IsWhole)
    (M4 : Memref sig .tc .vmem S1x64 .f32) (h4 : M4.IsWhole) (M5 : Memref sig .tc .vmem S1024x64 .f32) (h5 : M5.IsWhole)
    (f0 f1 f2 f3 f4 f5) (Q : PUnit → sProp 𝕄) :
    iprop(pt c M0 f0 ∗ pt c M1 f1 ∗ pt c M2 f2 ∗ pt c M3 f3 ∗ pt c M4 f4 ∗ pt c M5 f5
        ∗ (iprop(pt c M0 f0 ∗ pt c M1 f1 ∗ pt c M2 f2 ∗ pt c M3 f3 ∗ pt c M4 f4
            ∗ ∃ g, ⌜M5.view.read (Elt F) g = k1_pay1 (M0.view.read (Elt F) f0) (M1.view.read (Elt F) f1) (M2.view.read (Elt F) f2) (M3.view.read (Elt F) f3) (M4.view.read (Elt F) f4)⌝ ∗ pt c M5 g) -∗ Q ⟨⟩))
      ⊢ wp frame (wpE (defs₀ (F := F)) 𝒱₀ (T c) none) Set.univ (cc1_body M0 h0 M1 h1 M2 h2 M3 h3 M4 h4 M5 h5) Q := by
  simp only [cc1_body_eq_skeleton]; unfold cc1_body_skel
  iintro ⟨H0, H1, H2, H3, H4, H5, Hk⟩
  sl_exec
  sl_step
  iapply Hk
  isplitl [H0]; · iexact H0
  isplitl [H1]; · iexact H1
  isplitl [H2]; · iexact H2
  isplitl [H3]; · iexact H3
  isplitl [H4]; · iexact H4
  iexists _
  isplitr; swap
  · iexact H5
  ipureintro
  rw [View.read_writes_eq_canon _ _ _ fun y => ⟨_, List.mem_singleton_self _, View.mem_set_unit_zero (hz2 _ rfl rfl) inb_S1024x64_S1024x64_0_0 y⟩,
    View.canon_cons_unit_zero (hz2 _ rfl rfl)]
  simp only [View.readAt_eq_ld]
  rw [View.ld_unit_zero (hz2 _ rfl rfl), View.ld_unit_zero (hz2 _ rfl rfl), View.ld_unit_zero (hz2 _ rfl rfl), View.ld_unit_zero (hz2 _ rfl rfl), View.ld_unit_zero (hz2 _ rfl rfl)]

/-- What the second pipeline leaves: the four products, one block of rows after another. -/
def proj (t : Vec F S401x64 .f32) (w : Vec F S64x256 .f32) (b : Vec F S1x64 .f32) : Vec F S1604x64 .f32 := fun x =>
  if h : (x 0).val < 401 then k2_pay1 t w b (ix2 ⟨(x 0).val, h⟩ (x 1))
  else if h : (x 0).val - 401 < 401 then k2_pay2 t w (ix2 ⟨(x 0).val - 401, h⟩ (x 1))
  else if h : (x 0).val - 802 < 401 then k2_pay3 t w (ix2 ⟨(x 0).val - 802, h⟩ (x 1))
  else k2_pay4 t w (ix2 ⟨(x 0).val - 1203, by have : (x 0).val < 1604 := (x 0).isLt; omega⟩ (x 1))

/-- The rows from `o` on, as a rectangle: where it puts an index. -/
theorem row_emb (o : ℕ) (inb : ∀ a, (![o, 0] : Fin 2 → ℕ) a + S401x64.size a ≤ S1604x64.size a) (y : S1604x64.Idx) (h : o ≤ (y 0).val) (h' : (y 0).val - o < 401) :
    (Rect.unit (s := S1604x64) ![o, 0] S401x64.size inb).emb (ix2 ⟨(y 0).val - o, h'⟩ (y 1)) = y := by
  funext a
  apply Fin.ext
  match a with
  | 0 => show o + 1 * ((y 0).val - o) = (y 0).val; omega
  | 1 => show 0 + 1 * (y 1).val = (y 1).val; omega

theorem mem_row (o : ℕ) (inb : ∀ a, (![o, 0] : Fin 2 → ℕ) a + S401x64.size a ≤ S1604x64.size a) (y : S1604x64.Idx) (h : o ≤ (y 0).val) (h' : (y 0).val - o < 401) :
    y ∈ (Rect.unit (s := S1604x64) ![o, 0] S401x64.size inb).set := by
  have e := (Rect.unit (s := S1604x64) ![o, 0] S401x64.size inb).idx_mem (ix2 ⟨(y 0).val - o, h'⟩ (y 1))
  exact (row_emb o inb y h h').symm ▸ e

/-- What the last store of a block of rows leaves at an index. -/
theorem canon_row (o : ℕ) (inb : ∀ a, (![o, 0] : Fin 2 → ℕ) a + S401x64.size a ≤ S1604x64.size a) (w : Vec F S401x64 .f32)
    (L : List (View.Piece (Elt F) S1604x64 .f32)) (y : S1604x64.Idx) :
    View.canon ((⟨Rect.unit ![o, 0] S401x64.size inb, w⟩ : View.Piece (Elt F) S1604x64 .f32) :: L) y
      = if h : o ≤ (y 0).val ∧ (y 0).val - o < 401 then w (ix2 ⟨(y 0).val - o, h.2⟩ (y 1)) else View.canon L y := by
  split_ifs with h
  · conv_lhs => rw [← row_emb o inb y h.1 h.2]
    exact View.canon_cons_emb _ _ _ _
  · refine View.canon_cons_of_not_mem _ _ fun hm => h ?_
    obtain ⟨x, hx⟩ := (Rect.unit (s := S1604x64) ![o, 0] S401x64.size inb).exists_idx_of_mem hm
    have e := congrArg (fun z => (z 0).val) hx
    have hlt : (x 0).val < 401 := (x 0).isLt
    have : o + 1 * (x 0).val = (y 0).val := e
    omega

/-- The second pipeline's body. -/
theorem run2 (c : Dev nD) (M0 : Memref sig .tc .vmem S401x64 .f32) (h0 : M0.IsWhole) (M1 : Memref sig .tc .vmem S64x256 .f32) (h1 : M1.IsWhole)
    (M2 : Memref sig .tc .vmem S1x64 .f32) (h2 : M2.IsWhole) (M3 : Memref sig .tc .vmem S1604x64 .f32) (h3 : M3.IsWhole)
    (f0 f1 f2 f3) (Q : PUnit → sProp 𝕄) :
    iprop(pt c M0 f0 ∗ pt c M1 f1 ∗ pt c M2 f2 ∗ pt c M3 f3
        ∗ (iprop(pt c M0 f0 ∗ pt c M1 f1 ∗ pt c M2 f2
            ∗ ∃ g, ⌜M3.view.read (Elt F) g = proj (M0.view.read (Elt F) f0) (M1.view.read (Elt F) f1) (M2.view.read (Elt F) f2)⌝ ∗ pt c M3 g) -∗ Q ⟨⟩))
      ⊢ wp frame (wpE (defs₀ (F := F)) 𝒱₀ (T c) none) Set.univ (cc2_body M0 h0 M1 h1 M2 h2 M3 h3) Q := by
  simp only [cc2_body_eq_skeleton]; unfold cc2_body_skel
  iintro ⟨H0, H1, H2, H3, Hk⟩
  sl_exec
  sl_step
  iapply Hk
  isplitl [H0]; · iexact H0
  isplitl [H1]; · iexact H1
  isplitl [H2]; · iexact H2
  iexists _
  isplitr; swap
  · iexact H3
  ipureintro
  simp only [View.readAt_eq_ld]
  rw [View.ld_unit_zero (hz2 _ rfl rfl), View.ld_unit_zero (hz2 _ rfl rfl), View.ld_unit_zero (hz2 _ rfl rfl)]
  generalize M0.view.read (Elt F) f0 = t, M1.view.read (Elt F) f1 = w, M2.view.read (Elt F) f2 = b
  funext y
  have hy : (y 0).val < 1604 := (y 0).isLt
  rw [View.read_writes_apply_eq_canon, canon_row, canon_row, canon_row, canon_row]
  · unfold proj
    split_ifs <;> first | rfl | omega
  · rcases Nat.lt_or_ge (y 0).val 401 with h | h
    · exact ⟨_, List.mem_cons_of_mem _ (List.mem_cons_of_mem _ (List.mem_cons_of_mem _ (List.mem_singleton_self _))), mem_row _ inb_S1604x64_S401x64_0_0 _ (Nat.zero_le _) (by omega)⟩
    rcases Nat.lt_or_ge (y 0).val 802 with h' | h'
    · exact ⟨_, List.mem_cons_of_mem _ (List.mem_cons_of_mem _ (List.mem_cons_self ..)), mem_row _ inb_S1604x64_S401x64_401_0 _ h (by omega)⟩
    rcases Nat.lt_or_ge (y 0).val 1203 with h'' | h''
    · exact ⟨_, List.mem_cons_of_mem _ (List.mem_cons_self ..), mem_row _ inb_S1604x64_S401x64_802_0 _ h' (by omega)⟩
    · exact ⟨_, List.mem_cons_self .., mem_row _ inb_S1604x64_S401x64_1203_0 _ h'' (by omega)⟩

/-! ## The proof data, at an entry valuation -/

variable (V : (c : Dev nD) → (b : Ref sig .tc) → Buf (Elt F) ((T c : Thread nD τ).loc b)) (O : Dev nD → CellTallies nD τ sig (HIx 2)) (n : ℕ)

/-- A window's block as its fetch stages it. -/
abbrev stg1 (c : Dev nD) (w : Fin 6) : ((cfg1.win w).xblock (cfg1.grid.coords t1_0)).Idx → Elt F (cfg1.win w).elt :=
  ((cfg1.win w).blk t1_0).view.read (Elt F) (V c (Pipeline.arrRef spec1 w))
abbrev stg2 (c : Dev nD) (w : Fin 4) : ((cfg2.win w).xblock (cfg2.grid.coords t2_0)).Idx → Elt F (cfg2.win w).elt :=
  ((cfg2.win w).blk t2_0).view.read (Elt F) (V c (Pipeline.arrRef spec2 w))

/-- Each is the whole array. -/
theorem stg1_eq (c : Dev nD) (w : Fin 6) (i : ((cfg1.win w).xblock (cfg1.grid.coords t1_0)).Idx) (y : (cfg1.win w).shape.Idx)
    (h : ∀ a, (i a).val = (y a).val) : ((cfg1.win w).blk t1_0).view.emb i = (cfg1.win w).arr.view.emb y := by
  show (cfg1.win w).arr.view.emb (((cfg1.win w).rect t1_0).emb i) = _
  congr 1; funext a; apply Fin.ext
  rw [Pipeline.Window.rect_emb_val_of_index_zero _ _ _ (by
    exact (by decide : ∀ (w : Fin 6) (a : Fin (cfg1.win w).shape.rank), (cfg1.win w).index t1_0 a = 0) w a)]
  exact h a

theorem stg2_eq (c : Dev nD) (w : Fin 4) (i : ((cfg2.win w).xblock (cfg2.grid.coords t2_0)).Idx) (y : (cfg2.win w).shape.Idx)
    (h : ∀ a, (i a).val = (y a).val) : ((cfg2.win w).blk t2_0).view.emb i = (cfg2.win w).arr.view.emb y := by
  show (cfg2.win w).arr.view.emb (((cfg2.win w).rect t2_0).emb i) = _
  congr 1; funext a; apply Fin.ext
  rw [Pipeline.Window.rect_emb_val_of_index_zero _ _ _
    ((by decide : ∀ (w : Fin 4) (a : Fin (cfg2.win w).shape.rank), (cfg2.win w).index t2_0 a = 0) w a)]
  exact h a

theorem stg1_0 (c : Dev nD) : stg1 V c 0 = V c main_v2 := funext fun i => congrArg (V c main_v2) (stg1_eq c 0 i i fun _ => rfl)
theorem stg1_1 (c : Dev nD) : stg1 V c 1 = V c main_arg4 := funext fun i => congrArg (V c main_arg4) (stg1_eq c 1 i i fun _ => rfl)
theorem stg1_2 (c : Dev nD) : stg1 V c 2 = V c main_v3 := funext fun i => congrArg (V c main_v3) (stg1_eq c 2 i i fun _ => rfl)
theorem stg1_3 (c : Dev nD) : stg1 V c 3 = V c main_v4 := funext fun i => congrArg (V c main_v4) (stg1_eq c 3 i i fun _ => rfl)
theorem stg1_4 (c : Dev nD) : stg1 V c 4 = V c main_v5 := funext fun i => congrArg (V c main_v5) (stg1_eq c 4 i i fun _ => rfl)
theorem stg2_0 (c : Dev nD) : stg2 V c 0 = V c main_arg8 := funext fun i => congrArg (V c main_arg8) (stg2_eq c 0 i i fun _ => rfl)
theorem stg2_1 (c : Dev nD) : stg2 V c 1 = V c main_arg9 := funext fun i => congrArg (V c main_arg9) (stg2_eq c 1 i i fun _ => rfl)
theorem stg2_2 (c : Dev nD) : stg2 V c 2 = V c main_v9 := funext fun i => congrArg (V c main_v9) (stg2_eq c 2 i i fun _ => rfl)

/-- What the first pipeline leaves in its result. -/
abbrev out1 (c : Dev nD) : Vec F S1024x64 .f32 := k1_pay1 (V c main_v2) (V c main_arg4) (V c main_v3) (V c main_v4) (V c main_v5)
/-- What the second leaves. -/
abbrev out2 (c : Dev nD) : Vec F S1604x64 .f32 := proj (V c main_arg8) (V c main_arg9) (V c main_v9)

/-- The waits recorded so far lie below the level `n`. -/
abbrev below (c : Dev nD) : Set (SemLoc sig × HIx 2) := {p | (K (F := F)).lev (T c, p.1) p.2 ≤ n}

/-- No table is prefetched. -/
abbrev adm : (p : Fin 2) → (pcfgs (F := F) p).Adm := fun p => (cfgs p).toPCfg_adm

/-- The scoped buffers pipeline `p` does not stage. -/
@[irreducible] def restOf (p : Fin 2) (c : Dev nD) : sProp 𝕄 :=
  Pipeline.scopedRest (Ix := HIx 2) (Name := ℕ) (U := UU) (Lvl := ℕ) (Val := Elt F) (Pipeline.pin (pcfgs (F := F)) adm p).spec c

def dat1 (c : Dev nD) : Dat τ (Elt F) (HIx 2) ℕ UU ℕ cfg1 c where
  A w := V c (Pipeline.arrRef spec1 w)
  after w _ := match w with
    | ⟨0, _⟩ => stg1 V c 0
    | ⟨1, _⟩ => stg1 V c 1
    | ⟨2, _⟩ => stg1 V c 2
    | ⟨3, _⟩ => stg1 V c 3
    | ⟨4, _⟩ => stg1 V c 4
    | ⟨5, _⟩ => out1 V c
  Φ _ := restOf 0 c
  q _ := fullShare
  owed _ := O c
  recorded _ := below (F := F) n c

def dat2 (c : Dev nD) : Dat τ (Elt F) (HIx 2) ℕ UU ℕ cfg2 c where
  A w := V c (Pipeline.arrRef spec2 w)
  after w _ := match w with
    | ⟨0, _⟩ => stg2 V c 0
    | ⟨1, _⟩ => stg2 V c 1
    | ⟨2, _⟩ => stg2 V c 2
    | ⟨3, _⟩ => out2 V c
  Φ _ := restOf 1 c
  q _ := fullShare
  owed _ := O c
  recorded _ := below (F := F) n c

def pdats : (p : Fin 2) → (c : Dev nD) → Dat τ (Elt F) (HIx 2) ℕ UU ℕ (Pipeline.pin (pcfgs (F := F)) adm p) c
  | ⟨0, _⟩ => dat1 V O n
  | ⟨1, _⟩ => dat2 V O n

theorem before1 (c : Dev nD) (w : Fin 6) (hw : w ≠ 5) (d) : (dat1 V O n c).before w t1_0 d = (dat1 V O n c).after w t1_0 := by
  unfold Dat.before
  rw [if_pos ((by decide : ∀ w : Fin 6, w ≠ 5 → (cfg1.win w).fetch t1_0 = true) w hw)]
  match w, hw with
  | ⟨0, _⟩, _ | ⟨1, _⟩, _ | ⟨2, _⟩, _ | ⟨3, _⟩, _ | ⟨4, _⟩, _ => rfl
  | ⟨5, _⟩, h => exact absurd rfl h

theorem before2 (c : Dev nD) (w : Fin 4) (hw : w ≠ 3) (d) : (dat2 V O n c).before w t2_0 d = (dat2 V O n c).after w t2_0 := by
  unfold Dat.before
  rw [if_pos ((by decide : ∀ w : Fin 4, w ≠ 3 → (cfg2.win w).fetch t2_0 = true) w hw)]
  match w, hw with
  | ⟨0, _⟩, _ | ⟨1, _⟩, _ | ⟨2, _⟩, _ => rfl
  | ⟨3, _⟩, h => exact absurd rfl h

theorem body_obligation1 (c : Dev nD) : BodyObligation (dat1 V O n c) (defs₀ (F := F)) 𝒱₀ none Set.univ := fun t => by
  obtain rfl := fin_N1 t
  rw [bigSep_W1, bigSep_W1]
  simp only [owns_whole_eq]
  rw [show (dat1 V O n c).Φ t1_0.castSucc = (dat1 V O n c).Φ t1_0.succ from rfl,
    show (dat1 V O n c).owesAt none t1_0.succ = (dat1 V O n c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before1 V O n c _ (by decide)] at hf0 hf1 hf2 hf3 hf4
  iapply (run1 c (stage1_0 0) (hstage1_0 0) (stage1_1 0) (hstage1_1 0) (stage1_2 0) (hstage1_2 0) (stage1_3 0) (hstage1_3 0)
    (stage1_4 0) (hstage1_4 0) (stage1_5 0) (hstage1_5 0) f0 f1 f2 f3 f4 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, %g, %hg, H5⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  iexists g; isplitr; swap; (· iexact H5); ipureintro
  have hg' : g = k1_pay1 f0 f1 f2 f3 f4 := hg
  rw [hg', hf0, hf1, hf2, hf3, hf4]
  exact congr (congr (congr (congr (congrArg k1_pay1 (stg1_0 V c)) (stg1_1 V c)) (stg1_2 V c)) (stg1_3 V c)) (stg1_4 V c)

theorem body_obligation2 (c : Dev nD) : BodyObligation (dat2 V O n c) (defs₀ (F := F)) 𝒱₀ none Set.univ := fun t => by
  obtain rfl := fin_N2 t
  rw [bigSep_W2, bigSep_W2]
  simp only [owns_whole_eq]
  rw [show (dat2 V O n c).Φ t2_0.castSucc = (dat2 V O n c).Φ t2_0.succ from rfl,
    show (dat2 V O n c).owesAt none t2_0.succ = (dat2 V O n c).owesAt none t2_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before2 V O n c _ (by decide)] at hf0 hf1 hf2
  iapply (run2 c (stage2_0 0) (hstage2_0 0) (stage2_1 0) (hstage2_1 0) (stage2_2 0) (hstage2_2 0) (stage2_3 0) (hstage2_3 0) f0 f1 f2 f3 _)
  isplitl [H0]; · iexact H0
  isplitl [H1]; · iexact H1
  isplitl [H2]; · iexact H2
  isplitl [H3]; · iexact H3
  iintro ⟨H0, H1, H2, %g, %hg, H3⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists g; isplitr; swap; (· iexact H3); ipureintro
  have hg' : g = proj f0 f1 f2 := hg
  rw [hg', hf0, hf1, hf2]
  exact congr (congr (congrArg proj (stg2_0 V c)) (stg2_1 V c)) (stg2_2 V c)

/-! ## The region -/

theorem pd_share (p : Fin 2) (c : Dev nD) (w) : (pdats V O n p c).share w = fullShare := by
  match p with
  | ⟨0, _⟩ => exact (dat1 V O n c).share_full (fun _ => rfl) w
  | ⟨1, _⟩ => exact (dat2 V O n c).share_full (fun _ => rfl) w

theorem pd_A (p : Fin 2) (c : Dev nD) (w) : (pdats V O n p c).A w = V c (Pipeline.arrRef (Pipeline.pin (pcfgs (F := F)) adm p).spec w) := by
  match p with
  | ⟨0, _⟩ => rfl
  | ⟨1, _⟩ => rfl

theorem pd_owed (p : Fin 2) (c : Dev nD) (t) : (pdats V O n p c).owed t = O c := by
  match p with
  | ⟨0, _⟩ => rfl
  | ⟨1, _⟩ => rfl

theorem pd_recorded (p : Fin 2) (c : Dev nD) (t) : (pdats V O n p c).recorded t = below (F := F) n c := by
  match p with
  | ⟨0, _⟩ => rfl
  | ⟨1, _⟩ => rfl

theorem pd_Φ (p : Fin 2) (c : Dev nD) (t) : (pdats V O n p c).Φ t = restOf p c := by
  match p with
  | 0 => rfl
  | 1 => rfl

theorem launchP (p : Fin 2) : Pipeline.LaunchFacts (nD := nD) (τ := τ) cfgs p := by
  match p with
  | ⟨0, _⟩ => exact launch1
  | ⟨1, _⟩ => exact launch2

theorem pd_body (p : Fin 2) (c : Dev nD) : BodyObligation (pdats V O n p c) (defs₀ (F := F)) 𝒱₀ none Set.univ := by
  match p with
  | ⟨0, _⟩ => exact body_obligation1 V O n c
  | ⟨1, _⟩ => exact body_obligation2 V O n c

variable (Vp : (c : Dev nD) → (b : Ref sig .tc) → Buf (Elt F) ((T c : Thread nD τ).loc b))

/-- What the core owes, and its waits so far. -/
abbrev duesAt (c : Dev nD) : sProp 𝕄 := iprop(∃ W, ⌜(K (F := F)).WBelow (T c) W n⌝ ∗ owes (T c) (O c) W)

set_option backward.isDefEq.respectTransparency.types false in
/-- A pipeline's region, entered with every unscoped buffer at `V` and left with every one at `Vp`. -/
def reg (p : Fin 2) (hO : ∀ c g, O c g none = 0)
    (hw : ∀ c w, (pdats V O n p c).arrAt w (Pipeline.pin (pcfgs (F := F)) adm p).N = Vp c (Pipeline.arrRef (Pipeline.pin (pcfgs (F := F)) adm p).spec w))
    (hne : ∀ c (b : Ref sig .tc), b ∉ Finset.univ.image (Pipeline.arrRef (Pipeline.pin (pcfgs (F := F)) adm p).spec) → Vp c b = V c b) :
    Pipeline.RegionSeg (pcfgs (F := F)) adm (pdats V O n) none defs₀ 𝒱₀ (K (F := F)).L (K (F := F)).lev p where
  win := (launchP p).win.to₀
  block_pos := (launchP p).block_pos
  stage_whole := (launchP p).stage_whole
  K := PEmpty
  osem k := k.elim
  ho := Pipeline.OwnSemFacts.none _
  hbody c := (pd_body V O n p c).loose
  hwaits c := Pipeline.cellsWaits_intro _ _ _ p c fun w s t => by
    rw [pd_owed]; exact (K (F := F)).mayWait_none _ (hO c)
  pre c := iprop(unscopedBufs c (V c) ∗ duesAt O n c)
  post c := iprop(unscopedBufs c (Vp c) ∗ duesAt O n c)
  X _ := BI.emp
  Y _ := BI.emp
  Z c := Pipeline.unscopedRest (Pipeline.pin (pcfgs (F := F)) adm p).spec c (V c)
  hentry c := by
    rw [Pipeline.ownSems0_none]
    have hsplit := Pipeline.arrays_of_unscopedBufs (p := p) (pcfgs (F := F)) adm (pdats V O n) (launchP p).win (launchP p).arr_whole c
      (pd_share V O n p c) (V c) (pd_A V O n p c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed]
      icases HO with ⟨%W, %hW, HO⟩; iexists W; isplitr
      · ipureintro; intro q hq; left; rw [pd_recorded]; exact hW q hq
      iexact HO
    isplitr; · iempintro
    iexact Hrest
  hin c := by
    rw [pd_Φ]; unfold restOf
    iintro ⟨-, -, Hr⟩; iexact Hr
  hout c := by
    rw [Pipeline.ownSems0_none, pd_Φ]; unfold restOf
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ) (launchP p).win (launchP p).arr_whole c
      (pdats V O n) (pd_share V O n p c) (V c) (Vp c) ((pdats V O n p c).arrAt · (Pipeline.pin (pcfgs (F := F)) adm p).N) (hw c) (hne c)
    iintro ⟨Ha, HO, -, Hrest⟩
    imodintro
    isplitl [Ha Hrest]
    · iapply hjoin; isplitl [Ha] <;> iassumption
    unfold Pipeline.Dat.owesAt Pipeline.owesWithin
    rw [pd_owed]
    icases HO with ⟨%W, %hW, HO⟩; iexists W; isplitr
    · ipureintro; intro q hq
      rcases hW hq with h | ⟨w, s, rfl⟩
      · rw [pd_recorded] at h; exact h
      · exact Nat.zero_le _
    iexact HO

set_option backward.isDefEq.respectTransparency.types false in
/-- The first pipeline's region: `Vp` is `V` but for the result. -/
def region1 (hO : ∀ c g, O c g none = 0) (hout : ∀ c, Vp c main_v6 = out1 V c) (hne : ∀ c (b : Ref sig .tc), b ≠ main_v6 → Vp c b = V c b) :
    Pipeline.RegionSeg (pcfgs (F := F)) adm (pdats V O n) none defs₀ 𝒱₀ (K (F := F)).L (K (F := F)).lev 0 :=
  reg V O n Vp 0 hO
    (fun c w => by
      match w with
      | ⟨0, _⟩ => exact ((dat1 V O n c).arrAt_in 0 rfl _).trans (hne c main_v2 (by decide)).symm
      | ⟨1, _⟩ => exact ((dat1 V O n c).arrAt_in 1 rfl _).trans (hne c main_arg4 (by decide)).symm
      | ⟨2, _⟩ => exact ((dat1 V O n c).arrAt_in 2 rfl _).trans (hne c main_v3 (by decide)).symm
      | ⟨3, _⟩ => exact ((dat1 V O n c).arrAt_in 3 rfl _).trans (hne c main_v4 (by decide)).symm
      | ⟨4, _⟩ => exact ((dat1 V O n c).arrAt_in 4 rfl _).trans (hne c main_v5 (by decide)).symm
      | ⟨5, _⟩ => exact ((dat1 V O n c).arrAt_eq_of_after_last 5 t1_0 (by decide +kernel) (out1 V c) (fun _ => rfl)).trans (hout c).symm)
    (fun c b hb => hne c b fun h => hb (h ▸ Finset.mem_image.mpr ⟨(5 : Fin 6), Finset.mem_univ _, rfl⟩))

set_option backward.isDefEq.respectTransparency.types false in
/-- The second pipeline's region. -/
def region2 (hO : ∀ c g, O c g none = 0) (hout : ∀ c, Vp c main_v10 = out2 V c) (hne : ∀ c (b : Ref sig .tc), b ≠ main_v10 → Vp c b = V c b) :
    Pipeline.RegionSeg (pcfgs (F := F)) adm (pdats V O n) none defs₀ 𝒱₀ (K (F := F)).L (K (F := F)).lev 1 :=
  reg V O n Vp 1 hO
    (fun c w => by
      match w with
      | ⟨0, _⟩ => exact ((dat2 V O n c).arrAt_in 0 rfl _).trans (hne c main_arg8 (by decide)).symm
      | ⟨1, _⟩ => exact ((dat2 V O n c).arrAt_in 1 rfl _).trans (hne c main_arg9 (by decide)).symm
      | ⟨2, _⟩ => exact ((dat2 V O n c).arrAt_in 2 rfl _).trans (hne c main_v9 (by decide)).symm
      | ⟨3, _⟩ => exact ((dat2 V O n c).arrAt_eq_of_after_last 3 t2_0 (by decide +kernel) (out2 V c) (fun _ => rfl)).trans (hout c).symm)
    (fun c b hb => hne c b fun h => hb (h ▸ Finset.mem_image.mpr ⟨(3 : Fin 4), Finset.mem_univ _, rfl⟩))

end Cert.Kernel.Run
-- ==== Proof.KMain.lean ====
/-
  The kernel's main program on the TensorCore: the host operations, the two SparseCore calls and the two TensorCore pipelines, in
  order, over the contents of every unscoped buffer; the program's run.
-/
module

public import proofs.«01_k».proof.Proof.KPay
public import proofs.«01_k».proof.Proof.KRegion

@[expose] public section

set_option maxRecDepth 16384
set_option Elab.async false

noncomputable section

namespace Cert.Kernel.Run

open Cert.Kernel Cert.Kernel.Gen Cert.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.Pipeline (ucRefs)

variable {F : FTy → Type}

local notation "𝕄" => MT nD τ sig (HIx 2) (Elt F) ℕ UU ℕ

/-- A TensorCore reference as a buffer of the device. -/
abbrev dr (b : Ref sig .tc) : DevRef τ sig := Proc.devRef .tc b

section
variable [FloatOps F]

/-! ## The host operations, stretch by stretch -/

abbrev opsA : List (HloOp τ sig (Elt F)) :=
  [StableHlo.reshape main_arg0 main_v0 (rfl : (.i32 : EltTy) = .i32) shapeCasts_S4x200_S800,
   StableHlo.nullary main_c (constantI S_ 32 0#32),
   StableHlo.TRef.unary (.of main_c : StableHlo.TRef sig ⟨S_, .i32⟩) main_call0.v0 id,
   StableHlo.TRef.binary (.of main_v0 : StableHlo.TRef sig ⟨S800, .i32⟩) main_call0.v0 main_call0.v1 (fun x v => pad S1024 ![0] ![224] ![0] x v pads_S800_S1024_02240 h_S_)]
abbrev opsC : List (HloOp τ sig (Elt F)) :=
  [StableHlo.reshape main_arg5 main_v3 (rfl : (.f32 : EltTy) = .f32) shapeCasts_S64_S1x64,
   StableHlo.reshape main_arg6 main_v4 (rfl : (.f32 : EltTy) = .f32) shapeCasts_S64_S1x64,
   StableHlo.reshape main_arg7 main_v5 (rfl : (.f32 : EltTy) = .f32) shapeCasts_S64_S1x64]
abbrev opsE : List (HloOp τ sig (Elt F)) :=
  [StableHlo.unary main_v6 main_v7 ((extractStridedSlice S800x64 ![0, 0] · slices_S1024x64_S800x64_0_0) : (⟨S1024x64, .f32⟩ : BufTy).Contents (Elt F) → (⟨S800x64, .f32⟩ : BufTy).Contents (Elt F)),
   StableHlo.reshape main_v7 main_v8 (rfl : (.f32 : EltTy) = .f32) shapeCasts_S800x64_S4x200x64,
   StableHlo.reshape main_arg10 main_v9 (rfl : (.f32 : EltTy) = .f32) shapeCasts_S64_S1x64]
abbrev opsG : List (HloOp τ sig (Elt F)) :=
  [StableHlo.nullary main_c_0 (constantI S_ 32 0#32),
   StableHlo.TRef.unary (.of main_c_0 : StableHlo.TRef sig ⟨S_, .i32⟩) main_call1.v0 id,
   StableHlo.TRef.binary (.of main_arg1 : StableHlo.TRef sig ⟨S4x200, .i32⟩) main_call1.v0 main_call1.v1 (fun x v => pad S4x208 ![0, 0] ![0, 8] ![0, 0] x v pads_S4x200_S4x208_000_080 h_S_),
   StableHlo.reshape main_v11 main_v12 (rfl : (.i32 : EltTy) = .i32) shapeCasts_S4x208_S832,
   StableHlo.nullary main_c_1 (constantI S_ 32 0#32),
   StableHlo.TRef.unary (.of main_c_1 : StableHlo.TRef sig ⟨S_, .i32⟩) main_call2.v0 id,
   StableHlo.TRef.binary (.of main_arg2 : StableHlo.TRef sig ⟨S4x200, .i32⟩) main_call2.v0 main_call2.v1 (fun x v => pad S4x208 ![0, 0] ![0, 8] ![0, 0] x v pads_S4x200_S4x208_000_080 h_S_),
   StableHlo.reshape main_v13 main_v14 (rfl : (.i32 : EltTy) = .i32) shapeCasts_S4x208_S832,
   StableHlo.reshape main_v10 main_v15 (rfl : (.f32 : EltTy) = .f32) shapeCasts_S1604x64_S102656]

theorem main_eq (d : Dev nD) : main (F := F) d
    = (StableHlo.seq opsA >>= fun _ => (K (F := F)).run d 0 >>= fun _ => StableHlo.seq opsC >>= fun _ =>
      Prog.lift (.customCall (SparseCore.inner (Pipeline.entry 0)) ()) >>= fun _ => StableHlo.seq opsE >>= fun _ =>
      Prog.lift (.customCall (SparseCore.inner (Pipeline.entry 1)) ()) >>= fun _ => StableHlo.seq opsG >>= fun _ =>
      (K (F := F)).run d 1 >>= fun _ => pure ⟨⟩) := by
  simp only [main, fn_pad.body, fn_pad_0.body, StableHlo.seq, bind_assoc, pure_bind]

/-! ## The contents along the program -/

variable (m : (ℓ : Loc nD τ sig) → Buf (Elt F) ℓ) (ρ : Dev nD → PrngReg)

abbrev Val1 : Type := Valuation τ sig (Elt F)

def V0 (d : Dev nD) : Valuation τ sig (Elt F) := fun b => m (d, b)
def VA (d : Dev nD) : Valuation τ sig (Elt F) := after opsA (V0 m d)
def VB (d : Dev nD) : Valuation τ sig (Elt F) :=
  Function.update (VA m d) (dr main_v2) (rowsOf (VA m d (dr main_arg3)) (VA m d (dr main_v1)))
def VC (d : Dev nD) : Valuation τ sig (Elt F) := after opsC (VB m d)
def VD (d : Dev nD) : Valuation τ sig (Elt F) := Function.update (VC m d) (dr main_v6) (out1 (fun d b => VC m d (dr b)) d)
def VE (d : Dev nD) : Valuation τ sig (Elt F) := after opsE (VD m d)
def VF (d : Dev nD) : Valuation τ sig (Elt F) := Function.update (VE m d) (dr main_v10) (out2 (fun d b => VE m d (dr b)) d)
def VG (d : Dev nD) : Valuation τ sig (Elt F) := after opsG (VF m d)
def VH (d : Dev nD) : Valuation τ sig (Elt F) :=
  Function.update (VG m d) (dr main_v16) (relOut (VG m d (dr main_v15)) (VG m d (dr main_v12)) (VG m d (dr main_v14)))

/-- The arrays of the two SparseCore calls. -/
def arr (d : Dev nD) : Arr F where
  tbl := VA m d (dr main_arg3)
  idx := VA m d (dr main_v1)
  fo0 := VA m d (dr main_v2)
  p := VG m d (dr main_v15)
  ps := VG m d (dr main_v12)
  pe := VG m d (dr main_v14)
  fo3 := VG m d (dr main_v16)

end

/-! ## The unscoped buffers -/

theorem mem_uc (b : Ref sig .tc) (hb : b.isScoped = false) : dr b ∈ ucRefs τ sig :=
  Finset.mem_filter.mpr ⟨StableHlo.devRef_mem_tcRefs b, fun h => Bool.false_ne_true (hb.symm.trans h)⟩

abbrev S0 : Finset (DevRef τ sig) := {dr main_arg3, dr main_v1, dr main_v2}
abbrev S3 : Finset (DevRef τ sig) := {dr main_v15, dr main_v12, dr main_v14, dr main_v16}

theorem S0_sub : S0 ⊆ ucRefs τ sig := by
  intro b hb
  simp only [Finset.mem_insert, Finset.mem_singleton] at hb
  rcases hb with rfl | rfl | rfl <;> exact mem_uc _ (by decide)
theorem S3_sub : S3 ⊆ ucRefs τ sig := by
  intro b hb
  simp only [Finset.mem_insert, Finset.mem_singleton] at hb
  rcases hb with rfl | rfl | rfl | rfl <;> exact mem_uc _ (by decide)

theorem held_S0 (d : Dev nD) (W : Valuation τ sig (Elt F)) :
    (held (T d) S0 W : sProp 𝕄) = iprop(((T d : Thread nD τ).loc main_arg3 ↦{fullShare} W (dr main_arg3)) ∗ ((T d : Thread nD τ).loc main_v1 ↦{fullShare} W (dr main_v1))
      ∗ ((T d : Thread nD τ).loc main_v2 ↦{fullShare} W (dr main_v2))) := by
  unfold held S0
  rw [SparseCore.bigSep_insert' (by decide), SparseCore.bigSep_insert' (by decide), bigSep_singleton]
theorem held_S3 (d : Dev nD) (W : Valuation τ sig (Elt F)) :
    (held (T d) S3 W : sProp 𝕄) = iprop(((T d : Thread nD τ).loc main_v15 ↦{fullShare} W (dr main_v15)) ∗ ((T d : Thread nD τ).loc main_v12 ↦{fullShare} W (dr main_v12))
      ∗ ((T d : Thread nD τ).loc main_v14 ↦{fullShare} W (dr main_v14)) ∗ ((T d : Thread nD τ).loc main_v16 ↦{fullShare} W (dr main_v16))) := by
  unfold held S3
  rw [SparseCore.bigSep_insert' (by decide), SparseCore.bigSep_insert' (by decide), SparseCore.bigSep_insert' (by decide), bigSep_singleton]

/-- Buffers beside the one updated are held as they were. -/
theorem held_rest (d : Dev nD) (S S' : Finset (DevRef τ sig)) (b : DevRef τ sig) (hb : b ∈ S') (W : Valuation τ sig (Elt F)) (f) :
    (held (T d) (S \ S') (Function.update W b f) : sProp 𝕄) = held (T d) (S \ S') W :=
  StableHlo.held_congr _ fun x hx => Function.update_of_ne (by rintro rfl; exact (Finset.mem_sdiff.mp hx).2 hb) _ _

section
variable [FloatOps F] (m : (ℓ : Loc nD τ sig) → Buf (Elt F) ℓ) (ρ : Dev nD → PrngReg)

variable (A : Dev nD → Arr F)

theorem over_cores0 (Φ : Fin ((K (F := F)).nCore 0) → sProp 𝕄) : bigSep Finset.univ Φ = bigSep (Finset.univ (α := Fin 2)) Φ := rfl
theorem over_subs0 (Φ : Fin ((K (F := F)).nSub 0) → sProp 𝕄) : bigSep Finset.univ Φ = bigSep (Finset.univ (α := Fin 16)) Φ := rfl
theorem over_cores1 (Φ : Fin ((K (F := F)).nCore 1) → sProp 𝕄) : bigSep Finset.univ Φ = bigSep (Finset.univ (α := Fin 2)) Φ := rfl
theorem over_subs1 (Φ : Fin ((K (F := F)).nSub 1) → sProp 𝕄) : bigSep Finset.univ Φ = bigSep (Finset.univ (α := Fin 16)) Φ := rfl
theorem st_0 (d : Dev nD) : (bigSep Finset.univ fun c : Fin ((K (F := F)).nCore 0) => (P A).st 0 d c)
    = bigSep Finset.univ fun c : Fin 2 => bigSep Finset.univ fun i : Fin 16 => task0 A d (A d).fo0 c i :=
  (over_cores0 _).trans (bigSep_congr fun c _ => (over_subs0 fun i => goP A 0 d c i).trans (bigSep_congr fun i _ => by rw [goP]))
theorem dn_0 (d : Dev nD) : (bigSep Finset.univ fun c : Fin ((K (F := F)).nCore 0) => (P A).dn 0 d c)
    = bigSep Finset.univ fun c : Fin 2 => bigSep Finset.univ fun i : Fin 16 => task0 A d (rowsOf (A d).tbl (A d).idx) c i :=
  (over_cores0 _).trans (bigSep_congr fun c _ => (over_subs0 fun i => tdP A 0 d c i).trans (bigSep_congr fun i _ => by rw [tdP]))
theorem st_1 (d : Dev nD) : (bigSep Finset.univ fun c : Fin ((K (F := F)).nCore 1) => (P A).st 1 d c)
    = bigSep Finset.univ fun c : Fin 2 => bigSep Finset.univ fun i : Fin 16 => task3 A d (A d).fo3 c i :=
  (over_cores1 _).trans (bigSep_congr fun c _ => (over_subs1 fun i => goP A 1 d c i).trans (bigSep_congr fun i _ => by rw [goP]))
theorem dn_1 (d : Dev nD) : (bigSep Finset.univ fun c : Fin ((K (F := F)).nCore 1) => (P A).dn 1 d c)
    = bigSep Finset.univ fun c : Fin 2 => bigSep Finset.univ fun i : Fin 16 => task3 A d (relOut (A d).p (A d).ps (A d).pe) c i :=
  (over_cores1 _).trans (bigSep_congr fun c _ => (over_subs1 fun i => tdP A 1 d c i).trans (bigSep_congr fun i _ => by rw [tdP]))

/-- What the first call takes, -/
theorem split0 (d : Dev nD) (W : Valuation τ sig (Elt F)) (h1 : W (dr main_arg3) = (A d).tbl) (h2 : W (dr main_v1) = (A d).idx) (h3 : W (dr main_v2) = (A d).fo0) :
    (held (T d) (ucRefs τ sig) W : sProp 𝕄)
      = iprop((bigSep Finset.univ fun c : Fin ((K (F := F)).nCore 0) => (P A).st 0 d c) ∗ held (T d) (ucRefs τ sig \ S0) W) := by
  rw [StableHlo.held_sub_split _ S0_sub, held_S0, st_0, st0_eq, h1, h2, h3]
/-- and what it hands back. -/
theorem join0 (d : Dev nD) (W : Valuation τ sig (Elt F)) (h1 : W (dr main_arg3) = (A d).tbl) (h2 : W (dr main_v1) = (A d).idx) :
    iprop((bigSep Finset.univ fun c : Fin ((K (F := F)).nCore 0) => (P A).dn 0 d c) ∗ held (T d) (ucRefs τ sig \ S0) W)
      = (held (T d) (ucRefs τ sig) (Function.update W (dr main_v2) (rowsOf (A d).tbl (A d).idx)) : sProp 𝕄) := by
  rw [StableHlo.held_sub_split _ S0_sub (Function.update W _ _), held_S0, held_rest d _ _ _ (by decide), Function.update_self,
    Function.update_of_ne (show dr main_arg3 ≠ dr main_v2 by decide), Function.update_of_ne (show dr main_v1 ≠ dr main_v2 by decide), dn_0, st0_eq, h1, h2]
/-- What the second call takes, -/
theorem split3 (d : Dev nD) (W : Valuation τ sig (Elt F)) (h1 : W (dr main_v15) = (A d).p) (h2 : W (dr main_v12) = (A d).ps) (h3 : W (dr main_v14) = (A d).pe)
    (h4 : W (dr main_v16) = (A d).fo3) : (held (T d) (ucRefs τ sig) W : sProp 𝕄)
      = iprop((bigSep Finset.univ fun c : Fin ((K (F := F)).nCore 1) => (P A).st 1 d c) ∗ held (T d) (ucRefs τ sig \ S3) W) := by
  rw [StableHlo.held_sub_split _ S3_sub, held_S3, st_1, st3_eq, h1, h2, h3, h4]
/-- and what it hands back. -/
theorem join3 (d : Dev nD) (W : Valuation τ sig (Elt F)) (h1 : W (dr main_v15) = (A d).p) (h2 : W (dr main_v12) = (A d).ps) (h3 : W (dr main_v14) = (A d).pe) :
    iprop((bigSep Finset.univ fun c : Fin ((K (F := F)).nCore 1) => (P A).dn 1 d c) ∗ held (T d) (ucRefs τ sig \ S3) W)
      = (held (T d) (ucRefs τ sig) (Function.update W (dr main_v16) (relOut (A d).p (A d).ps (A d).pe)) : sProp 𝕄) := by
  rw [StableHlo.held_sub_split _ S3_sub (Function.update W _ _), held_S3, held_rest d _ _ _ (by decide), Function.update_self,
    Function.update_of_ne (show dr main_v15 ≠ dr main_v16 by decide), Function.update_of_ne (show dr main_v12 ≠ dr main_v16 by decide),
    Function.update_of_ne (show dr main_v14 ≠ dr main_v16 by decide), dn_1, st3_eq, h1, h2, h3]

/-! ## The pipelines' regions -/

/-- Between the two calls the TensorCore owes nothing to its own waits. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    unfold tallyAt tallyOn
    by_cases hg : g = (K (F := F)).startCell d ((K (F := F)).core q c)
    · subst hg; simp
    · simp [Pi.single_eq_of_ne hg]
  · rfl

variable [∀ e, Nonempty (Elt F e)]

/-- The bound on what the TensorCore has waited for between the calls. -/
abbrev wb : ℕ := 8 * 1

/-- A pipeline's region as the main program's step: from its entry state to its exit state. -/
theorem region_step (V O n) {p : Fin 2} (R : Pipeline.RegionSeg (pcfgs (F := F)) adm (pdats V O n) none defs₀ 𝒱₀ (K (F := F)).L (K (F := F)).lev p) (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ (Prog.lift (.customCall (SparseCore.inner (Pipeline.entry p)) ())) Q := by
  have h : iprop((iprop(boundary (T d) ∗ R.post d) -∗ wp frame (wpE (D (F := F)) 𝒱 (T d) none) Set.univ (Prog.ret ⟨⟩) Q) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE (D (F := F)) 𝒱 (T d) none) Set.univ (Prog.lift (.customCall (Pipeline.entry p) ())) Q :=
    Pipeline.RegionSeg.wp (pcfgs (F := F)) adm (pdats V O n) none cellOf_inj (EP (F := F)) defs₀ 𝒱₀ (K (F := F)).L (K (F := F)).lev R d none (by intro u hu; cases hu) (fun x => .ret x) Q
  have h' : wp frame (wpE (D (F := F)) 𝒱 (T d) none) Set.univ (Prog.lift (.customCall (Pipeline.entry p) ())) Q
      ⊢ wp frame (wpE ((K (F := F)).defs (D (F := F))) 𝒱 (T d) none) Set.univ (Prog.lift (.customCall (SparseCore.inner (Pipeline.entry p)) ())) Q :=
    SparseCore.Cfg.wp_liftProg (K (F := F)) (D (F := F)) 𝒱 (T d) Set.univ none (Prog.lift (.customCall (Pipeline.entry p) ())) Q
  iintro ⟨Hk, Hrest⟩
  iapply h'
  iapply h
  isplitl [Hk]
  · iintro H
    rw [wp_ret]; imodintro
    iapply Hk; iexact H
  · iexact Hrest

variable (m : (ℓ : Loc nD τ sig) → Buf (Elt F) ℓ) (ρ : Dev nD → PrngReg)

/-- The first pipeline's region at its place in the program. -/
abbrev R1 : Pipeline.RegionSeg (pcfgs (F := F)) adm (pdats (fun d b => VC m d (dr b)) (fun d => (K (F := F)).Otc d 1) wb) none defs₀ 𝒱₀ (K (F := F)).L (K (F := F)).lev 0 :=
  region1 (fun d b => VC m d (dr b)) (fun d => (K (F := F)).Otc d 1) wb (fun d b => VD m d (dr b)) (fun d g => Otc_none d 1 g)
    (fun _ => Function.update_self _ _ _) (fun _ _ h => Function.update_of_ne (StableHlo.devRef_ne_of_ne h) _ _)
/-- The second pipeline's. -/
abbrev R2 : Pipeline.RegionSeg (pcfgs (F := F)) adm (pdats (fun d b => VE m d (dr b)) (fun d => (K (F := F)).Otc d 1) wb) none defs₀ 𝒱₀ (K (F := F)).L (K (F := F)).lev 1 :=
  region2 (fun d b => VE m d (dr b)) (fun d => (K (F := F)).Otc d 1) wb (fun d b => VF m d (dr b)) (fun d g => Otc_none d 1 g)
    (fun _ => Function.update_self _ _ _) (fun _ _ h => Function.update_of_ne (StableHlo.devRef_ne_of_ne h) _ _)

/-- What the TensorCore has waited for and owes between the calls. -/
abbrev dues (d : Dev nD) : sProp 𝕄 := duesAt (F := F) (fun d => (K (F := F)).Otc d 1) wb d

theorem uc_held (d : Dev nD) (W : Valuation τ sig (Elt F)) :
    (unscopedBufs d (fun b => W (dr b)) : sProp 𝕄) = held (T d) (ucRefs τ sig) W :=
  Pipeline.unscopedBufs_held d W

theorem R1_pre (d : Dev nD) : (R1 m).pre d = iprop(held (T d) (ucRefs τ sig) (VC m d) ∗ dues (F := F) d) := by
  rw [← uc_held]; rfl
theorem R1_post (d : Dev nD) : (R1 m).post d = iprop(held (T d) (ucRefs τ sig) (VD m d) ∗ dues (F := F) d) := by
  rw [← uc_held]; rfl
theorem R2_pre (d : Dev nD) : (R2 m).pre d = iprop(held (T d) (ucRefs τ sig) (VE m d) ∗ dues (F := F) d) := by
  rw [← uc_held]; rfl
theorem R2_post (d : Dev nD) : (R2 m).post d = iprop(held (T d) (ucRefs τ sig) (VF m d) ∗ dues (F := F) d) := by
  rw [← uc_held]; rfl

/-! ## The main program -/

omit [∀ e, Nonempty (Elt F e)] in
/-- The state between the calls is what the TensorCore owes beside the rest. -/
theorem tcSt_split (d : Dev nD) : ∃ R : sProp 𝕄, (K (F := F)).tcSt EH d 1 = iprop(dues (F := F) d ∗ R) := ⟨_, rfl⟩

/-- The pipelines' ghost state on core `d`. -/
abbrev ghost (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)
/-- What the launch hands the TensorCore for its pipelines. -/
def G (d : Dev nD) : sProp 𝕄 :=
  iprop((bigSep Finset.univ fun p : Fin 2 => Pipeline.cellsGhost (Pipeline.pin (pcfgs (F := F)) adm) (EP (F := F)) p d)
    ∗ bigSep Finset.univ fun p : Fin 2 => Pipeline.toksInit (Pipeline.pin (pcfgs (F := F)) adm) (EP (F := F)) p d)
/-- What the main program leaves: every unscoped buffer at its final contents. -/
abbrev FIN (d : Dev nD) : sProp 𝕄 := held (T d) (ucRefs τ sig) (VH m d)

/-- A stretch of host operations, from the contents `W` to the contents `W'`. -/
theorem host_step (d : Dev nD) (ops : List (HloOp τ sig (Elt F))) (hs : ops.Forall fun op => op.bufs ⊆ StableHlo.tcRefs τ sig)
    (hf : ops.Forall fun op => op.fresh = ∅) (W W' : Valuation τ sig (Elt F)) (h : after ops W = W') {k : PUnit → Prog (TpuEff nD τ sig (Elt F) (SparseCore.Sig (ΛP (F := F)) 2) .tc) PUnit}
    {Q : PUnit → sProp 𝕄} :
    iprop(boundary (T d) ∗ held (T d) (ucRefs τ sig) W)
      ⊢ iprop(((boundary (T d) ∗ held (T d) (ucRefs τ sig) W') -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) := by
  subst h
  exact StableHlo.wp_seq 𝒱 none Set.univ d (ucRefs τ sig) k ops (fun op ho => Pipeline.sub_ucRefs op ((List.forall_iff_forall_mem.mp hs) op ho))
    (fun op ho => (List.forall_iff_forall_mem.mp hf) op ho) W

theorem unscoped_V0 (d : Dev nD) : (unscopedBufs d (fun b => m ((T d : Thread nD τ).loc b)) : sProp 𝕄) = held (T d) (ucRefs τ sig) (V0 m d) := uc_held d (V0 m d)

theorem hmain (κ : GSem nD τ sig → ℕ) (d : Dev nD) :
    iprop((K (F := F)).ctx EH (P (arr m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd G
  rw [unscoped_V0, main_eq, show (Finset.univ : Finset (Fin 2)) = {0, 1} by decide, SparseCore.bigSep_insert' (by decide), bigSep_singleton,
    SparseCore.bigSep_insert' (by decide), bigSep_singleton]
  iintro ⟨#Hctx, Hst, ⟨Hb, Hheld, Hts, -⟩, ⟨Hg0, Hg1⟩, Ht0, Ht1⟩
  ihave #Hlev := (SparseCore.Cfg.ctx_levAts (K := K (F := F)) (EH := EH) (P := P (arr m)) κ) $$ Hctx
  -- the indices, padded
  iapply (host_step d opsA (by simp [List.Forall]) (StableHlo.forall_fresh_of_map rfl) (V0 m d) (VA m d) rfl) $$ [Hb Hheld]
  · isplitl [Hb] <;> iassumption
  iintro ⟨Hb, Hheld⟩
  -- the first call
  rw [wp_bind]
  ihave Hh := (Entails.of_eq (split0 (arr m) d (VA m d) rfl rfl rfl)) $$ Hheld
  icases Hh with ⟨Hcall, Hheld⟩
  iapply ((K (F := F)).wp_run (D (F := F)) 𝒱 (EH := EH) (P := P (arr m)) κ d 0)
  isplitr; · iexact Hctx
  isplitl [Hst]; · iexact Hst
  isplitl [Hcall]; · iexact Hcall
  iintro ⟨Hst, Hdn⟩
  ihave Hheld := (Entails.of_eq ((join0 (arr m) d (VA m d) rfl rfl).trans (show _ = held (T d) (ucRefs τ sig) (VB m d) from rfl))) $$ [Hdn Hheld]
  · isplitl [Hdn] <;> iassumption
  -- the normalization's parameters as rows
  iapply (host_step d opsC (by simp [List.Forall]) (StableHlo.forall_fresh_of_map rfl) (VB m d) (VC m d) rfl) $$ [Hb Hheld]
  · isplitl [Hb] <;> iassumption
  iintro ⟨Hb, Hheld⟩
  -- the first pipeline
  obtain ⟨R, hR⟩ := tcSt_split (F := F) d
  replace hR : (K (F := F)).tcSt EH d ((0 : Fin 2).val + 1) = iprop(dues d ∗ R) := hR
  ihave Hst' := (Entails.of_eq hR) $$ Hst
  icases Hst' with ⟨Hdue, HR⟩
  rw [wp_bind]
  iapply (region_step _ _ _ (R1 m) d)
  isplitr [Hb Hheld Hdue Hg0 Ht0]
  rotate_left
  · isplitl [Hb]; · iexact Hb
    isplitl [Hheld Hdue]
    · rw [R1_pre]; isplitl [Hheld] <;> iassumption
    isplitr; · iexact Hlev
    isplitl [Hg0] <;> iassumption
  rw [R1_post]
  iintro ⟨Hb, Hheld, Hdue⟩
  -- its result's rows; the second pipeline's bias as a row
  iapply (host_step d opsE (by simp [List.Forall]) (StableHlo.forall_fresh_of_map rfl) (VD m d) (VE m d) rfl) $$ [Hb Hheld]
  · isplitl [Hb] <;> iassumption
  iintro ⟨Hb, Hheld⟩
  -- the second pipeline
  rw [wp_bind]
  iapply (region_step _ _ _ (R2 m) d)
  isplitr [Hb Hheld Hdue Hg1 Ht1]
  rotate_left
  · isplitl [Hb]; · iexact Hb
    isplitl [Hheld Hdue]
    · rw [R2_pre]; isplitl [Hheld] <;> iassumption
    isplitr; · iexact Hlev
    isplitl [Hg1] <;> iassumption
  rw [R2_post]
  iintro ⟨Hb, Hheld, Hdue⟩
  ihave Hst := (Entails.of_eq hR.symm) $$ [Hdue HR]
  · isplitl [Hdue] <;> iassumption
  -- the positions, padded, and the tables in one row
  iapply (host_step d opsG (by simp [List.Forall]) (StableHlo.forall_fresh_of_map rfl) (VF m d) (VG m d) rfl) $$ [Hb Hheld]
  · isplitl [Hb] <;> iassumption
  iintro ⟨Hb, Hheld⟩
  -- the second call
  rw [wp_bind]
  ihave Hh := (Entails.of_eq (split3 (arr m) d (VG m d) rfl rfl rfl rfl)) $$ Hheld
  icases Hh with ⟨Hcall, Hheld⟩
  iapply ((K (F := F)).wp_run (D (F := F)) 𝒱 (EH := EH) (P := P (arr m)) κ d 1)
  isplitr; · iexact Hctx
  isplitl [Hst]; · iexact Hst
  isplitl [Hcall]; · iexact Hcall
  iintro ⟨Hst, Hdn⟩
  ihave Hheld := (Entails.of_eq ((join3 (arr m) d (VG m d) rfl rfl rfl).trans (show _ = held (T d) (ucRefs τ sig) (VH m d) from rfl))) $$ [Hdn Hheld]
  · isplitl [Hdn] <;> iassumption
  rw [wp_pure]; imodintro
  isplitl [Hst]; · iexact Hst
  isplitl [Hheld]; · iexact Hheld
  isplitl [Hb] <;> iassumption

/-! ## The launch -/

/-- The launch element: the handshakes' rounds, the pipelines' rounds, no counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [∀ e, Nonempty (Elt F e)] in
theorem emp_all {I : Type} (s : Finset I) : (bigSep s fun _ => iprop(emp)) = (iprop(emp) : sProp 𝕄) := bigSep_emp_const s

omit [∀ e, Nonempty (Elt F e)] in
/-- The pipelines' part of the launch element. -/
theorem pipes_part (a : UP) : (BI.own (embR (a, (1 : Counters))) : sProp 𝕄) ⊢ BI.own (EP (F := F) a) := Entails.refl _

theorem hu₀ (A : Dev nD → Arr F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P A).x q thr) := by
  unfold u₀
  iintro Hu
  ihave H := (ownU_pair _ _) $$ Hu
  icases H with ⟨HH, HP⟩
  ihave HP := (pipes_part _) $$ HP
  imod (Pipeline.fund_ghost (Pipeline.pin (pcfgs (F := F)) adm) (EP (F := F)) cellOf_inj) $$ HP with ⟨Hg, Ht⟩
  imodintro
  isplitl [HH]; · iexact HH
  isplitl [Hg Ht]
  · unfold G; rw [bigSep_sep']
    isplitl [Hg] <;> iassumption
  unfold P; dsimp only
  rw [show (bigSep Finset.univ fun _ : Thread nD τ => bigSep Finset.univ fun _ : Fin 2 => (iprop(emp) : sProp 𝕄)) = iprop(emp) from by
    rw [bigSep_congr fun _ _ => emp_all _, emp_all]]
  iempintro

/-- What the end says of a device's memory. -/
def fq (d : Dev nD) (s' : Phys nD τ sig (Elt F)) : Prop := ∀ b ∈ ucRefs τ sig, s'.mem.mem (d, b) = VH m d b

omit [FloatOps F] [∀ e, Nonempty (Elt F e)] in
theorem held_read (d : Dev nD) (s' : Phys nD τ sig (Elt F)) (W : Valuation τ sig (Elt F)) (b : DevRef τ sig) (hb : b ∈ ucRefs τ sig) :
    iprop(held (T d) (ucRefs τ sig) W ∗ SI s') ⊢ (⌜s'.mem.mem (d, b) = W b⌝ : sProp 𝕄) := by
  rw [StableHlo.held_sub_split _ (Finset.singleton_subset_iff.mpr hb)]
  unfold held
  rw [bigSep_singleton]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold fq FIN
  have key : iprop(held (T d) (ucRefs τ sig) (VH m d) ∗ SI s') ⊢ (iprop(∀ b, ⌜b ∈ ucRefs τ sig → s'.mem.mem (d, b) = VH m d b⌝) : sProp 𝕄) := by
    refine forall_intro fun b => ?_
    by_cases hb : b ∈ ucRefs τ sig
    · exact (held_read d s' (VH m d) b hb).trans (BI.pure_mono fun h _ => h)
    · exact BI.pure_intro fun h => absurd h hb
  exact key.trans pure_forall.mpr

/-! ## The program's run -/

/-- Every unscoped buffer at its final contents, every semaphore at zero. -/
def QC : PUnit × MemSt nD τ sig (Elt F) → Prop := fun r => (∀ d : Dev nD, ∀ b ∈ ucRefs τ sig, r.2.mem (d, b) = VH m d b) ∧ r.2.sem = fun _ => 0

theorem run_main (hA : ∀ d, (arr m d).Ok) : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (arr m)) (A := ∅) facts v₀
    (fun q hq => match q with | 0 => nomatch hq | 1 => nomatch hq)
    (fun q _ => match q with | 0 => tileObl0 (arr m) hA | 1 => tileObl3 (arr m) hA)
    (fun q _ => SparseCore.Cfg.VecSplit.of_plain (vecSplit (arr m) q))
    m ρ main G (FIN m) (u₀ (F := F)) (sep_elim_left.trans (hu₀ (arr m))) (hmain m ρ) (fq m) (hfin m) (QC m) (fun _ h hz => ⟨h, hz⟩)

end

end Cert.Kernel.Run
-- ==== Proof.Ranges.lean ====
/-
  What the precondition says of the three arrays of indices; a padded array of small words.
-/
module

public import proofs.«01_k».proof.Pre_indices_in_range
public import proofs.«01_k».proof.Proof.Gen.Pre_indices_in_range
public import Idealize.ShloMosaic.Lib.ReduceAll
public import Idealize.ShloMosaic.Lib.KernelVsHost

@[expose] public section

set_option Elab.async false

noncomputable section

namespace Cert.Ranges

open Idealize.ShloMosaic Cert.Pre_indices_in_range Cert.Pre_indices_in_range.Facts

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word between zero and a positive bound, compared as signed words. -/
theorem lt_of_cmp (v : BitVec 32) (n : ℕ) (hn : n < 2147483648) (e : IntOp.andi (IntOp.cmpi .sge v 0#32) (IntOp.cmpi .slt v (BitVec.ofNat 32 n)) = 1#1) :
    v.toNat < n := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun a b => funext fun i => i.elim0⟩

/-- Every element of an array between zero and a positive bound, when the conjunction of the comparisons is one. -/
theorem all_lt (x : IVec S4x200 32) (n : ℕ) (hn : n < 2147483648)
    (e : Host.reduce IntOp.andi (andi (cmpi .sge x (broadcastInDim S4x200 ![] bcast_S_S4x200 (constantI S_ 32 0#32)))
      (cmpi .slt x (broadcastInDim S4x200 ![] bcast_S_S4x200 (constantI S_ 32 (BitVec.ofNat 32 n))))) (constantI S_ 1 1#1) reducesTo_S4x200_S_d0_1 h_S_
      (fun a => a.elim0) = 1#1) (i : S4x200.Idx) : (x i).toNat < n :=
  lt_of_cmp (x i) n hn (Host.reduce_andi_all _ _ _ _ _ e i)

/-- The precondition: table rows below 1000000, positions below 200. -/
theorem of_pre {F : FTy → Type} [FloatOps F] (a0 a1 a2 : IVec S4x200 32) (a3 : FVec F S1000000x64 .f32) (a4 : FVec F S64x64 .f32) (a5 a6 a7 : FVec F S64 .f32)
    (a8 : FVec F S401x64 .f32) (a9 : FVec F S64x256 .f32) (a10 : FVec F S64 .f32) (h : fn (F := F) a0 a1 a2 a3 a4 a5 a6 a7 a8 a9 a10 = fun _ => 1#1) :
    (∀ i, (a0 i).toNat < 1000000) ∧ (∀ i, (a1 i).toNat < 200) ∧ ∀ i, (a2 i).toNat < 200 := by
  have e := congrFun h (fun a => a.elim0)
  simp only [fn, fn_part1] at e
  obtain ⟨e1, e3⟩ := IntOp.andi_eq_one.1 e
  obtain ⟨e1, e2⟩ := IntOp.andi_eq_one.1 e1
  exact ⟨all_lt a0 1000000 (by norm_num) e1, all_lt a1 200 (by norm_num) e2, all_lt a2 200 (by norm_num) e3⟩

/-- A padded array whose elements and padding all have a property. -/
theorem pad_all {α : Type} {s t u : Shape} (p : α → Prop) (lo hi interior : Fin s.rank → Nat) (x : s.Idx → α) (v : u.Idx → α) (h : s.Pads lo hi interior t) (hu : 0 < u.numel)
    (hx : ∀ i, p (x i)) (hv : ∀ i, p (v i)) (j : t.Idx) : p (pad t lo hi interior x v h hu j) := by
  unfold pad
  split
  · exact hx _
  · exact hv _

end Cert.Ranges

end
-- ==== Proof.KEnd.lean ====
/-
  What the program's buffers hold at the end: the arguments as at the start, the two results as functions of the arguments; the
  indices of both SparseCore calls lie in range; the program's frame.
-/
module

public import proofs.«01_k».proof.Defs
public import proofs.«01_k».proof.Proof.KMain
public import proofs.«01_k».proof.Proof.Ranges

@[expose] public section

set_option maxRecDepth 16384
set_option Elab.async false

noncomputable section

namespace Cert.Kernel.Run

open Cert.Kernel Cert.Kernel.Gen Cert.Common
open Idealize.ShloMosaic Idealize.SL.Sem
open Idealize.ShloMosaic.StableHlo (after after_of_writes_sub forall_writes_sub_of_map)
open Idealize.ShloMosaic.Pipeline (ucRefs)

variable {F : FTy → Type} [FloatOps F] (m : (ℓ : Loc nD τ sig) → Buf (Elt F) ℓ) (d : Dev nD)

/-! ## What each stretch keeps -/

theorem VA_keep (b : Ref sig .tc) (h : b ∉ [main_v0, main_c, main_call0_v0, main_v1]) : VA m d (dr b) = V0 m d (dr b) :=
  after_of_writes_sub _ _ (forall_writes_sub_of_map rfl) h
theorem VB_keep (b : Ref sig .tc) (h : b ≠ main_v2) : VB m d (dr b) = VA m d (dr b) :=
  Function.update_of_ne (StableHlo.devRef_ne_of_ne h) _ _
theorem VC_keep (b : Ref sig .tc) (h : b ∉ [main_v3, main_v4, main_v5]) : VC m d (dr b) = VB m d (dr b) :=
  after_of_writes_sub _ _ (forall_writes_sub_of_map rfl) h
theorem VD_keep (b : Ref sig .tc) (h : b ≠ main_v6) : VD m d (dr b) = VC m d (dr b) :=
  Function.update_of_ne (StableHlo.devRef_ne_of_ne h) _ _
theorem VE_keep (b : Ref sig .tc) (h : b ∉ [main_v7, main_v8, main_v9]) : VE m d (dr b) = VD m d (dr b) :=
  after_of_writes_sub _ _ (forall_writes_sub_of_map rfl) h
theorem VF_keep (b : Ref sig .tc) (h : b ≠ main_v10) : VF m d (dr b) = VE m d (dr b) :=
  Function.update_of_ne (StableHlo.devRef_ne_of_ne h) _ _
theorem VG_keep (b : Ref sig .tc) (h : b ∉ [main_c_0, main_call1_v0, main_v11, main_v12, main_c_1, main_call2_v0, main_v13, main_v14, main_v15]) :
    VG m d (dr b) = VF m d (dr b) :=
  after_of_writes_sub _ _ (forall_writes_sub_of_map rfl) h
theorem VH_keep (b : Ref sig .tc) (h : b ≠ main_v16) : VH m d (dr b) = VG m d (dr b) :=
  Function.update_of_ne (StableHlo.devRef_ne_of_ne h) _ _

/-- A buffer no operation writes holds its launch contents. -/
def Kept (b : Ref sig .tc) : Prop := b ∉ [main_v0, main_c, main_call0_v0, main_v1] ∧ b ≠ main_v2 ∧ b ∉ [main_v3, main_v4, main_v5] ∧ b ≠ main_v6
  ∧ b ∉ [main_v7, main_v8, main_v9] ∧ b ≠ main_v10 ∧ b ∉ [main_c_0, main_call1_v0, main_v11, main_v12, main_c_1, main_call2_v0, main_v13, main_v14, main_v15]
  ∧ b ≠ main_v16
instance (b : Ref sig .tc) : Decidable (Kept b) := by unfold Kept; infer_instance

theorem VB_arg (b : Ref sig .tc) (h : Kept b) : VB m d (dr b) = V0 m d (dr b) := (VB_keep m d b h.2.1).trans (VA_keep m d b h.1)
theorem VC_arg (b : Ref sig .tc) (h : Kept b) : VC m d (dr b) = V0 m d (dr b) := (VC_keep m d b h.2.2.1).trans (VB_arg m d b h)
theorem VD_arg (b : Ref sig .tc) (h : Kept b) : VD m d (dr b) = V0 m d (dr b) := (VD_keep m d b h.2.2.2.1).trans (VC_arg m d b h)
theorem VE_arg (b : Ref sig .tc) (h : Kept b) : VE m d (dr b) = V0 m d (dr b) := (VE_keep m d b h.2.2.2.2.1).trans (VD_arg m d b h)
theorem VF_arg (b : Ref sig .tc) (h : Kept b) : VF m d (dr b) = V0 m d (dr b) := (VF_keep m d b h.2.2.2.2.2.1).trans (VE_arg m d b h)
theorem VG_arg (b : Ref sig .tc) (h : Kept b) : VG m d (dr b) = V0 m d (dr b) := (VG_keep m d b h.2.2.2.2.2.2.1).trans (VF_arg m d b h)
theorem VH_arg (b : Ref sig .tc) (h : Kept b) : VH m d (dr b) = V0 m d (dr b) := (VH_keep m d b h.2.2.2.2.2.2.2).trans (VG_arg m d b h)

/-! ## What each stretch writes -/

/-- The rows to read, padded with zero. -/
def idxOf (a : IVec S4x200 32) : IVec S1024 32 :=
  pad S1024 ![0] ![224] ![0] (shapeCast S800 a shapeCasts_S4x200_S800) (constantI S_ 32 0#32) pads_S800_S1024_02240 h_S_
/-- The positions, every row padded with zero, in one row. -/
def posOf (a : IVec S4x200 32) : IVec S832 32 :=
  shapeCast S832 (pad S4x208 ![0, 0] ![0, 8] ![0, 0] a (constantI S_ 32 0#32) pads_S4x200_S4x208_000_080 h_S_) shapeCasts_S4x208_S832
/-- A vector as a row. -/
def rowOf (x : Vec F S64 .f32) : Vec F S1x64 .f32 := shapeCast S1x64 x shapeCasts_S64_S1x64

theorem VA_v1 : VA m d (dr main_v1) = idxOf (V0 m d (dr main_arg0)) := by
  unfold VA; after_results_simp; rfl
theorem VC_v3 : VC m d (dr main_v3) = rowOf (VB m d (dr main_arg5)) := by
  unfold VC; after_results_simp; rfl
theorem VC_v4 : VC m d (dr main_v4) = rowOf (VB m d (dr main_arg6)) := by
  unfold VC; after_results_simp; rfl
theorem VC_v5 : VC m d (dr main_v5) = rowOf (VB m d (dr main_arg7)) := by
  unfold VC; after_results_simp; rfl
theorem VE_v8 : VE m d (dr main_v8) = shapeCast S4x200x64 (extractStridedSlice S800x64 ![0, 0] (VD m d (dr main_v6)) slices_S1024x64_S800x64_0_0) shapeCasts_S800x64_S4x200x64 := by
  unfold VE; after_results_simp; rfl
theorem VE_v9 : VE m d (dr main_v9) = rowOf (VD m d (dr main_arg10)) := by
  unfold VE; after_results_simp; rfl
theorem VG_v12 : VG m d (dr main_v12) = posOf (VF m d (dr main_arg1)) := by
  unfold VG; after_results_simp; rfl
theorem VG_v14 : VG m d (dr main_v14) = posOf (VF m d (dr main_arg2)) := by
  unfold VG; after_results_simp; rfl
theorem VG_v15 : VG m d (dr main_v15) = shapeCast S102656 (VF m d (dr main_v10)) shapeCasts_S1604x64_S102656 := by
  unfold VG; after_results_simp; rfl

/-! ## The two results as functions of the arguments -/

/-- The first result: rows of the table through the first pipeline, the padding rows dropped. -/
def res0 (a0 : IVec S4x200 32) (a3 : Vec F S1000000x64 .f32) (a4 : Vec F S64x64 .f32) (a5 a6 a7 : Vec F S64 .f32) : Vec F S4x200x64 .f32 :=
  shapeCast S4x200x64 (extractStridedSlice S800x64 ![0, 0] (k1_pay1 (rowsOf a3 (idxOf a0)) a4 (rowOf a5) (rowOf a6) (rowOf a7)) slices_S1024x64_S800x64_0_0)
    shapeCasts_S800x64_S4x200x64
/-- The second: the second pipeline's four tables, read at the differences of positions. -/
def res1 (a1 a2 : IVec S4x200 32) (a8 : Vec F S401x64 .f32) (a9 : Vec F S64x256 .f32) (a10 : Vec F S64 .f32) : Vec F S4x200x200x64 .f32 :=
  relOut (shapeCast S102656 (proj a8 a9 (rowOf a10)) shapeCasts_S1604x64_S102656) (posOf a1) (posOf a2)

theorem VH_v8 : VH m d (dr main_v8) = res0 (V0 m d (dr main_arg0)) (V0 m d (dr main_arg3)) (V0 m d (dr main_arg4)) (V0 m d (dr main_arg5)) (V0 m d (dr main_arg6))
    (V0 m d (dr main_arg7)) := by
  have h2 : VC m d (dr main_v2) = rowsOf (V0 m d (dr main_arg3)) (idxOf (V0 m d (dr main_arg0))) := by
    rw [VC_keep m d _ (by decide), ← VA_v1, ← VA_keep m d main_arg3 (by decide)]
    exact Function.update_self _ _ _
  rw [VH_keep m d _ (by decide), VG_keep m d _ (by decide), VF_keep m d _ (by decide), VE_v8]
  unfold res0
  rw [show VD m d (dr main_v6) = out1 (fun d b => VC m d (dr b)) d from Function.update_self _ _ _]
  unfold out1
  beta_reduce
  rw [h2, VC_v3, VC_v4, VC_v5, VB_arg m d main_arg5 (by decide), VB_arg m d main_arg6 (by decide), VB_arg m d main_arg7 (by decide), VC_arg m d main_arg4 (by decide)]

theorem VH_v16 : VH m d (dr main_v16) = res1 (V0 m d (dr main_arg1)) (V0 m d (dr main_arg2)) (V0 m d (dr main_arg8)) (V0 m d (dr main_arg9)) (V0 m d (dr main_arg10)) := by
  refine (Function.update_self _ _ _).trans ?_
  rw [VG_v12, VG_v14, VG_v15, VF_arg m d main_arg1 (by decide), VF_arg m d main_arg2 (by decide),
    show VF m d (dr main_v10) = out2 (fun d b => VE m d (dr b)) d from Function.update_self _ _ _]
  unfold out2 res1
  beta_reduce
  rw [VE_v9, VE_arg m d main_arg8 (by decide), VE_arg m d main_arg9 (by decide), VD_arg m d main_arg10 (by decide)]

/-! ## The indices in range -/

theorem arr_ok (h0 : ∀ i, (V0 m d (dr main_arg0) i).toNat < 1000000) (h1 : ∀ i, (V0 m d (dr main_arg1) i).toNat < 200)
    (h2 : ∀ i, (V0 m d (dr main_arg2) i).toNat < 200) : (arr m d).Ok where
  idx x := by
    show (VA m d (dr main_v1) x).toNat < _
    rw [VA_v1]
    exact Ranges.pad_all (fun w : BitVec 32 => w.toNat < 1000000) _ _ _ _ _ _ _ (fun i => h0 _) (fun _ => show (0#32).toNat < 1000000 by decide) x
  ps x := by
    show (VG m d (dr main_v12) x).toNat < _
    rw [VG_v12, VF_arg m d _ (by decide), posOf]
    exact Ranges.pad_all (fun w : BitVec 32 => w.toNat < 200) _ _ _ _ _ _ _ h1 (fun _ => show (0#32).toNat < 200 by decide) _
  pe x := by
    show (VG m d (dr main_v14) x).toNat < _
    rw [VG_v14, VF_arg m d _ (by decide), posOf]
    exact Ranges.pad_all (fun w : BitVec 32 => w.toNat < 200) _ _ _ _ _ _ _ h2 (fun _ => show (0#32).toNat < 200 by decide) _

/-! ## The program's run, its arguments unchanged -/

variable [∀ e, Nonempty (Elt F e)] (ρ : Dev nD → PrngReg)

/-- Every device's arguments are what they were at the start. -/
def ArgsKept (r : PUnit × MemSt nD τ sig (Elt F)) : Prop := ∀ (d : Dev nD) (b : Ref sig .tc), Kept b → dr b ∈ ucRefs τ sig → r.2.mem (d, dr b) = m (d, dr b)

theorem run_args (hA : ∀ d, (arr m d).Ok) : θ_run (Cert.Kernel.defs (F := F)) (Cert.Kernel.threads (F := F)) ⟨m, fun _ => 0, ρ⟩
    fun r => ArgsKept m r ∧ (∀ d, r.2.mem (d, dr main_v8) = res0 (m (d, dr main_arg0)) (m (d, dr main_arg3)) (m (d, dr main_arg4)) (m (d, dr main_arg5)) (m (d, dr main_arg6)) (m (d, dr main_arg7)))
      ∧ (∀ d, r.2.mem (d, dr main_v16) = res1 (m (d, dr main_arg1)) (m (d, dr main_arg2)) (m (d, dr main_arg8)) (m (d, dr main_arg9)) (m (d, dr main_arg10)))
      ∧ r.2.sem = fun _ => 0 :=
  (θ_run Cert.Kernel.defs _ _).mono (fun _ h => ⟨fun d b hb hu => (h.1 d _ hu).trans (VH_arg m d b hb), fun d => (h.1 d _ (mem_uc _ (by decide))).trans (VH_v8 m d),
    fun d => (h.1 d _ (mem_uc _ (by decide))).trans (VH_v16 m d), h.2⟩) (run_main m ρ hA)

/-- The arguments of a run that kept them. -/
theorem ArgsKept.arg {m : (ℓ : Loc nD τ sig) → Buf (Elt F) ℓ} {r : PUnit × MemSt nD τ sig (Elt F)} (h : ArgsKept m r) (c : Dev nD) (b : Ref sig .tc)
    (hb : Kept b) (hs : b.isScoped = false) : r.2.mem ((c.tc : Thread nD τ).loc b) = m ((c.tc : Thread nD τ).loc b) :=
  h c b hb (mem_uc b hs)

/-- Every argument at once. -/
theorem ArgsKept.all {m : (ℓ : Loc nD τ sig) → Buf (Elt F) ℓ} {r : PUnit × MemSt nD τ sig (Elt F)} (h : ArgsKept m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨h.arg c _ (by decide) rfl, h.arg c _ (by decide) rfl, h.arg c _ (by decide) rfl, h.arg c _ (by decide) rfl, h.arg c _ (by decide) rfl, h.arg c _ (by decide) rfl,
    h.arg c _ (by decide) rfl, h.arg c _ (by decide) rfl, h.arg c _ (by decide) rfl, h.arg c _ (by decide) rfl, h.arg c _ (by decide) rfl⟩

/-- The precondition puts the indices of both calls in range. -/
theorem ok_of_pre (m : (ℓ : Loc nD τ sig) → Buf (Elt Bits) ℓ) (h : Cert.Pre_Kernel m) (d : Dev nD) : (arr m d).Ok := by
  obtain ⟨h0, h1, h2⟩ := Ranges.of_pre _ _ _ _ _ _ _ _ _ _ _ (h d)
  exact arr_ok m d h0 h1 h2

/-- The frame. -/
theorem frame : Cert.quiescent_Kernel := fun m ρ hpre =>
  (θ_run Cert.Kernel.defs _ _).mono (fun _ h => ⟨h.1.all, h.2.2.2⟩) (run_args m ρ (ok_of_pre m hpre))

end Cert.Kernel.Run

end
-- ==== Proof.Ideal.lean ====
/-
  The idealization is the kernel's own text under other names: its program, definitions and threads are the kernel's at every
  reading, so the kernel's run, read at the extended reals, is its run.
-/
module

public import proofs.«01_k».proof.Proof.KEnd
public import proofs.«01_k».proof.Proof.Gen.KernelIdeal

@[expose] public section

set_option maxRecDepth 16384
set_option Elab.async false

noncomputable section

namespace Cert.Idealized

open Idealize.ShloMosaic Idealize.SL.Sem

section
variable {F : FTy → Type} [FloatOps F]

theorem main_eq (d : Dev Cert.Kernel.nD) : Cert.KernelIdeal.main (F := F) d = Cert.Kernel.main (F := F) d := rfl
theorem threads_eq : Cert.KernelIdeal.threads (F := F) = Cert.Kernel.threads (F := F) := rfl
theorem pcfgs_eq : Cert.KernelIdeal.pcfgs (F := F) = Cert.Kernel.pcfgs (F := F) := rfl
theorem cc1_eq : @Cert.KernelIdeal.cc1_body F _ _ = @Cert.Kernel.cc1_body F _ _ := rfl
theorem cc2_eq : @Cert.KernelIdeal.cc2_body F _ _ = @Cert.Kernel.cc2_body F _ _ := rfl
theorem cc0_eq : @Cert.KernelIdeal.cc0_k F _ = @Cert.Kernel.cc0_k F _ := rfl
theorem cc3_eq : @Cert.KernelIdeal.cc3_k F _ _ = @Cert.Kernel.cc3_k F _ _ := rfl

set_option maxHeartbeats 4000000 in
/-- The bodies, one label on one kind of processor at a time. -/
theorem defs₀_eq : Cert.KernelIdeal.defs₀ (F := F) = Cert.Kernel.defs₀ (F := F) := by
  funext p ℓ a
  match p, ℓ with
  | .scVector c s, 0 => rfl
  | .scVector c s, 1 => rfl
  | .scVector c s, 2 => rfl
  | .scVector c s, 3 => rfl
  | .tc, 0 => rfl
  | .tc, 1 => rfl
  | .tc, 2 => rfl
  | .tc, 3 => rfl
  | .scScalar c, 0 => rfl
  | .scScalar c, 1 => rfl
  | .scScalar c, 2 => rfl
  | .scScalar c, 3 => rfl

theorem defs_eq : Cert.KernelIdeal.defs (F := F) = Cert.Kernel.defs (F := F) := by
  show Cert.KernelIdeal.sc.defs (Pipeline.defs Cert.KernelIdeal.pcfgs Cert.KernelIdeal.defs₀) = _
  rw [show Cert.KernelIdeal.defs₀ (F := F) = Cert.Kernel.defs₀ (F := F) from defs₀_eq]
  rfl

/-- A statement of the kernel's run is one of the idealization's. -/
theorem run_eq (σ : MemSt Cert.Kernel.nD Cert.Kernel.τ Cert.Kernel.sig (Elt F)) (Q : PUnit × MemSt Cert.Kernel.nD Cert.Kernel.τ Cert.Kernel.sig (Elt F) → Prop)
    (h : θ_run (Cert.Kernel.defs (F := F)) (Cert.Kernel.threads (F := F)) σ Q) :
    θ_run (Cert.KernelIdeal.defs (F := F)) (Cert.KernelIdeal.threads (F := F)) σ Q := by
  rw [show Cert.KernelIdeal.defs (F := F) = Cert.Kernel.defs (F := F) from defs_eq]
  exact h
end

open Cert.Kernel Cert.Kernel.Run

/-- The precondition puts the indices of both calls in range. -/
theorem ok_of_pre (m : (ℓ : Loc nD τ sig) → Buf (Elt Ideal) ℓ) (h : Cert.Pre_KernelIdeal m) (d : Dev nD) : (arr m d).Ok := by
  obtain ⟨h0, h1, h2⟩ := Ranges.of_pre _ _ _ _ _ _ _ _ _ _ _ (h d)
  exact arr_ok m d h0 h1 h2

/-- The frame. -/
theorem frame : Cert.quiescent_KernelIdeal := fun m ρ hpre =>
  run_eq _ _ ((θ_run Cert.Kernel.defs _ _).mono (fun _ h => ⟨h.1.all, h.2.2.2⟩) (run_args m ρ (ok_of_pre m hpre)))

end Cert.Idealized

end
-- ==== Proof.Ref.lean ====
/-
  The reference's frame: its run keeps the arguments, and it declares no semaphore.
-/
module

public import proofs.«01_k».proof.Defs
public import proofs.«01_k».proof.Proof.Gen.Pre_indices_in_range
public import proofs.«01_k».proof.Proof.Gen.ReferenceIdeal
public import proofs.«01_k».proof.Proof.Gen.ReferenceIdeal.Run

@[expose] public section

noncomputable section

namespace Cert.Ref

open Idealize.ShloMosaic Idealize.SL.Sem

theorem frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_in_range : Cert.quiescent_ReferenceIdeal_pre_indices_in_range := fun m ρ _ => frame m ρ trivial

end Cert.Ref

end
-- ==== Proof.Take.lean ====
/-
  The reference's reads of table rows: where the row numbers lie in range, a row of the table.
-/
module

public import proofs.«01_k».proof.Defs
public import proofs.«01_k».proof.Proof.Gen.ReferenceIdeal
public import proofs.«01_k».proof.Proof.Gen.ReferenceIdeal.Run
public import Idealize.ShloMosaic.Lib.ReduceAll
public import Idealize.ShloMosaic.Lib.Pointwise

@[expose] public section

set_option maxRecDepth 16384
set_option Elab.async false

noncomputable section

namespace Cert.Ref

open Idealize.ShloMosaic Cert.ReferenceIdeal Cert.ReferenceIdeal.Facts₀

/-! ## Small words -/

theorem toInt_small (v : BitVec 32) (h : v.toNat < 2147483648) : v.toInt = v.toNat := by
  rw [BitVec.toInt_eq_toNat_cond, if_pos (by omega)]

/-- A small word is not below zero. -/
theorem slt_zero (v : BitVec 32) (h : v.toNat < 2147483648) : IntOp.cmpi .slt v 0#32 = 0#1 := by
  simp only [IntOp.cmpi, BitVec.slt_eq_decide, toInt_small v h, BitVec.toInt_zero]
  rw [decide_eq_false (by omega)]; rfl

/-- A word in range passes both comparisons. -/
theorem in_range (v n : BitVec 32) (hn : n.toNat < 2147483648) (h : v.toNat ≤ n.toNat) :
    IntOp.andi (IntOp.cmpi .sge v 0#32) (IntOp.cmpi .sle v n) = 1#1 := by
  simp only [IntOp.cmpi, BitVec.sle_eq_decide, toInt_small v (by omega), toInt_small n hn, BitVec.toInt_zero]
  rw [decide_eq_true (by omega), decide_eq_true (by omega)]; rfl

/-! ## Rows -/

section
variable {α : Type}

/-- A read of whole rows of a table of 64 columns at start indices `idx`, whose entry `k` names row `r`. -/
theorem gather_rows {N : ℕ} {si t : Shape} (d : GatherDims ⟨2, ![N, 64]⟩ si t) (hc : d.collapsedSliceDims = [0]) (hb : d.operandBatchingDims = [])
    (hm : d.startIndexMap = [0]) (x : (⟨2, ![N, 64]⟩ : Shape).Idx → α) (idx : IVec si 32) (j : t.Idx) (k : si.Idx) (r : Fin N) (c : Fin 64)
    (hk : ∀ q, d.siIdx j q = k) (hoff : d.offCoord j 1 = c.val) (hr : (idx k).toInt.toNat = r.val) : Host.gather d x idx j = x (ix2 r c) := by
  unfold Host.gather
  refine congrArg x (funext fun a => Fin.ext ?_)
  have hb' : ∀ a, a ∉ d.operandBatchingDims := fun a => by rw [hb]; exact List.not_mem_nil
  match a with
  | ⟨0, _⟩ =>
    have h0 : (0 : Fin 2) ∈ d.collapsedSliceDims := by rw [hc]; exact List.mem_singleton.2 rfl
    show d.start j idx 0 + d.batchCoord j 0 + d.offCoord j 0 = r.val
    rw [d.batchCoord_eq_zero _ _ (hb' 0), d.offCoord_eq_zero _ _ fun h => ((d.mem_sKept 0).1 h).1 h0]
    simp only [Nat.add_zero]
    unfold GatherDims.start
    rw [dif_pos (show (0 : Fin 2) ∈ d.startIndexMap by rw [hm]; exact List.mem_singleton.2 rfl), hk, hr, d.slice_collapsed 0 h0]
    show min r.val (N - 1) = r.val
    have := r.isLt
    omega
  | ⟨1, _⟩ =>
    show d.start j idx 1 + d.batchCoord j 1 + d.offCoord j 1 = c.val
    rw [d.batchCoord_eq_zero _ _ (hb' 1), hoff]
    unfold GatherDims.start
    rw [dif_neg (show (1 : Fin 2) ∉ d.startIndexMap by rw [hm]; exact fun h => Fin.zero_ne_one (List.mem_singleton.1 h).symm)]
    omega

theorem gather_ids (x : S1000000x64.Idx → α) (idx : IVec S4x200x1 32) (b : Fin 4) (s : Fin 200) (c : Fin 64) (r : Fin 1000000)
    (hr : (idx (ix3 b s 0)).toInt.toNat = r.val) :
    Host.gather gather_S1000000x64_S4x200x1_S4x200x64_2_0_n_n_0_2_164 x idx (ix3 b s c) = x (ix2 r c) :=
  gather_rows _ rfl rfl rfl x idx _ (ix3 b s 0) r c (fun q => by
    funext a; refine Fin.ext ?_
    match a with
    | ⟨0, _⟩ => rfl
    | ⟨1, _⟩ => rfl
    | ⟨2, _⟩ => exact Nat.lt_one_iff.1 q.isLt) rfl hr

theorem gather_rel (x : S401x64.Idx → α) (idx : IVec S4x200x200x1 32) (b : Fin 4) (s t : Fin 200) (c : Fin 64) (r : Fin 401)
    (hr : (idx (ix4 b s t 0)).toInt.toNat = r.val) :
    Host.gather gather_S401x64_S4x200x200x1_S4x200x200x64_3_0_n_n_0_3_164 x idx (ix4 b s t c) = x (ix2 r c) :=
  gather_rows _ rfl rfl rfl x idx _ (ix4 b s t 0) r c (fun q => by
    funext a; refine Fin.ext ?_
    match a with
    | ⟨0, _⟩ => rfl
    | ⟨1, _⟩ => rfl
    | ⟨2, _⟩ => rfl
    | ⟨3, _⟩ => exact Nat.lt_one_iff.1 q.isLt) rfl hr
end

/-! ## The reads of the reference -/

variable {F : FTy → Type} [FloatOps F] (V : Valuation τ sig (Elt F))

/-- Row numbers, a negative one counted from the end. -/
def wrapIds (i : IVec S4x200 32) : IVec S4x200x1 32 :=
  broadcastInDim S4x200x1 ![0, 1] bcast_S4x200_S4x200x1_0_1 (select (cmpi .slt i (broadcastInDim S4x200 ![] bcast_S_S4x200 (constantI S_ 32 0#32)))
    (addi i (broadcastInDim S4x200 ![] bcast_S_S4x200 (constantI S_ 32 1000000#32))) i)

theorem wrapIds_apply (i : IVec S4x200 32) (h : ∀ x, (i x).toNat < 1000000) (y : S4x200x1.Idx) : wrapIds i y = i (ix2 (y 0) (y 1)) := by
  pointwise [wrapIds]
  rw [slt_zero _ (by have := h (ix2 (y 0) (y 1)); omega)]
  rfl

/-- Rows of the first table, an unknown value for a row number out of range. -/
def takeIds (t : FVec F S1000000x64 .f32) (i : IVec S4x200x1 32) : FVec F S4x200x64 .f32 :=
  select (broadcastInDim S4x200x64 ![0, 1] bcast_S4x200_S4x200x64_0_1 (Host.reduce IntOp.andi (andi (cmpi .sge i (broadcastInDim S4x200x1 ![] bcast_S_S4x200x1 (constantI S_ 32 0#32)))
      (cmpi .sle i (broadcastInDim S4x200x1 ![0, 1, 2] bcast_S1x1x1_S4x200x1_0_1_2 (broadcastInDim S1x1x1 ![2] bcast_S1_S1x1x1_2 (constantI S1 32 999999#32)))))
      (constantI S_ 1 1#1) reducesTo_S4x200x1_S4x200_d2 h_S_))
    (Host.gather gather_S1000000x64_S4x200x1_S4x200x64_2_0_n_n_0_2_164 t i) (broadcastInDim S4x200x64 ![] bcast_S_S4x200x64 (constant S_ .f32 0x7FC00000#32))

theorem takeIds_apply (t : FVec F S1000000x64 .f32) (i : IVec S4x200 32) (h : ∀ x, (i x).toNat < 1000000) (b : Fin 4) (s : Fin 200) (c : Fin 64) :
    takeIds t (wrapIds i) (ix3 b s c) = t (ix2 ⟨(i (ix2 b s)).toNat, h _⟩ c) := by
  have hg := gather_ids t (wrapIds i) b s c ⟨(i (ix2 b s)).toNat, h _⟩ (by
    rw [wrapIds_apply i h]
    have := h (ix2 b s)
    show (i (ix2 b s)).toInt.toNat = _
    rw [toInt_small _ (by omega)]; rfl)
  unfold takeIds
  rw [← hg]
  show Scalar.select (Host.reduce _ _ _ _ _ _) _ _ = _
  rw [Host.reduce_andi_one _ _ _ _ _ rfl fun y => by
    show IntOp.andi (IntOp.cmpi .sge (wrapIds i y) 0#32) (IntOp.cmpi .sle (wrapIds i y) 999999#32) = 1#1
    rw [wrapIds_apply i h]
    exact in_range _ _ (by decide) (Nat.le_of_lt_succ (h _))]
  rfl

/-- Differences of positions as row numbers, a negative one counted from the end. -/
def wrapRel (i : IVec S4x200x200 32) : IVec S4x200x200x1 32 :=
  broadcastInDim S4x200x200x1 ![0, 1, 2] bcast_S4x200x200_S4x200x200x1_0_1_2 (select (cmpi .slt i (broadcastInDim S4x200x200 ![] bcast_S_S4x200x200 (constantI S_ 32 0#32)))
    (addi i (broadcastInDim S4x200x200 ![] bcast_S_S4x200x200 (constantI S_ 32 401#32))) i)

theorem wrapRel_apply (i : IVec S4x200x200 32) (h : ∀ x, (i x).toNat < 401) (y : S4x200x200x1.Idx) : wrapRel i y = i (ix3 (y 0) (y 1) (y 2)) := by
  pointwise [wrapRel]
  rw [slt_zero _ (by have := h (ix3 (y 0) (y 1) (y 2)); omega)]
  rfl

/-- Rows of the second table, an unknown value for a row number out of range. -/
def takeRel (t : FVec F S401x64 .f32) (i : IVec S4x200x200x1 32) : FVec F S4x200x200x64 .f32 :=
  select (broadcastInDim S4x200x200x64 ![0, 1, 2] bcast_S4x200x200_S4x200x200x64_0_1_2 (Host.reduce IntOp.andi (andi (cmpi .sge i (broadcastInDim S4x200x200x1 ![] bcast_S_S4x200x200x1 (constantI S_ 32 0#32)))
      (cmpi .sle i (broadcastInDim S4x200x200x1 ![0, 1, 2, 3] bcast_S1x1x1x1_S4x200x200x1_0_1_2_3 (broadcastInDim S1x1x1x1 ![3] bcast_S1_S1x1x1x1_3 (constantI S1 32 400#32)))))
      (constantI S_ 1 1#1) reducesTo_S4x200x200x1_S4x200x200_d3 h_S_))
    (Host.gather gather_S401x64_S4x200x200x1_S4x200x200x64_3_0_n_n_0_3_164 t i) (broadcastInDim S4x200x200x64 ![] bcast_S_S4x200x200x64 (constant S_ .f32 0x7FC00000#32))

theorem takeRel_apply (t : FVec F S401x64 .f32) (i : IVec S4x200x200 32) (h : ∀ x, (i x).toNat < 401) (b : Fin 4) (s u : Fin 200) (c : Fin 64) :
    takeRel t (wrapRel i) (ix4 b s u c) = t (ix2 ⟨(i (ix3 b s u)).toNat, h _⟩ c) := by
  have hg := gather_rel t (wrapRel i) b s u c ⟨(i (ix3 b s u)).toNat, h _⟩ (by
    rw [wrapRel_apply i h]
    have := h (ix3 b s u)
    show (i (ix3 b s u)).toInt.toNat = _
    rw [toInt_small _ (by omega)]; rfl)
  unfold takeRel
  rw [← hg]
  show Scalar.select (Host.reduce _ _ _ _ _ _) _ _ = _
  rw [Host.reduce_andi_one _ _ _ _ _ rfl fun y => by
    show IntOp.andi (IntOp.cmpi .sge (wrapRel i y) 0#32) (IntOp.cmpi .sle (wrapRel i y) 400#32) = 1#1
    rw [wrapRel_apply i h]
    exact in_range _ _ (by decide) (Nat.le_of_lt_succ (h _))]
  rfl

/-- The differences of the positions `p` of rows and `q` of columns, plus 200. -/
def diff (p q : IVec S4x200 32) : IVec S4x200x200 32 :=
  addi (subi (broadcastInDim S4x200x200 ![0, 1, 2] bcast_S4x200x1_S4x200x200_0_1_2 (broadcastInDim S4x200x1 ![0, 1] bcast_S4x200_S4x200x1_0_1 p))
    (broadcastInDim S4x200x200 ![0, 1, 2] bcast_S4x1x200_S4x200x200_0_1_2 (broadcastInDim S4x1x200 ![0, 2] bcast_S4x200_S4x1x200_0_2 q)))
    (broadcastInDim S4x200x200 ![] bcast_S_S4x200x200 (constantI S_ 32 200#32))

theorem diff_apply (p q : IVec S4x200 32) (b : Fin 4) (s u : Fin 200) : diff p q (ix3 b s u) = p (ix2 b s) - q (ix2 b u) + 200#32 := by
  pointwise [diff]
  rfl

theorem diff_val (p q : IVec S4x200 32) (hp : ∀ x, (p x).toNat < 200) (hq : ∀ x, (q x).toNat < 200) (b : Fin 4) (s u : Fin 200) :
    (diff p q (ix3 b s u)).toNat = (p (ix2 b s)).toNat + 200 - (q (ix2 b u)).toNat := by
  rw [diff_apply]
  have h1 := hp (ix2 b s)
  have h2 := hq (ix2 b u)
  simp only [BitVec.toNat_add, BitVec.toNat_sub, BitVec.toNat_ofNat]
  omega

theorem diff_lt (p q : IVec S4x200 32) (hp : ∀ x, (p x).toNat < 200) (hq : ∀ x, (q x).toNat < 200) (y : S4x200x200.Idx) : (diff p q y).toNat < 401 := by
  idx_vars y
  rw [diff_val p q hp hq]
  have h1 := hp (ix2 y0 y1)
  omega

end Cert.Ref

end
-- ==== Proof.ValX.lean ====
/-
  The first result at the extended reals: the kernel's text and the reference's, read at one element.
-/
module

public import proofs.«01_k».proof.Proof.KEnd
public import proofs.«01_k».proof.Proof.Take

@[expose] public section

set_option maxRecDepth 16384
set_option Elab.async false

noncomputable section

namespace Cert.Val

open Idealize.ShloMosaic

/-! ## A quotient by a square root -/

/-- 64 is the real 64. -/
theorem ofBits_64 : Ideal.ofBits .f32 0x42800000#32 = ((64 : ℝ) : EReal) := by
  simp [Ideal.ofBits, Ideal.ieee, -EReal.coe_mul]; norm_num

/-- The addend under the root is a positive real. -/
theorem ofBits_eps : ∃ r : ℝ, 0 < r ∧ Ideal.ofBits .f32 0x2B8CBCCC#32 = (r : EReal) := by
  simp [Ideal.ofBits, Ideal.ieee, -EReal.coe_mul]

theorem sq_nonneg (x : EReal) : 0 ≤ x * x := by
  rcases le_total 0 x with h | h
  · exact mul_nonneg h h
  · rw [← neg_mul_neg]
    exact mul_nonneg (EReal.neg_nonneg.2 h) (EReal.neg_nonneg.2 h)

theorem div_64_nonneg (x : EReal) (h : 0 ≤ x) : 0 ≤ Ideal.div x (Ideal.ofBits .f32 0x42800000#32) := by
  rw [ofBits_64]
  unfold Ideal.div
  rw [if_neg (EReal.coe_ne_zero.2 (by norm_num)), ← EReal.coe_inv]
  exact mul_nonneg h (EReal.coe_nonneg.2 (by norm_num))

/-- Division by the root of a positive number is multiplication by its reciprocal root. -/
theorem div_sqrt (x v : EReal) (h : 0 ≤ v) : Ideal.div x (Ideal.sqrt (v + Ideal.ofBits .f32 0x2B8CBCCC#32)) = x * Ideal.rsqrt (v + Ideal.ofBits .f32 0x2B8CBCCC#32) := by
  obtain ⟨r, hr, he⟩ := ofBits_eps
  rw [he]
  induction v with
  | bot => exact absurd h (by simp)
  | top =>
    rw [EReal.top_add_coe]
    show Ideal.div x ⊤ = x * 0
    unfold Ideal.div
    rw [if_neg (by simp), EReal.inv_top]
  | coe v =>
    have hv : 0 ≤ v := EReal.coe_nonneg.1 h
    have hs : 0 < √(v + r) := Real.sqrt_pos.2 (by linarith)
    rw [← EReal.coe_add]
    show Ideal.div x (if v + r < 0 then ⊥ else (√(v + r) : EReal)) = x * (if v + r < 0 then ⊥ else if v + r = 0 then ⊤ else (((√(v + r))⁻¹ : ℝ) : EReal))
    rw [if_neg (by linarith), if_neg (by linarith), if_neg (by linarith)]
    unfold Ideal.div
    rw [if_neg (EReal.coe_ne_zero.2 hs.ne'), EReal.coe_inv]

/-! ## One element of the first result -/

/-- The mean of a row. -/
def mean (y : Fin 64 → EReal) : EReal := Ideal.div (∑ k, y k) (Ideal.ofBits .f32 0x42800000#32)

/-- A row centred, multiplied by the reciprocal of its deviation. -/
def normed (y : Fin 64 → EReal) (c : Fin 64) : EReal :=
  (y c - mean y) * Ideal.rsqrt (Ideal.div (∑ k, (y k - mean y) * (y k - mean y)) (Ideal.ofBits .f32 0x42800000#32) + Ideal.ofBits .f32 0x2B8CBCCC#32)

/-- The row of token `(b, s)` before it is centred. -/
def rowAt (a0 : IVec ⟨2, ![4, 200]⟩ 32) (h : ∀ i, (a0 i).toNat < 1000000) (a3 : FVec Ideal ⟨2, ![1000000, 64]⟩ .f32) (a4 : FVec Ideal ⟨2, ![64, 64]⟩ .f32) (a5 : FVec Ideal ⟨1, ![64]⟩ .f32)
    (b : Fin 4) (s : Fin 200) (c : Fin 64) : EReal := (∑ k : Fin 64, a3 (ix2 ⟨(a0 (ix2 b s)).toNat, h _⟩ k) * a4 (ix2 c k)) + a5 (ix1 c)

theorem res0_apply (a0 : IVec ⟨2, ![4, 200]⟩ 32) (h : ∀ i, (a0 i).toNat < 1000000) (a3 : FVec Ideal ⟨2, ![1000000, 64]⟩ .f32) (a4 : FVec Ideal ⟨2, ![64, 64]⟩ .f32)
    (a5 a6 a7 : FVec Ideal ⟨1, ![64]⟩ .f32) (b : Fin 4) (s : Fin 200) (c : Fin 64) :
    Cert.Kernel.Run.res0 (F := Ideal) a0 a3 a4 a5 a6 a7 (ix3 b s c) = (normed (rowAt a0 h a3 a4 a5 b s) c * a6 (ix1 c) + a7 (ix1 c) : EReal) := by
  have hlt : b.val * 200 + s.val < 800 := by omega
  have hm : (a0 (ix2 b s)).toNat % 1000000 = (a0 (ix2 b s)).toNat := Nat.mod_eq_of_lt (h _)
  pointwise [Cert.Kernel.Run.res0, Cert.Kernel.Gen.k1_pay1, Cert.Kernel.Run.rowOf, Cert.Common.rowsOf, Cert.Kernel.Run.idxOf]
  simp only [dif_pos hlt, hm]
  rfl

open Cert.ReferenceIdeal Cert.ReferenceIdeal.Facts₀ in
/-- The reference's first stage: table rows through the first matrix, plus the first vector. -/
def lin0 (a0 : IVec S4x200 32) (a3 : FVec Ideal S1000000x64 .f32) (a4 : FVec Ideal S64x64 .f32) (a5 : FVec Ideal S64 .f32) : FVec Ideal S4x200x64 .f32 :=
  addf (Host.dotGeneral dot_S4x200x64_S64x64_S4x200x64_2_0_01_1_n_n none (Ref.takeIds a3 (Ref.wrapIds a0)) (transpose S64x64 [1, 0] a4 transposes_S64x64_S64x64_1_0))
    (broadcastInDim S4x200x64 ![0, 1, 2] bcast_S1x1x64_S4x200x64_0_1_2 (broadcastInDim S1x1x64 ![2] bcast_S64_S1x1x64_2 a5))

theorem lin0_apply (a0 : IVec ⟨2, ![4, 200]⟩ 32) (h : ∀ i, (a0 i).toNat < 1000000) (a3 : FVec Ideal ⟨2, ![1000000, 64]⟩ .f32) (a4 : FVec Ideal ⟨2, ![64, 64]⟩ .f32) (a5 : FVec Ideal ⟨1, ![64]⟩ .f32)
    (b : Fin 4) (s : Fin 200) (c : Fin 64) :
    lin0 a0 a3 a4 a5 (ix3 b s c) = ((∑ k : Fin 64, a3 (ix2 ⟨(a0 (ix2 b s)).toNat, h _⟩ k) * a4 (ix2 c k)) + a5 (ix1 c) : EReal) := by
  pointwise [lin0]
  simp only [Ref.takeIds_apply a3 a0 h]

open Cert.ReferenceIdeal Cert.ReferenceIdeal.Facts₀ in
/-- The reference's second stage: each row centred, divided by its deviation, scaled and shifted. -/
def norm0 (y : FVec Ideal S4x200x64 .f32) (g o : FVec Ideal S64 .f32) : FVec Ideal S4x200x64 .f32 :=
  have mean : FVec Ideal S4x200x1 .f32 := Host.divf (broadcastInDim S4x200x1 ![0, 1] bcast_S4x200_S4x200x1_0_1 (Host.reduceAdd y (constant S_ .f32 0x00000000#32) reducesTo_S4x200x64_S4x200_d2 h_S_)) (broadcastInDim S4x200x1 ![] bcast_S_S4x200x1 (constant S_ .f32 0x42800000#32))
  have xc : FVec Ideal S4x200x64 .f32 := subf y (broadcastInDim S4x200x64 ![0, 1, 2] bcast_S4x200x1_S4x200x64_0_1_2 mean)
  addf (mulf (Host.divf (subf y (broadcastInDim S4x200x64 ![0, 1, 2] bcast_S4x200x1_S4x200x64_0_1_2 mean)) (broadcastInDim S4x200x64 ![0, 1, 2] bcast_S4x200x1_S4x200x64_0_1_2 (Host.sqrt (addf (Host.divf (broadcastInDim S4x200x1 ![0, 1] bcast_S4x200_S4x200x1_0_1 (Host.reduceAdd (mulf xc xc) (constant S_ .f32 0x00000000#32) reducesTo_S4x200x64_S4x200_d2 h_S_)) (broadcastInDim S4x200x1 ![] bcast_S_S4x200x1 (constant S_ .f32 0x42800000#32))) (broadcastInDim S4x200x1 ![] bcast_S_S4x200x1 (constant S_ .f32 0x2B8CBCCC#32)))))) (broadcastInDim S4x200x64 ![0, 1, 2] bcast_S1x1x64_S4x200x64_0_1_2 (broadcastInDim S1x1x64 ![2] bcast_S64_S1x1x64_2 g))) (broadcastInDim S4x200x64 ![0, 1, 2] bcast_S1x1x64_S4x200x64_0_1_2 (broadcastInDim S1x1x64 ![2] bcast_S64_S1x1x64_2 o))

theorem norm0_apply (y : FVec Ideal ⟨3, ![4, 200, 64]⟩ .f32) (g o : FVec Ideal ⟨1, ![64]⟩ .f32) (b : Fin 4) (s : Fin 200) (c : Fin 64) :
    norm0 y g o (ix3 b s c) = (normed (fun k => y (ix3 b s k)) c * g (ix1 c) + o (ix1 c) : EReal) := by
  pointwise [norm0]
  rw [div_sqrt _ _ (div_64_nonneg _ (Finset.sum_nonneg fun k _ => sq_nonneg _))]
  rfl

/-- The kernel's first result is the reference's. -/
theorem val0 (a0 : IVec ⟨2, ![4, 200]⟩ 32) (h : ∀ i, (a0 i).toNat < 1000000) (a3 : FVec Ideal ⟨2, ![1000000, 64]⟩ .f32) (a4 : FVec Ideal ⟨2, ![64, 64]⟩ .f32)
    (a5 a6 a7 : FVec Ideal ⟨1, ![64]⟩ .f32) : norm0 (lin0 a0 a3 a4 a5) a6 a7 = Cert.Kernel.Run.res0 (F := Ideal) a0 a3 a4 a5 a6 a7 := by
  funext j
  idx_vars j
  rw [res0_apply a0 h, norm0_apply]
  have e : (fun k => lin0 a0 a3 a4 a5 (ix3 j0 j1 k)) = rowAt a0 h a3 a4 a5 j0 j1 := funext fun k => lin0_apply a0 h a3 a4 a5 j0 j1 k
  rw [e]

end Cert.Val

end
-- ==== Proof.ValRel.lean ====
/-
  The second result at the extended reals: the kernel's text and the reference's, read at one element.
-/
module

public import proofs.«01_k».proof.Proof.KEnd
public import proofs.«01_k».proof.Proof.Take

@[expose] public section

set_option maxRecDepth 16384
set_option Elab.async false

noncomputable section

namespace Cert.Val

open Idealize.ShloMosaic Cert.Common

/-! ## The kernel's table -/

section
variable (t : FVec Ideal ⟨2, ![401, 64]⟩ .f32) (w : FVec Ideal ⟨2, ![64, 256]⟩ .f32) (o : FVec Ideal ⟨1, ![64]⟩ .f32)

/-- Row `r` of the table against columns `off` to `off + 63` of row `c` of the matrix. -/
def part (off : ℕ) (ho : off + 64 ≤ 256) (r : Fin 401) (c : Fin 64) : EReal := ∑ k : Fin 64, t (ix2 r k) * w (ix2 c ⟨off + k.val, by omega⟩)

/-- The four products of the kernel's table, one below the other. -/
def table : FVec Ideal ⟨1, ![102656]⟩ .f32 :=
  shapeCast Cert.Kernel.S102656 (Cert.Kernel.Run.proj (F := Ideal) t w (Cert.Kernel.Run.rowOf o)) Cert.Kernel.Gen.shapeCasts_S1604x64_S102656

theorem table_apply (x : Fin 102656) : table t w o (ix1 x) = Cert.Kernel.Run.proj (F := Ideal) t w (Cert.Kernel.Run.rowOf o) (ix2 ⟨x.val / 64, by omega⟩ ⟨x.val % 64, by omega⟩) := by
  pointwise [table]

theorem pay1_apply (r : Fin 401) (c : Fin 64) :
    Cert.Kernel.Gen.k2_pay1 (F := Ideal) t w (Cert.Kernel.Run.rowOf o) (ix2 r c) = (part t w 0 (by omega) r c + o (ix1 c) : EReal) := by
  pointwise [Cert.Kernel.Gen.k2_pay1, Cert.Kernel.Run.rowOf, part]
theorem pay2_apply (r : Fin 401) (c : Fin 64) : Cert.Kernel.Gen.k2_pay2 (F := Ideal) t w (ix2 r c) = (part t w 64 (by omega) r c : EReal) := by
  pointwise [Cert.Kernel.Gen.k2_pay2, part]
theorem pay3_apply (r : Fin 401) (c : Fin 64) : Cert.Kernel.Gen.k2_pay3 (F := Ideal) t w (ix2 r c) = (part t w 128 (by omega) r c : EReal) := by
  pointwise [Cert.Kernel.Gen.k2_pay3, part]
theorem pay4_apply (r : Fin 401) (c : Fin 64) : Cert.Kernel.Gen.k2_pay4 (F := Ideal) t w (ix2 r c) = (part t w 192 (by omega) r c : EReal) := by
  pointwise [Cert.Kernel.Gen.k2_pay4, part]

/-- Column `c` of row `r` of product `q`; the first product has the vector added. -/
def prod (q : Fin 4) (r : Fin 401) (c : Fin 64) : EReal :=
  if q.val = 0 then part t w (64 * q.val) (by omega) r c + o (ix1 c) else part t w (64 * q.val) (by omega) r c

theorem proj_apply (q : Fin 4) (r : Fin 401) (c : Fin 64) (x : Fin 1604) (hx : x.val = 401 * q.val + r.val) :
    Cert.Kernel.Run.proj (F := Ideal) t w (Cert.Kernel.Run.rowOf o) (ix2 x c) = prod t w o q r c := by
  have h := r.isLt
  have hr : ∀ n (hn : n < 401), n = r.val → (⟨n, hn⟩ : Fin 401) = r := fun n hn e => Fin.ext e
  unfold Cert.Kernel.Run.proj
  match q, hx with
  | 0, hx =>
    have hx : x.val = 401 * 0 + r.val := hx
    exact (dif_pos (show x.val < 401 by omega)).trans ((congrArg _ (congrArg (ix2 · c) (hr (x.val) _ (by omega)))).trans (pay1_apply t w o r c))
  | 1, hx =>
    have hx : x.val = 401 * 1 + r.val := hx
    exact (dif_neg (show ¬ x.val < 401 by omega)).trans <| (dif_pos (show x.val - 401 < 401 by omega)).trans ((congrArg _ (congrArg (ix2 · c) (hr (x.val - 401) _ (by omega)))).trans (pay2_apply t w r c))
  | 2, hx =>
    have hx : x.val = 401 * 2 + r.val := hx
    exact (dif_neg (show ¬ x.val < 401 by omega)).trans <| (dif_neg (show ¬ x.val - 401 < 401 by omega)).trans <| (dif_pos (show x.val - 802 < 401 by omega)).trans ((congrArg _ (congrArg (ix2 · c) (hr (x.val - 802) _ (by omega)))).trans (pay3_apply t w r c))
  | 3, hx =>
    have hx : x.val = 401 * 3 + r.val := hx
    exact (dif_neg (show ¬ x.val < 401 by omega)).trans <| (dif_neg (show ¬ x.val - 401 < 401 by omega)).trans <| (dif_neg (show ¬ x.val - 802 < 401 by omega)).trans <| ((congrArg _ (congrArg (ix2 · c) (hr (x.val - 1203) _ (by omega)))).trans (pay4_apply t w r c))
end

/-! ## The words the kernel reads -/

theorem adr_val (off : ℕ) (h0 : 12800 ≤ off) (h1 : off < 90000) (s t : BitVec 32) (hs : s.toNat < 200) (ht : t.toNat < 200) :
    (adr (BitVec.ofNat 32 off) s t).toNat = s.toNat * 64 + off - t.toNat * 64 := by
  unfold adr
  simp only [BitVec.toNat_add, BitVec.toNat_sub, BitVec.toNat_mul, BitVec.toNat_ofNat]
  omega

section
variable (t : FVec Ideal ⟨2, ![401, 64]⟩ .f32) (w : FVec Ideal ⟨2, ![64, 256]⟩ .f32) (o : FVec Ideal ⟨1, ![64]⟩ .f32)

/-- The word at the address of product `q` for two positions is that of the row of their difference. -/
theorem cell_table (q : Fin 4) (off u v : BitVec 32) (ho : off = BitVec.ofNat 32 (12800 + 25664 * q.val)) (hu : u.toNat < 200) (hv : v.toNat < 200)
    (r : Fin 401) (hr : r.val = u.toNat + 200 - v.toNat) (c : Fin 64) : cell (F := Ideal) (table t w o) (adr off u v) c.val = prod t w o q r c := by
  have ha : (adr off u v).toNat = u.toNat * 64 + (12800 + 25664 * q.val) - v.toNat * 64 := by
    rw [ho]; exact adr_val _ (by omega) (by omega) u v hu hv
  have hm : ((adr off u v).toNat + c.val) % 102656 = 64 * (401 * q.val + r.val) + c.val := by rw [ha]; omega
  have hc : (⟨((adr off u v).toNat + c.val) % 102656 % 64, by omega⟩ : Fin 64) = c := Fin.ext (by show _ % 64 = c.val; omega)
  unfold cell
  rw [table_apply, proj_apply t w o q r _ _ (by show ((adr off u v).toNat + c.val) % 102656 / 64 = 401 * q.val + r.val; omega)]
  exact congrArg _ hc
end

theorem posAt_posOf (a : IVec ⟨2, ![4, 200]⟩ 32) (b : Fin 4) (s : Fin 200) : posAt (Cert.Kernel.Run.posOf a) b.val s.val = a (ix2 b s) := by
  have h1 : (208 * b.val + s.val) % 832 = 208 * b.val + s.val := by omega
  have h2 : (208 * b.val + s.val) / 208 = b.val := by omega
  have h3 : (208 * b.val + s.val) % 208 = s.val := by omega
  pointwise [Cert.Kernel.Run.posOf, posAt]
  simp only [h1, h2, h3, s.isLt, ↓reduceDIte]

open Cert.ReferenceIdeal Cert.ReferenceIdeal.Facts₀ in
/-- The reference's second result, of its four reads of the table. -/
def rel0 (x1 x2 x3 x4 : FVec Ideal S4x200x200x64 .f32) (w : FVec Ideal S64x256 .f32) (o : FVec Ideal S64 .f32) : FVec Ideal S4x200x200x64 .f32 :=
  maximumf (addf (Host.dotGeneral dot_S4x200x200x256_S256x64_S4x200x200x64_3_0_012_1_n_n none
      (concatenate S4x200x200x256 3 [⟨S4x200x200x64, x1⟩, ⟨S4x200x200x64, x2⟩, ⟨S4x200x200x64, x3⟩, ⟨S4x200x200x64, x4⟩]
        concatenates_S4x200x200x64_S4x200x200x64_S4x200x200x64_S4x200x200x64_S4x200x200x256_d3)
      (transpose S256x64 [1, 0] w transposes_S64x256_S256x64_1_0))
    (broadcastInDim S4x200x200x64 ![0, 1, 2, 3] bcast_S1x1x1x64_S4x200x200x64_0_1_2_3 (broadcastInDim S1x1x1x64 ![3] bcast_S64_S1x1x1x64_3 o)))
    (broadcastInDim S4x200x200x64 ![] bcast_S_S4x200x200x64 (constant S_ .f32 0x00000000#32))

/-- A sum over a row of the second table. -/
def rowSum (x : FVec Ideal ⟨4, ![4, 200, 200, 64]⟩ .f32) (w : FVec Ideal ⟨2, ![64, 256]⟩ .f32) (off : ℕ) (ho : off + 64 ≤ 256) (b : Fin 4) (s u : Fin 200) (c : Fin 64) : EReal :=
  ∑ k : Fin 64, x (ix4 b s u k) * w (ix2 c ⟨off + k.val, by omega⟩)

theorem rel0_apply (x1 x2 x3 x4 : FVec Ideal ⟨4, ![4, 200, 200, 64]⟩ .f32) (w : FVec Ideal ⟨2, ![64, 256]⟩ .f32) (o : FVec Ideal ⟨1, ![64]⟩ .f32)
    (b : Fin 4) (s u : Fin 200) (c : Fin 64) : rel0 x1 x2 x3 x4 w o (ix4 b s u c) = (max (rowSum x1 w 0 (by omega) b s u c + (rowSum x2 w 64 (by omega) b s u c
      + (rowSum x3 w 128 (by omega) b s u c + rowSum x4 w 192 (by omega) b s u c)) + o (ix1 c)) 0 : EReal) := by
  pointwise [rel0, sumSplitAll, rowSum]
  simp only [← Nat.add_assoc, Nat.reduceAdd]

theorem rowSum_take (p q : IVec ⟨2, ![4, 200]⟩ 32) (hp : ∀ x, (p x).toNat < 200) (hq : ∀ x, (q x).toNat < 200) (t : FVec Ideal ⟨2, ![401, 64]⟩ .f32)
    (w : FVec Ideal ⟨2, ![64, 256]⟩ .f32) (off : ℕ) (ho : off + 64 ≤ 256) (b : Fin 4) (s u : Fin 200) (c : Fin 64) :
    rowSum (Ref.takeRel t (Ref.wrapRel (Ref.diff p q))) w off ho b s u c = part t w off ho ⟨(Ref.diff p q (ix3 b s u)).toNat, Ref.diff_lt p q hp hq _⟩ c := by
  unfold rowSum part
  simp only [Ref.takeRel_apply t (Ref.diff p q) (Ref.diff_lt p q hp hq)]

/-- The reference's second result as a function of its arguments. -/
def rel (a1 a2 : IVec ⟨2, ![4, 200]⟩ 32) (t : FVec Ideal ⟨2, ![401, 64]⟩ .f32) (w : FVec Ideal ⟨2, ![64, 256]⟩ .f32) (o : FVec Ideal ⟨1, ![64]⟩ .f32) :
    FVec Ideal ⟨4, ![4, 200, 200, 64]⟩ .f32 :=
  rel0 (Ref.takeRel t (Ref.wrapRel (Ref.diff a1 a1))) (Ref.takeRel t (Ref.wrapRel (Ref.diff a1 a2))) (Ref.takeRel t (Ref.wrapRel (Ref.diff a2 a1)))
    (Ref.takeRel t (Ref.wrapRel (Ref.diff a2 a2))) w o

/-- The kernel's second result is the reference's. -/
theorem val1 (a1 a2 : IVec ⟨2, ![4, 200]⟩ 32) (h1 : ∀ x, (a1 x).toNat < 200) (h2 : ∀ x, (a2 x).toNat < 200) (t : FVec Ideal ⟨2, ![401, 64]⟩ .f32)
    (w : FVec Ideal ⟨2, ![64, 256]⟩ .f32) (o : FVec Ideal ⟨1, ![64]⟩ .f32) :
    rel a1 a2 t w o = Cert.Kernel.Run.res1 (F := Ideal) a1 a2 t w o := by
  funext j
  idx_vars j
  have cellOf := fun (p q : IVec ⟨2, ![4, 200]⟩ 32) (hp : ∀ x, (p x).toNat < 200) (hq : ∀ x, (q x).toNat < 200) (n : Fin 4) (off : BitVec 32)
      (ho : off = BitVec.ofNat 32 (12800 + 25664 * n.val)) => cell_table t w o n off (p (ix2 j0 j1)) (q (ix2 j0 j2)) ho (hp _) (hq _)
        ⟨(Ref.diff p q (ix3 j0 j1 j2)).toNat, Ref.diff_lt p q hp hq _⟩ (Ref.diff_val p q hp hq j0 j1 j2) j3
  rw [rel, rel0_apply, rowSum_take a1 a1 h1 h1, rowSum_take a1 a2 h1 h2, rowSum_take a2 a1 h2 h1, rowSum_take a2 a2 h2 h2]
  show _ = relAt (F := Ideal) (table t w o) (posAt (Cert.Kernel.Run.posOf a1) j0.val j1.val) (posAt (Cert.Kernel.Run.posOf a1) j0.val j2.val)
    (posAt (Cert.Kernel.Run.posOf a2) j0.val j1.val) (posAt (Cert.Kernel.Run.posOf a2) j0.val j2.val) j3.val
  simp only [posAt_posOf]
  unfold relAt
  rw [cellOf a1 a1 h1 h1 0 12800#32 rfl, cellOf a1 a2 h1 h2 1 38464#32 rfl, cellOf a2 a1 h2 h1 2 64128#32 rfl, cellOf a2 a2 h2 h2 3 89792#32 rfl]
  show max _ _ = max ((part t w 0 (by omega) _ j3 + o (ix1 j3) + part t w 64 (by omega) _ j3) + (part t w 128 (by omega) _ j3 + part t w 192 (by omega) _ j3) : EReal) (Ideal.ofBits .f32 0x00000000#32)
  rw [Ideal.ofBits_zero_f32]
  refine congrArg (max · 0) ?_
  ac_rfl

end Cert.Val

end
-- ==== Proof.Alg.lean ====
/-
  At the extended reals the kernel and the reference, run on the same arguments, leave the same two results.
-/
module

public import proofs.«01_k».proof.Proof.Ideal
public import proofs.«01_k».proof.Proof.ValX
public import proofs.«01_k».proof.Proof.ValRel

@[expose] public section

set_option maxRecDepth 16384
set_option Elab.async false

noncomputable section

namespace Cert.Val

open Idealize.ShloMosaic Idealize.SL.Sem

open Cert.Kernel Cert.Kernel.Run in
theorem algebraic : Cert.algebraic_KernelIdeal_ReferenceIdeal := by
  intro m g m' g' hpre hargs
  refine ⟨fun d => res0 (m (d, dr main_arg0)) (m (d, dr main_arg3)) (m (d, dr main_arg4)) (m (d, dr main_arg5)) (m (d, dr main_arg6)) (m (d, dr main_arg7)),
    fun d => res1 (m (d, dr main_arg1)) (m (d, dr main_arg2)) (m (d, dr main_arg8)) (m (d, dr main_arg9)) (m (d, dr main_arg10)), ?_, ?_⟩
  · refine Idealized.run_eq _ _ ((θ_run Cert.Kernel.defs _ _).mono (fun r h => ?_) (run_args m g (Idealized.ok_of_pre m hpre)))
    exact fun c => ⟨h.2.1 c, h.2.2.1 c, h.1.all c⟩
  · refine (θ_run Cert.ReferenceIdeal.defs _ _).mono (fun r h => ?_) (Cert.ReferenceIdeal.Value.run (F := Ideal) m' g')
    intro c
    obtain ⟨e0, e1, e2, e3, e4, e5, e6, e7, e8, e9, e10⟩ := hargs c
    obtain ⟨h0, h1, h2⟩ := Ranges.of_pre _ _ _ _ _ _ _ _ _ _ _ (hpre c)
    let a := fun b => m' ((c.tc : Thread Cert.ReferenceIdeal.nD Cert.ReferenceIdeal.τ).loc b)
    have x0 : norm0 (lin0 (a Cert.ReferenceIdeal.main_arg0) (a Cert.ReferenceIdeal.main_arg3) (a Cert.ReferenceIdeal.main_arg4) (a Cert.ReferenceIdeal.main_arg5))
        (a Cert.ReferenceIdeal.main_arg6) (a Cert.ReferenceIdeal.main_arg7)
        = res0 (m (c, dr main_arg0)) (m (c, dr main_arg3)) (m (c, dr main_arg4)) (m (c, dr main_arg5)) (m (c, dr main_arg6)) (m (c, dr main_arg7)) := by
      rw [show a Cert.ReferenceIdeal.main_arg0 = _ from e0, show a Cert.ReferenceIdeal.main_arg3 = _ from e3, show a Cert.ReferenceIdeal.main_arg4 = _ from e4,
        show a Cert.ReferenceIdeal.main_arg5 = _ from e5, show a Cert.ReferenceIdeal.main_arg6 = _ from e6, show a Cert.ReferenceIdeal.main_arg7 = _ from e7]
      exact val0 _ h0 _ _ _ _ _
    have x1 : rel (a Cert.ReferenceIdeal.main_arg1) (a Cert.ReferenceIdeal.main_arg2) (a Cert.ReferenceIdeal.main_arg8) (a Cert.ReferenceIdeal.main_arg9) (a Cert.ReferenceIdeal.main_arg10)
        = res1 (m (c, dr main_arg1)) (m (c, dr main_arg2)) (m (c, dr main_arg8)) (m (c, dr main_arg9)) (m (c, dr main_arg10)) := by
      rw [show a Cert.ReferenceIdeal.main_arg1 = _ from e1, show a Cert.ReferenceIdeal.main_arg2 = _ from e2, show a Cert.ReferenceIdeal.main_arg8 = _ from e8,
        show a Cert.ReferenceIdeal.main_arg9 = _ from e9, show a Cert.ReferenceIdeal.main_arg10 = _ from e10]
      exact val1 _ _ h1 h2 _ _ _
    exact ⟨(h c).1.trans x0, (h c).2.1.trans x1, (h c).2.2⟩

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_indices_in_range
public import proofs.«01_k».proof.Proof.KEnd
public import proofs.«01_k».proof.Proof.Ideal
public import proofs.«01_k».proof.Proof.Ref
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_indices_in_range.Gen.facts, Cert.Kernel.Run.frame, Cert.Idealized.frame,
  Cert.Ref.frame, Cert.Ref.frame_in_range, trivial, Cert.Val.algebraic⟩

end Cert.Proof

end
